-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x128 : Shape := ⟨2, ![4096, 128]⟩
abbrev S4096x4096 : Shape := ⟨2, ![4096, 4096]⟩
abbrev S128x128 : Shape := ⟨2, ![128, 128]⟩
abbrev S32 : Shape := ⟨1, ![32]⟩
abbrev S16 : Shape := ⟨1, ![16]⟩
abbrev S_ : Shape := ⟨0, ![]⟩
abbrev S1 : Shape := ⟨1, ![1]⟩
abbrev S64x4096 : Shape := ⟨2, ![64, 4096]⟩
abbrev S256x128 : Shape := ⟨2, ![256, 128]⟩
abbrev S128x4096 : Shape := ⟨2, ![128, 4096]⟩
abbrev S1x4096x128 : Shape := ⟨3, ![1, 4096, 128]⟩
abbrev S1x1x1 : Shape := ⟨3, ![1, 1, 1]⟩
abbrev S8x128 : Shape := ⟨2, ![8, 128]⟩
abbrev S1x128x128 : Shape := ⟨3, ![1, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x4096, .bf16⟩
  | .hbm, ⟨1, _⟩ => ⟨S4096x128, .bf16⟩
  | .hbm, ⟨2, _⟩ => ⟨S4096x128, .f32⟩
  | .local _ .vmem, ⟨0, _⟩ => ⟨S256x4096, .bf16⟩
  | .local _ .vmem, ⟨1, _⟩ => ⟨S4096x128, .bf16⟩
  | .local _ .vmem, ⟨2, _⟩ => ⟨S4096x128, .f32⟩
  | .local _ .vmem, ⟨3, _⟩ => ⟨S4096x4096, .bf16⟩
  | .local _ .vmem, ⟨4, _⟩ => ⟨S4096x128, .bf16⟩
  | .local _ .vmem, ⟨5, _⟩ => ⟨S128x128, .f32⟩
  | _, _ => ⟨S256x4096, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 163 → Bool
  | ⟨i, _⟩ => dmaSemScopedAt i

abbrev sig : RefSig :=
  (ofTc nBuf bufTy 1 163 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v76 : BitVec 32 := Scalar.muli v2 c256_i32
  let v77 : Index := Scalar.indexCast v76
  let c0_43 : Index := 0#32
  ![v77.toNat, 0]
def k0_dev1 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_45 : BitVec 32 := 1#32
  let v82 : BitVec 32 := Scalar.muli v13 c1_i32_45
  let v83 : BitVec 32 := Scalar.addi c0_i32_46 v82
  v83.toNat
def k0_dev2 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_48 : BitVec 32 := 1#32
  let v84 : BitVec 32 := Scalar.muli v24 c1_i32_48
  let v85 : BitVec 32 := Scalar.addi c0_i32_49 v84
  v85.toNat
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v2 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c0_i32_18 : BitVec 32 := 0#32
  let v35 : BitVec 1 := Scalar.cmpi .eq v34 c0_i32_18
  let c1_i32_19 : BitVec 32 := 1#32
  let v36 : BitVec 32 := Scalar.addi v2 c1_i32_19
  let c16_i32_20 : BitVec 32 := 16#32
  let v37 : BitVec 32 := Scalar.addi v2 c16_i32_20
  let c3_i32 : BitVec 32 := 3#32
  let v38 : BitVec 32 := Scalar.subi v37 c3_i32
  let c16_i32_21 : BitVec 32 := 16#32
  let c0_i32_22 : BitVec 32 := 0#32
  let v39 : BitVec 1 := Scalar.cmpi .eq c16_i32_21 c0_i32_22
  let c1_i32_23 : BitVec 32 := 1#32
  let v40 : BitVec 32 := Scalar.select v39 c1_i32_23 c16_i32_21
  let v41 : BitVec 32 := Scalar.remsi v38 v40
  let c0_i32_25 : BitVec 32 := 0#32
  let v43 : BitVec 1 := Scalar.cmpi .slt v41 c0_i32_25
  let c0_i32_26 : BitVec 32 := 0#32
  let v44 : BitVec 1 := Scalar.cmpi .slt v40 c0_i32_26
  let v45 : BitVec 1 := Scalar.xori v43 v44
  let c0_i32_24 : BitVec 32 := 0#32
  let v42 : BitVec 1 := Scalar.cmpi .ne v41 c0_i32_24
  let v46 : BitVec 1 := Scalar.andi v45 v42
  let v47 : BitVec 32 := Scalar.addi v41 v40
  let v48 : BitVec 32 := Scalar.select v46 v47 v41
  let v49 : BitVec 32 := Scalar.select v35 v36 v48
  let c1_i32_51 : BitVec 32 := 1#32
  let v86 : BitVec 32 := Scalar.muli v49 c1_i32_51
  let v87 : BitVec 32 := Scalar.addi c0_i32_52 v86
  v87.toNat
def k0_dev4 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_54 : BitVec 32 := 1#32
  let v88 : BitVec 32 := Scalar.muli v73 c1_i32_54
  let v89 : BitVec 32 := Scalar.addi c0_i32_55 v88
  v89.toNat
def k0_off2 (d0 : Dev nD) (c0_i32_59 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_58 : BitVec 32 := 2#32
  let v92 : BitVec 32 := Scalar.muli v2 c2_i32_58
  let v93 : BitVec 32 := Scalar.addi v92 c0_i32_59
  ![v93.toNat]
def k0_off3 (d0 : Dev nD) (c0_i32_57 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_56 : BitVec 32 := 256#32
  let v90 : BitVec 32 := Scalar.muli v2 c256_i32_56
  let v91 : BitVec 32 := Scalar.addi v90 c0_i32_57
  let c0_i32_64 : BitVec 32 := 0#32
  ![v91.toNat, 0]
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_62 : BitVec 32 := 1#32
  let v96 : BitVec 32 := Scalar.muli v24 c1_i32_62
  let v97 : BitVec 32 := Scalar.addi c0_i32_63 v96
  v97.toNat
def k0_off4 (d0 : Dev nD) (c0_i32_67 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_66 : BitVec 32 := 256#32
  let v104 : BitVec 32 := Scalar.muli v2 c256_i32_66
  let c128_i32 : BitVec 32 := 128#32
  let v105 : BitVec 32 := Scalar.addi v104 c128_i32
  let v106 : BitVec 32 := Scalar.addi v105 c0_i32_67
  let c0_i32_74 : BitVec 32 := 0#32
  ![v106.toNat, 0]
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_72 : BitVec 32 := 1#32
  let v111 : BitVec 32 := Scalar.muli v73 c1_i32_72
  let v112 : BitVec 32 := Scalar.addi c0_i32_73 v111
  v112.toNat
def k0_dev7 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_81 : BitVec 32 := 1#32
  let v125 : BitVec 32 := Scalar.muli v24 c1_i32_81
  let v126 : BitVec 32 := Scalar.addi c0_i32_82 v125
  v126.toNat
def k0_dev8 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_92 : BitVec 32 := 1#32
  let v140 : BitVec 32 := Scalar.muli v73 c1_i32_92
  let v141 : BitVec 32 := Scalar.addi c0_i32_93 v140
  v141.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_100 : BitVec 32 := 256#32
  let v153 : BitVec 32 := Scalar.muli v2 c256_i32_100
  let v158 : Index := Scalar.indexCast v153
  let c0_104 : Index := 0#32
  ![v158.toNat, 0]
def k0_off6 (d0 : Dev nD) (c0_i32_105 : BitVec 32) (c0_i32_134 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v160 : BitVec 32 := Scalar.subi v2 c0_i32_105
  let c1_i32_106 : BitVec 32 := 1#32
  let v161 : BitVec 32 := Scalar.subi v160 c1_i32_106
  let c16_i32_107 : BitVec 32 := 16#32
  let c0_i32_108 : BitVec 32 := 0#32
  let v162 : BitVec 1 := Scalar.cmpi .eq c16_i32_107 c0_i32_108
  let c1_i32_109 : BitVec 32 := 1#32
  let v163 : BitVec 32 := Scalar.select v162 c1_i32_109 c16_i32_107
  let v164 : BitVec 32 := Scalar.remsi v161 v163
  let c0_i32_111 : BitVec 32 := 0#32
  let v166 : BitVec 1 := Scalar.cmpi .slt v164 c0_i32_111
  let c0_i32_112 : BitVec 32 := 0#32
  let v167 : BitVec 1 := Scalar.cmpi .slt v163 c0_i32_112
  let v168 : BitVec 1 := Scalar.xori v166 v167
  let c0_i32_110 : BitVec 32 := 0#32
  let v165 : BitVec 1 := Scalar.cmpi .ne v164 c0_i32_110
  let v169 : BitVec 1 := Scalar.andi v168 v165
  let v170 : BitVec 32 := Scalar.addi v164 v163
  let v171 : BitVec 32 := Scalar.select v169 v170 v164
  let c2_i32_133 : BitVec 32 := 2#32
  let v201 : BitVec 32 := Scalar.muli v171 c2_i32_133
  let v202 : BitVec 32 := Scalar.addi v201 c0_i32_134
  ![v202.toNat]
def k0_off7 (d0 : Dev nD) (c0_i32_105 : BitVec 32) (c0_i32_130 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v160 : BitVec 32 := Scalar.subi v2 c0_i32_105
  let c1_i32_106 : BitVec 32 := 1#32
  let v161 : BitVec 32 := Scalar.subi v160 c1_i32_106
  let c16_i32_107 : BitVec 32 := 16#32
  let c0_i32_108 : BitVec 32 := 0#32
  let v162 : BitVec 1 := Scalar.cmpi .eq c16_i32_107 c0_i32_108
  let c1_i32_109 : BitVec 32 := 1#32
  let v163 : BitVec 32 := Scalar.select v162 c1_i32_109 c16_i32_107
  let v164 : BitVec 32 := Scalar.remsi v161 v163
  let c0_i32_111 : BitVec 32 := 0#32
  let v166 : BitVec 1 := Scalar.cmpi .slt v164 c0_i32_111
  let c0_i32_112 : BitVec 32 := 0#32
  let v167 : BitVec 1 := Scalar.cmpi .slt v163 c0_i32_112
  let v168 : BitVec 1 := Scalar.xori v166 v167
  let c0_i32_110 : BitVec 32 := 0#32
  let v165 : BitVec 1 := Scalar.cmpi .ne v164 c0_i32_110
  let v169 : BitVec 1 := Scalar.andi v168 v165
  let v170 : BitVec 32 := Scalar.addi v164 v163
  let v171 : BitVec 32 := Scalar.select v169 v170 v164
  let c256_i32_129 : BitVec 32 := 256#32
  let v197 : BitVec 32 := Scalar.muli v171 c256_i32_129
  let v198 : BitVec 32 := Scalar.addi v197 c0_i32_130
  let c0_i32_137 : BitVec 32 := 0#32
  ![v198.toNat, 0]
def k0_dev9 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_145 : BitVec 32 := 1#32
  let v215 : BitVec 32 := Scalar.muli v24 c1_i32_145
  let v216 : BitVec 32 := Scalar.addi c0_i32_146 v215
  v216.toNat
def k0_off8 (d0 : Dev nD) (c0_i32_155 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_154 : BitVec 32 := 2#32
  let v228 : BitVec 32 := Scalar.muli v196 c2_i32_154
  let v229 : BitVec 32 := Scalar.addi v228 c0_i32_155
  ![v229.toNat]
def k0_off9 (d0 : Dev nD) (c0_i32_151 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c256_i32_149 : BitVec 32 := 256#32
  let v223 : BitVec 32 := Scalar.muli v196 c256_i32_149
  let c128_i32_150 : BitVec 32 := 128#32
  let v224 : BitVec 32 := Scalar.addi v223 c128_i32_150
  let v225 : BitVec 32 := Scalar.addi v224 c0_i32_151
  let c0_i32_158 : BitVec 32 := 0#32
  ![v225.toNat, 0]
def k0_dev10 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_167 : BitVec 32 := 1#32
  let v243 : BitVec 32 := Scalar.muli v73 c1_i32_167
  let v244 : BitVec 32 := Scalar.addi c0_i32_168 v243
  v244.toNat
def k0_dev11 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_187 : BitVec 32 := 1#32
  let v269 : BitVec 32 := Scalar.muli v24 c1_i32_187
  let v270 : BitVec 32 := Scalar.addi c0_i32_188 v269
  v270.toNat
def k0_dev12 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_209 : BitVec 32 := 1#32
  let v297 : BitVec 32 := Scalar.muli v73 c1_i32_209
  let v298 : BitVec 32 := Scalar.addi c0_i32_210 v297
  v298.toNat
def k0_off10 (d0 : Dev nD) (c0_i32_105 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v160 : BitVec 32 := Scalar.subi v2 c0_i32_105
  let c1_i32_106 : BitVec 32 := 1#32
  let v161 : BitVec 32 := Scalar.subi v160 c1_i32_106
  let c16_i32_107 : BitVec 32 := 16#32
  let c0_i32_108 : BitVec 32 := 0#32
  let v162 : BitVec 1 := Scalar.cmpi .eq c16_i32_107 c0_i32_108
  let c1_i32_109 : BitVec 32 := 1#32
  let v163 : BitVec 32 := Scalar.select v162 c1_i32_109 c16_i32_107
  let v164 : BitVec 32 := Scalar.remsi v161 v163
  let c0_i32_111 : BitVec 32 := 0#32
  let v166 : BitVec 1 := Scalar.cmpi .slt v164 c0_i32_111
  let c0_i32_112 : BitVec 32 := 0#32
  let v167 : BitVec 1 := Scalar.cmpi .slt v163 c0_i32_112
  let v168 : BitVec 1 := Scalar.xori v166 v167
  let c0_i32_110 : BitVec 32 := 0#32
  let v165 : BitVec 1 := Scalar.cmpi .ne v164 c0_i32_110
  let v169 : BitVec 1 := Scalar.andi v168 v165
  let v170 : BitVec 32 := Scalar.addi v164 v163
  let v171 : BitVec 32 := Scalar.select v169 v170 v164
  let c256_i32_213 : BitVec 32 := 256#32
  let v305 : BitVec 32 := Scalar.muli v171 c256_i32_213
  let v306 : Index := Scalar.indexCast v305
  let c0_214 : Index := 0#32
  ![v306.toNat, 0]
def k0_off11 (d0 : Dev nD) (c0_i32_105 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v160 : BitVec 32 := Scalar.subi v2 c0_i32_105
  let c1_i32_106 : BitVec 32 := 1#32
  let v161 : BitVec 32 := Scalar.subi v160 c1_i32_106
  let c16_i32_107 : BitVec 32 := 16#32
  let c0_i32_108 : BitVec 32 := 0#32
  let v162 : BitVec 1 := Scalar.cmpi .eq c16_i32_107 c0_i32_108
  let c1_i32_109 : BitVec 32 := 1#32
  let v163 : BitVec 32 := Scalar.select v162 c1_i32_109 c16_i32_107
  let v164 : BitVec 32 := Scalar.remsi v161 v163
  let c0_i32_111 : BitVec 32 := 0#32
  let v166 : BitVec 1 := Scalar.cmpi .slt v164 c0_i32_111
  let c0_i32_112 : BitVec 32 := 0#32
  let v167 : BitVec 1 := Scalar.cmpi .slt v163 c0_i32_112
  let v168 : BitVec 1 := Scalar.xori v166 v167
  let c0_i32_110 : BitVec 32 := 0#32
  let v165 : BitVec 1 := Scalar.cmpi .ne v164 c0_i32_110
  let v169 : BitVec 1 := Scalar.andi v168 v165
  let v170 : BitVec 32 := Scalar.addi v164 v163
  let v171 : BitVec 32 := Scalar.select v169 v170 v164
  let c256_i32_213 : BitVec 32 := 256#32
  let v305 : BitVec 32 := Scalar.muli v171 c256_i32_213
  let v310 : Index := Scalar.indexCast v305
  let c0_218 : Index := 0#32
  ![v310.toNat, 0]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c256_i32_219 : BitVec 32 := 256#32
  let v312 : BitVec 32 := Scalar.muli v196 c256_i32_219
  let c128_i32_220 : BitVec 32 := 128#32
  let v313 : BitVec 32 := Scalar.addi v312 c128_i32_220
  let v314 : Index := Scalar.indexCast v313
  let c0_221 : Index := 0#32
  ![v314.toNat, 0]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c256_i32_219 : BitVec 32 := 256#32
  let v312 : BitVec 32 := Scalar.muli v196 c256_i32_219
  let c128_i32_220 : BitVec 32 := 128#32
  let v313 : BitVec 32 := Scalar.addi v312 c128_i32_220
  let v318 : Index := Scalar.indexCast v313
  let c0_225 : Index := 0#32
  ![v318.toNat, 0]
def k0_dev13 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_266 : BitVec 32 := 1#32
  let v375 : BitVec 32 := Scalar.muli v24 c1_i32_266
  let v376 : BitVec 32 := Scalar.addi c0_i32_267 v375
  v376.toNat
def k0_off14 (d0 : Dev nD) (c0_i32_276 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_275 : BitVec 32 := 2#32
  let v388 : BitVec 32 := Scalar.muli v356 c2_i32_275
  let v389 : BitVec 32 := Scalar.addi v388 c0_i32_276
  ![v389.toNat]
def k0_off15 (d0 : Dev nD) (c0_i32_272 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c256_i32_270 : BitVec 32 := 256#32
  let v383 : BitVec 32 := Scalar.muli v356 c256_i32_270
  let c128_i32_271 : BitVec 32 := 128#32
  let v384 : BitVec 32 := Scalar.addi v383 c128_i32_271
  let v385 : BitVec 32 := Scalar.addi v384 c0_i32_272
  let c0_i32_279 : BitVec 32 := 0#32
  ![v385.toNat, 0]
def k0_dev14 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_288 : BitVec 32 := 1#32
  let v403 : BitVec 32 := Scalar.muli v73 c1_i32_288
  let v404 : BitVec 32 := Scalar.addi c0_i32_289 v403
  v404.toNat
def k0_dev15 (d0 : Dev nD) : Nat :=
  let c0_i32_309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_308 : BitVec 32 := 1#32
  let v429 : BitVec 32 := Scalar.muli v24 c1_i32_308
  let v430 : BitVec 32 := Scalar.addi c0_i32_309 v429
  v430.toNat
def k0_dev16 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_330 : BitVec 32 := 1#32
  let v457 : BitVec 32 := Scalar.muli v73 c1_i32_330
  let v458 : BitVec 32 := Scalar.addi c0_i32_331 v457
  v458.toNat
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c256_i32_340 : BitVec 32 := 256#32
  let v472 : BitVec 32 := Scalar.muli v356 c256_i32_340
  let c128_i32_341 : BitVec 32 := 128#32
  let v473 : BitVec 32 := Scalar.addi v472 c128_i32_341
  let v474 : Index := Scalar.indexCast v473
  let c0_342 : Index := 0#32
  ![v474.toNat, 0]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c256_i32_340 : BitVec 32 := 256#32
  let v472 : BitVec 32 := Scalar.muli v356 c256_i32_340
  let c128_i32_341 : BitVec 32 := 128#32
  let v473 : BitVec 32 := Scalar.addi v472 c128_i32_341
  let v478 : Index := Scalar.indexCast v473
  let c0_346 : Index := 0#32
  ![v478.toNat, 0]
def k0_dev17 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_387 : BitVec 32 := 1#32
  let v535 : BitVec 32 := Scalar.muli v24 c1_i32_387
  let v536 : BitVec 32 := Scalar.addi c0_i32_388 v535
  v536.toNat
def k0_off18 (d0 : Dev nD) (c0_i32_397 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_396 : BitVec 32 := 2#32
  let v548 : BitVec 32 := Scalar.muli v516 c2_i32_396
  let v549 : BitVec 32 := Scalar.addi v548 c0_i32_397
  ![v549.toNat]
def k0_off19 (d0 : Dev nD) (c0_i32_393 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c256_i32_391 : BitVec 32 := 256#32
  let v543 : BitVec 32 := Scalar.muli v516 c256_i32_391
  let c128_i32_392 : BitVec 32 := 128#32
  let v544 : BitVec 32 := Scalar.addi v543 c128_i32_392
  let v545 : BitVec 32 := Scalar.addi v544 c0_i32_393
  let c0_i32_400 : BitVec 32 := 0#32
  ![v545.toNat, 0]
def k0_dev18 (d0 : Dev nD) : Nat :=
  let c0_i32_410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_409 : BitVec 32 := 1#32
  let v563 : BitVec 32 := Scalar.muli v73 c1_i32_409
  let v564 : BitVec 32 := Scalar.addi c0_i32_410 v563
  v564.toNat
def k0_dev19 (d0 : Dev nD) : Nat :=
  let c0_i32_430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_429 : BitVec 32 := 1#32
  let v589 : BitVec 32 := Scalar.muli v24 c1_i32_429
  let v590 : BitVec 32 := Scalar.addi c0_i32_430 v589
  v590.toNat
def k0_dev20 (d0 : Dev nD) : Nat :=
  let c0_i32_452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_451 : BitVec 32 := 1#32
  let v617 : BitVec 32 := Scalar.muli v73 c1_i32_451
  let v618 : BitVec 32 := Scalar.addi c0_i32_452 v617
  v618.toNat
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c256_i32_461 : BitVec 32 := 256#32
  let v632 : BitVec 32 := Scalar.muli v516 c256_i32_461
  let c128_i32_462 : BitVec 32 := 128#32
  let v633 : BitVec 32 := Scalar.addi v632 c128_i32_462
  let v634 : Index := Scalar.indexCast v633
  let c0_463 : Index := 0#32
  ![v634.toNat, 0]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c256_i32_461 : BitVec 32 := 256#32
  let v632 : BitVec 32 := Scalar.muli v516 c256_i32_461
  let c128_i32_462 : BitVec 32 := 128#32
  let v633 : BitVec 32 := Scalar.addi v632 c128_i32_462
  let v638 : Index := Scalar.indexCast v633
  let c0_467 : Index := 0#32
  ![v638.toNat, 0]
def k0_dev21 (d0 : Dev nD) : Nat :=
  let c0_i32_509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_508 : BitVec 32 := 1#32
  let v695 : BitVec 32 := Scalar.muli v24 c1_i32_508
  let v696 : BitVec 32 := Scalar.addi c0_i32_509 v695
  v696.toNat
def k0_off22 (d0 : Dev nD) (c0_i32_518 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_517 : BitVec 32 := 2#32
  let v708 : BitVec 32 := Scalar.muli v676 c2_i32_517
  let v709 : BitVec 32 := Scalar.addi v708 c0_i32_518
  ![v709.toNat]
def k0_off23 (d0 : Dev nD) (c0_i32_514 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c256_i32_512 : BitVec 32 := 256#32
  let v703 : BitVec 32 := Scalar.muli v676 c256_i32_512
  let c128_i32_513 : BitVec 32 := 128#32
  let v704 : BitVec 32 := Scalar.addi v703 c128_i32_513
  let v705 : BitVec 32 := Scalar.addi v704 c0_i32_514
  let c0_i32_521 : BitVec 32 := 0#32
  ![v705.toNat, 0]
def k0_dev22 (d0 : Dev nD) : Nat :=
  let c0_i32_531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_530 : BitVec 32 := 1#32
  let v723 : BitVec 32 := Scalar.muli v73 c1_i32_530
  let v724 : BitVec 32 := Scalar.addi c0_i32_531 v723
  v724.toNat
def k0_dev23 (d0 : Dev nD) : Nat :=
  let c0_i32_551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_550 : BitVec 32 := 1#32
  let v749 : BitVec 32 := Scalar.muli v24 c1_i32_550
  let v750 : BitVec 32 := Scalar.addi c0_i32_551 v749
  v750.toNat
def k0_dev24 (d0 : Dev nD) : Nat :=
  let c0_i32_573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_572 : BitVec 32 := 1#32
  let v777 : BitVec 32 := Scalar.muli v73 c1_i32_572
  let v778 : BitVec 32 := Scalar.addi c0_i32_573 v777
  v778.toNat
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c256_i32_582 : BitVec 32 := 256#32
  let v792 : BitVec 32 := Scalar.muli v676 c256_i32_582
  let c128_i32_583 : BitVec 32 := 128#32
  let v793 : BitVec 32 := Scalar.addi v792 c128_i32_583
  let v794 : Index := Scalar.indexCast v793
  let c0_584 : Index := 0#32
  ![v794.toNat, 0]
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c256_i32_582 : BitVec 32 := 256#32
  let v792 : BitVec 32 := Scalar.muli v676 c256_i32_582
  let c128_i32_583 : BitVec 32 := 128#32
  let v793 : BitVec 32 := Scalar.addi v792 c128_i32_583
  let v798 : Index := Scalar.indexCast v793
  let c0_588 : Index := 0#32
  ![v798.toNat, 0]
def k0_dev25 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_629 : BitVec 32 := 1#32
  let v855 : BitVec 32 := Scalar.muli v24 c1_i32_629
  let v856 : BitVec 32 := Scalar.addi c0_i32_630 v855
  v856.toNat
def k0_off26 (d0 : Dev nD) (c0_i32_639 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_638 : BitVec 32 := 2#32
  let v868 : BitVec 32 := Scalar.muli v836 c2_i32_638
  let v869 : BitVec 32 := Scalar.addi v868 c0_i32_639
  ![v869.toNat]
def k0_off27 (d0 : Dev nD) (c0_i32_635 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c256_i32_633 : BitVec 32 := 256#32
  let v863 : BitVec 32 := Scalar.muli v836 c256_i32_633
  let c128_i32_634 : BitVec 32 := 128#32
  let v864 : BitVec 32 := Scalar.addi v863 c128_i32_634
  let v865 : BitVec 32 := Scalar.addi v864 c0_i32_635
  let c0_i32_642 : BitVec 32 := 0#32
  ![v865.toNat, 0]
def k0_dev26 (d0 : Dev nD) : Nat :=
  let c0_i32_652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_651 : BitVec 32 := 1#32
  let v883 : BitVec 32 := Scalar.muli v73 c1_i32_651
  let v884 : BitVec 32 := Scalar.addi c0_i32_652 v883
  v884.toNat
def k0_dev27 (d0 : Dev nD) : Nat :=
  let c0_i32_672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_671 : BitVec 32 := 1#32
  let v909 : BitVec 32 := Scalar.muli v24 c1_i32_671
  let v910 : BitVec 32 := Scalar.addi c0_i32_672 v909
  v910.toNat
def k0_dev28 (d0 : Dev nD) : Nat :=
  let c0_i32_694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_693 : BitVec 32 := 1#32
  let v937 : BitVec 32 := Scalar.muli v73 c1_i32_693
  let v938 : BitVec 32 := Scalar.addi c0_i32_694 v937
  v938.toNat
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c256_i32_703 : BitVec 32 := 256#32
  let v952 : BitVec 32 := Scalar.muli v836 c256_i32_703
  let c128_i32_704 : BitVec 32 := 128#32
  let v953 : BitVec 32 := Scalar.addi v952 c128_i32_704
  let v954 : Index := Scalar.indexCast v953
  let c0_705 : Index := 0#32
  ![v954.toNat, 0]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c256_i32_703 : BitVec 32 := 256#32
  let v952 : BitVec 32 := Scalar.muli v836 c256_i32_703
  let c128_i32_704 : BitVec 32 := 128#32
  let v953 : BitVec 32 := Scalar.addi v952 c128_i32_704
  let v958 : Index := Scalar.indexCast v953
  let c0_709 : Index := 0#32
  ![v958.toNat, 0]
def k0_dev29 (d0 : Dev nD) : Nat :=
  let c0_i32_750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_749 : BitVec 32 := 1#32
  let v1015 : BitVec 32 := Scalar.muli v24 c1_i32_749
  let v1016 : BitVec 32 := Scalar.addi c0_i32_750 v1015
  v1016.toNat
def k0_off30 (d0 : Dev nD) (c0_i32_759 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_758 : BitVec 32 := 2#32
  let v1028 : BitVec 32 := Scalar.muli v996 c2_i32_758
  let v1029 : BitVec 32 := Scalar.addi v1028 c0_i32_759
  ![v1029.toNat]
def k0_off31 (d0 : Dev nD) (c0_i32_755 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c256_i32_753 : BitVec 32 := 256#32
  let v1023 : BitVec 32 := Scalar.muli v996 c256_i32_753
  let c128_i32_754 : BitVec 32 := 128#32
  let v1024 : BitVec 32 := Scalar.addi v1023 c128_i32_754
  let v1025 : BitVec 32 := Scalar.addi v1024 c0_i32_755
  let c0_i32_762 : BitVec 32 := 0#32
  ![v1025.toNat, 0]
def k0_dev30 (d0 : Dev nD) : Nat :=
  let c0_i32_772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_771 : BitVec 32 := 1#32
  let v1043 : BitVec 32 := Scalar.muli v73 c1_i32_771
  let v1044 : BitVec 32 := Scalar.addi c0_i32_772 v1043
  v1044.toNat
def k0_dev31 (d0 : Dev nD) : Nat :=
  let c0_i32_792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_791 : BitVec 32 := 1#32
  let v1069 : BitVec 32 := Scalar.muli v24 c1_i32_791
  let v1070 : BitVec 32 := Scalar.addi c0_i32_792 v1069
  v1070.toNat
def k0_dev32 (d0 : Dev nD) : Nat :=
  let c0_i32_814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_813 : BitVec 32 := 1#32
  let v1097 : BitVec 32 := Scalar.muli v73 c1_i32_813
  let v1098 : BitVec 32 := Scalar.addi c0_i32_814 v1097
  v1098.toNat
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c256_i32_823 : BitVec 32 := 256#32
  let v1112 : BitVec 32 := Scalar.muli v996 c256_i32_823
  let c128_i32_824 : BitVec 32 := 128#32
  let v1113 : BitVec 32 := Scalar.addi v1112 c128_i32_824
  let v1114 : Index := Scalar.indexCast v1113
  let c0_825 : Index := 0#32
  ![v1114.toNat, 0]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c256_i32_823 : BitVec 32 := 256#32
  let v1112 : BitVec 32 := Scalar.muli v996 c256_i32_823
  let c128_i32_824 : BitVec 32 := 128#32
  let v1113 : BitVec 32 := Scalar.addi v1112 c128_i32_824
  let v1118 : Index := Scalar.indexCast v1113
  let c0_829 : Index := 0#32
  ![v1118.toNat, 0]
def k0_dev33 (d0 : Dev nD) : Nat :=
  let c0_i32_870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_869 : BitVec 32 := 1#32
  let v1175 : BitVec 32 := Scalar.muli v24 c1_i32_869
  let v1176 : BitVec 32 := Scalar.addi c0_i32_870 v1175
  v1176.toNat
def k0_off34 (d0 : Dev nD) (c0_i32_879 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_878 : BitVec 32 := 2#32
  let v1188 : BitVec 32 := Scalar.muli v1156 c2_i32_878
  let v1189 : BitVec 32 := Scalar.addi v1188 c0_i32_879
  ![v1189.toNat]
def k0_off35 (d0 : Dev nD) (c0_i32_875 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c256_i32_873 : BitVec 32 := 256#32
  let v1183 : BitVec 32 := Scalar.muli v1156 c256_i32_873
  let c128_i32_874 : BitVec 32 := 128#32
  let v1184 : BitVec 32 := Scalar.addi v1183 c128_i32_874
  let v1185 : BitVec 32 := Scalar.addi v1184 c0_i32_875
  let c0_i32_882 : BitVec 32 := 0#32
  ![v1185.toNat, 0]
def k0_dev34 (d0 : Dev nD) : Nat :=
  let c0_i32_892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_891 : BitVec 32 := 1#32
  let v1203 : BitVec 32 := Scalar.muli v73 c1_i32_891
  let v1204 : BitVec 32 := Scalar.addi c0_i32_892 v1203
  v1204.toNat
def k0_dev35 (d0 : Dev nD) : Nat :=
  let c0_i32_912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_911 : BitVec 32 := 1#32
  let v1229 : BitVec 32 := Scalar.muli v24 c1_i32_911
  let v1230 : BitVec 32 := Scalar.addi c0_i32_912 v1229
  v1230.toNat
def k0_dev36 (d0 : Dev nD) : Nat :=
  let c0_i32_934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_933 : BitVec 32 := 1#32
  let v1257 : BitVec 32 := Scalar.muli v73 c1_i32_933
  let v1258 : BitVec 32 := Scalar.addi c0_i32_934 v1257
  v1258.toNat
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c256_i32_943 : BitVec 32 := 256#32
  let v1272 : BitVec 32 := Scalar.muli v1156 c256_i32_943
  let c128_i32_944 : BitVec 32 := 128#32
  let v1273 : BitVec 32 := Scalar.addi v1272 c128_i32_944
  let v1274 : Index := Scalar.indexCast v1273
  let c0_945 : Index := 0#32
  ![v1274.toNat, 0]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c256_i32_943 : BitVec 32 := 256#32
  let v1272 : BitVec 32 := Scalar.muli v1156 c256_i32_943
  let c128_i32_944 : BitVec 32 := 128#32
  let v1273 : BitVec 32 := Scalar.addi v1272 c128_i32_944
  let v1278 : Index := Scalar.indexCast v1273
  let c0_949 : Index := 0#32
  ![v1278.toNat, 0]
def k0_dev37 (d0 : Dev nD) : Nat :=
  let c0_i32_990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_989 : BitVec 32 := 1#32
  let v1335 : BitVec 32 := Scalar.muli v24 c1_i32_989
  let v1336 : BitVec 32 := Scalar.addi c0_i32_990 v1335
  v1336.toNat
def k0_off38 (d0 : Dev nD) (c0_i32_999 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_998 : BitVec 32 := 2#32
  let v1348 : BitVec 32 := Scalar.muli v1316 c2_i32_998
  let v1349 : BitVec 32 := Scalar.addi v1348 c0_i32_999
  ![v1349.toNat]
def k0_off39 (d0 : Dev nD) (c0_i32_995 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c256_i32_993 : BitVec 32 := 256#32
  let v1343 : BitVec 32 := Scalar.muli v1316 c256_i32_993
  let c128_i32_994 : BitVec 32 := 128#32
  let v1344 : BitVec 32 := Scalar.addi v1343 c128_i32_994
  let v1345 : BitVec 32 := Scalar.addi v1344 c0_i32_995
  let c0_i32_1002 : BitVec 32 := 0#32
  ![v1345.toNat, 0]
def k0_dev38 (d0 : Dev nD) : Nat :=
  let c0_i32_1012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_1011 : BitVec 32 := 1#32
  let v1363 : BitVec 32 := Scalar.muli v73 c1_i32_1011
  let v1364 : BitVec 32 := Scalar.addi c0_i32_1012 v1363
  v1364.toNat
def k0_dev39 (d0 : Dev nD) : Nat :=
  let c0_i32_1032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1031 : BitVec 32 := 1#32
  let v1389 : BitVec 32 := Scalar.muli v24 c1_i32_1031
  let v1390 : BitVec 32 := Scalar.addi c0_i32_1032 v1389
  v1390.toNat
def k0_dev40 (d0 : Dev nD) : Nat :=
  let c0_i32_1054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_1053 : BitVec 32 := 1#32
  let v1417 : BitVec 32 := Scalar.muli v73 c1_i32_1053
  let v1418 : BitVec 32 := Scalar.addi c0_i32_1054 v1417
  v1418.toNat
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c256_i32_1063 : BitVec 32 := 256#32
  let v1432 : BitVec 32 := Scalar.muli v1316 c256_i32_1063
  let c128_i32_1064 : BitVec 32 := 128#32
  let v1433 : BitVec 32 := Scalar.addi v1432 c128_i32_1064
  let v1434 : Index := Scalar.indexCast v1433
  let c0_1065 : Index := 0#32
  ![v1434.toNat, 0]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c256_i32_1063 : BitVec 32 := 256#32
  let v1432 : BitVec 32 := Scalar.muli v1316 c256_i32_1063
  let c128_i32_1064 : BitVec 32 := 128#32
  let v1433 : BitVec 32 := Scalar.addi v1432 c128_i32_1064
  let v1438 : Index := Scalar.indexCast v1433
  let c0_1069 : Index := 0#32
  ![v1438.toNat, 0]
def k0_dev41 (d0 : Dev nD) : Nat :=
  let c0_i32_1110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1109 : BitVec 32 := 1#32
  let v1495 : BitVec 32 := Scalar.muli v24 c1_i32_1109
  let v1496 : BitVec 32 := Scalar.addi c0_i32_1110 v1495
  v1496.toNat
def k0_off42 (d0 : Dev nD) (c0_i32_1119 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1118 : BitVec 32 := 2#32
  let v1508 : BitVec 32 := Scalar.muli v1476 c2_i32_1118
  let v1509 : BitVec 32 := Scalar.addi v1508 c0_i32_1119
  ![v1509.toNat]
def k0_off43 (d0 : Dev nD) (c0_i32_1115 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c256_i32_1113 : BitVec 32 := 256#32
  let v1503 : BitVec 32 := Scalar.muli v1476 c256_i32_1113
  let c128_i32_1114 : BitVec 32 := 128#32
  let v1504 : BitVec 32 := Scalar.addi v1503 c128_i32_1114
  let v1505 : BitVec 32 := Scalar.addi v1504 c0_i32_1115
  let c0_i32_1122 : BitVec 32 := 0#32
  ![v1505.toNat, 0]
def k0_dev42 (d0 : Dev nD) : Nat :=
  let c0_i32_1132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_1131 : BitVec 32 := 1#32
  let v1523 : BitVec 32 := Scalar.muli v73 c1_i32_1131
  let v1524 : BitVec 32 := Scalar.addi c0_i32_1132 v1523
  v1524.toNat
def k0_dev43 (d0 : Dev nD) : Nat :=
  let c0_i32_1152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1151 : BitVec 32 := 1#32
  let v1549 : BitVec 32 := Scalar.muli v24 c1_i32_1151
  let v1550 : BitVec 32 := Scalar.addi c0_i32_1152 v1549
  v1550.toNat
def k0_dev44 (d0 : Dev nD) : Nat :=
  let c0_i32_1174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_1173 : BitVec 32 := 1#32
  let v1577 : BitVec 32 := Scalar.muli v73 c1_i32_1173
  let v1578 : BitVec 32 := Scalar.addi c0_i32_1174 v1577
  v1578.toNat
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c256_i32_1183 : BitVec 32 := 256#32
  let v1592 : BitVec 32 := Scalar.muli v1476 c256_i32_1183
  let c128_i32_1184 : BitVec 32 := 128#32
  let v1593 : BitVec 32 := Scalar.addi v1592 c128_i32_1184
  let v1594 : Index := Scalar.indexCast v1593
  let c0_1185 : Index := 0#32
  ![v1594.toNat, 0]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c256_i32_1183 : BitVec 32 := 256#32
  let v1592 : BitVec 32 := Scalar.muli v1476 c256_i32_1183
  let c128_i32_1184 : BitVec 32 := 128#32
  let v1593 : BitVec 32 := Scalar.addi v1592 c128_i32_1184
  let v1598 : Index := Scalar.indexCast v1593
  let c0_1189 : Index := 0#32
  ![v1598.toNat, 0]
def k0_dev45 (d0 : Dev nD) : Nat :=
  let c0_i32_1230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1229 : BitVec 32 := 1#32
  let v1655 : BitVec 32 := Scalar.muli v24 c1_i32_1229
  let v1656 : BitVec 32 := Scalar.addi c0_i32_1230 v1655
  v1656.toNat
def k0_off46 (d0 : Dev nD) (c0_i32_1239 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1238 : BitVec 32 := 2#32
  let v1668 : BitVec 32 := Scalar.muli v1636 c2_i32_1238
  let v1669 : BitVec 32 := Scalar.addi v1668 c0_i32_1239
  ![v1669.toNat]
def k0_off47 (d0 : Dev nD) (c0_i32_1235 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c256_i32_1233 : BitVec 32 := 256#32
  let v1663 : BitVec 32 := Scalar.muli v1636 c256_i32_1233
  let c128_i32_1234 : BitVec 32 := 128#32
  let v1664 : BitVec 32 := Scalar.addi v1663 c128_i32_1234
  let v1665 : BitVec 32 := Scalar.addi v1664 c0_i32_1235
  let c0_i32_1242 : BitVec 32 := 0#32
  ![v1665.toNat, 0]
def k0_dev46 (d0 : Dev nD) : Nat :=
  let c0_i32_1252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_1251 : BitVec 32 := 1#32
  let v1683 : BitVec 32 := Scalar.muli v73 c1_i32_1251
  let v1684 : BitVec 32 := Scalar.addi c0_i32_1252 v1683
  v1684.toNat
def k0_dev47 (d0 : Dev nD) : Nat :=
  let c0_i32_1272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1271 : BitVec 32 := 1#32
  let v1709 : BitVec 32 := Scalar.muli v24 c1_i32_1271
  let v1710 : BitVec 32 := Scalar.addi c0_i32_1272 v1709
  v1710.toNat
def k0_dev48 (d0 : Dev nD) : Nat :=
  let c0_i32_1294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_1293 : BitVec 32 := 1#32
  let v1737 : BitVec 32 := Scalar.muli v73 c1_i32_1293
  let v1738 : BitVec 32 := Scalar.addi c0_i32_1294 v1737
  v1738.toNat
def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c256_i32_1303 : BitVec 32 := 256#32
  let v1752 : BitVec 32 := Scalar.muli v1636 c256_i32_1303
  let c128_i32_1304 : BitVec 32 := 128#32
  let v1753 : BitVec 32 := Scalar.addi v1752 c128_i32_1304
  let v1754 : Index := Scalar.indexCast v1753
  let c0_1305 : Index := 0#32
  ![v1754.toNat, 0]
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c256_i32_1303 : BitVec 32 := 256#32
  let v1752 : BitVec 32 := Scalar.muli v1636 c256_i32_1303
  let c128_i32_1304 : BitVec 32 := 128#32
  let v1753 : BitVec 32 := Scalar.addi v1752 c128_i32_1304
  let v1758 : Index := Scalar.indexCast v1753
  let c0_1309 : Index := 0#32
  ![v1758.toNat, 0]
def k0_dev49 (d0 : Dev nD) : Nat :=
  let c0_i32_1350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1349 : BitVec 32 := 1#32
  let v1815 : BitVec 32 := Scalar.muli v24 c1_i32_1349
  let v1816 : BitVec 32 := Scalar.addi c0_i32_1350 v1815
  v1816.toNat
def k0_off50 (d0 : Dev nD) (c0_i32_1359 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c2_i32_1358 : BitVec 32 := 2#32
  let v1828 : BitVec 32 := Scalar.muli v1796 c2_i32_1358
  let v1829 : BitVec 32 := Scalar.addi v1828 c0_i32_1359
  ![v1829.toNat]
def k0_off51 (d0 : Dev nD) (c0_i32_1355 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c256_i32_1353 : BitVec 32 := 256#32
  let v1823 : BitVec 32 := Scalar.muli v1796 c256_i32_1353
  let c128_i32_1354 : BitVec 32 := 128#32
  let v1824 : BitVec 32 := Scalar.addi v1823 c128_i32_1354
  let v1825 : BitVec 32 := Scalar.addi v1824 c0_i32_1355
  let c0_i32_1362 : BitVec 32 := 0#32
  ![v1825.toNat, 0]
def k0_dev50 (d0 : Dev nD) : Nat :=
  let c0_i32_1372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_1371 : BitVec 32 := 1#32
  let v1843 : BitVec 32 := Scalar.muli v73 c1_i32_1371
  let v1844 : BitVec 32 := Scalar.addi c0_i32_1372 v1843
  v1844.toNat
def k0_dev51 (d0 : Dev nD) : Nat :=
  let c0_i32_1392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1391 : BitVec 32 := 1#32
  let v1869 : BitVec 32 := Scalar.muli v24 c1_i32_1391
  let v1870 : BitVec 32 := Scalar.addi c0_i32_1392 v1869
  v1870.toNat
def k0_dev52 (d0 : Dev nD) : Nat :=
  let c0_i32_1414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_1413 : BitVec 32 := 1#32
  let v1897 : BitVec 32 := Scalar.muli v73 c1_i32_1413
  let v1898 : BitVec 32 := Scalar.addi c0_i32_1414 v1897
  v1898.toNat
def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c256_i32_1423 : BitVec 32 := 256#32
  let v1912 : BitVec 32 := Scalar.muli v1796 c256_i32_1423
  let c128_i32_1424 : BitVec 32 := 128#32
  let v1913 : BitVec 32 := Scalar.addi v1912 c128_i32_1424
  let v1914 : Index := Scalar.indexCast v1913
  let c0_1425 : Index := 0#32
  ![v1914.toNat, 0]
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c256_i32_1423 : BitVec 32 := 256#32
  let v1912 : BitVec 32 := Scalar.muli v1796 c256_i32_1423
  let c128_i32_1424 : BitVec 32 := 128#32
  let v1913 : BitVec 32 := Scalar.addi v1912 c128_i32_1424
  let v1918 : Index := Scalar.indexCast v1913
  let c0_1429 : Index := 0#32
  ![v1918.toNat, 0]
def k0_dev53 (d0 : Dev nD) : Nat :=
  let c0_i32_1470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1469 : BitVec 32 := 1#32
  let v1975 : BitVec 32 := Scalar.muli v24 c1_i32_1469
  let v1976 : BitVec 32 := Scalar.addi c0_i32_1470 v1975
  v1976.toNat
def k0_off54 (d0 : Dev nD) (c0_i32_1479 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c2_i32_1437 : BitVec 32 := 2#32
  let c0_i32_1438 : BitVec 32 := 0#32
  let v1932 : BitVec 1 := Scalar.cmpi .eq c2_i32_1437 c0_i32_1438
  let c1_i32_1439 : BitVec 32 := 1#32
  let v1933 : BitVec 32 := Scalar.select v1932 c1_i32_1439 c2_i32_1437
  let v1934 : BitVec 32 := Scalar.remsi v1796 v1933
  let c0_i32_1441 : BitVec 32 := 0#32
  let v1936 : BitVec 1 := Scalar.cmpi .slt v1934 c0_i32_1441
  let c0_i32_1442 : BitVec 32 := 0#32
  let v1937 : BitVec 1 := Scalar.cmpi .slt v1933 c0_i32_1442
  let v1938 : BitVec 1 := Scalar.xori v1936 v1937
  let c0_i32_1440 : BitVec 32 := 0#32
  let v1935 : BitVec 1 := Scalar.cmpi .ne v1934 c0_i32_1440
  let v1939 : BitVec 1 := Scalar.andi v1938 v1935
  let v1940 : BitVec 32 := Scalar.addi v1934 v1933
  let v1941 : BitVec 32 := Scalar.select v1939 v1940 v1934
  let c0_i32_1443 : BitVec 32 := 0#32
  let v1942 : BitVec 1 := Scalar.cmpi .eq v1941 c0_i32_1443
  let c1_i32_1444 : BitVec 32 := 1#32
  let v1943 : BitVec 32 := Scalar.addi v1796 c1_i32_1444
  let c16_i32_1445 : BitVec 32 := 16#32
  let v1944 : BitVec 32 := Scalar.addi v1796 c16_i32_1445
  let c3_i32_1446 : BitVec 32 := 3#32
  let v1945 : BitVec 32 := Scalar.subi v1944 c3_i32_1446
  let c16_i32_1447 : BitVec 32 := 16#32
  let c0_i32_1448 : BitVec 32 := 0#32
  let v1946 : BitVec 1 := Scalar.cmpi .eq c16_i32_1447 c0_i32_1448
  let c1_i32_1449 : BitVec 32 := 1#32
  let v1947 : BitVec 32 := Scalar.select v1946 c1_i32_1449 c16_i32_1447
  let v1948 : BitVec 32 := Scalar.remsi v1945 v1947
  let c0_i32_1451 : BitVec 32 := 0#32
  let v1950 : BitVec 1 := Scalar.cmpi .slt v1948 c0_i32_1451
  let c0_i32_1452 : BitVec 32 := 0#32
  let v1951 : BitVec 1 := Scalar.cmpi .slt v1947 c0_i32_1452
  let v1952 : BitVec 1 := Scalar.xori v1950 v1951
  let c0_i32_1450 : BitVec 32 := 0#32
  let v1949 : BitVec 1 := Scalar.cmpi .ne v1948 c0_i32_1450
  let v1953 : BitVec 1 := Scalar.andi v1952 v1949
  let v1954 : BitVec 32 := Scalar.addi v1948 v1947
  let v1955 : BitVec 32 := Scalar.select v1953 v1954 v1948
  let v1956 : BitVec 32 := Scalar.select v1942 v1943 v1955
  let c2_i32_1478 : BitVec 32 := 2#32
  let v1988 : BitVec 32 := Scalar.muli v1956 c2_i32_1478
  let v1989 : BitVec 32 := Scalar.addi v1988 c0_i32_1479
  ![v1989.toNat]
def k0_off55 (d0 : Dev nD) (c0_i32_1475 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c2_i32_1437 : BitVec 32 := 2#32
  let c0_i32_1438 : BitVec 32 := 0#32
  let v1932 : BitVec 1 := Scalar.cmpi .eq c2_i32_1437 c0_i32_1438
  let c1_i32_1439 : BitVec 32 := 1#32
  let v1933 : BitVec 32 := Scalar.select v1932 c1_i32_1439 c2_i32_1437
  let v1934 : BitVec 32 := Scalar.remsi v1796 v1933
  let c0_i32_1441 : BitVec 32 := 0#32
  let v1936 : BitVec 1 := Scalar.cmpi .slt v1934 c0_i32_1441
  let c0_i32_1442 : BitVec 32 := 0#32
  let v1937 : BitVec 1 := Scalar.cmpi .slt v1933 c0_i32_1442
  let v1938 : BitVec 1 := Scalar.xori v1936 v1937
  let c0_i32_1440 : BitVec 32 := 0#32
  let v1935 : BitVec 1 := Scalar.cmpi .ne v1934 c0_i32_1440
  let v1939 : BitVec 1 := Scalar.andi v1938 v1935
  let v1940 : BitVec 32 := Scalar.addi v1934 v1933
  let v1941 : BitVec 32 := Scalar.select v1939 v1940 v1934
  let c0_i32_1443 : BitVec 32 := 0#32
  let v1942 : BitVec 1 := Scalar.cmpi .eq v1941 c0_i32_1443
  let c1_i32_1444 : BitVec 32 := 1#32
  let v1943 : BitVec 32 := Scalar.addi v1796 c1_i32_1444
  let c16_i32_1445 : BitVec 32 := 16#32
  let v1944 : BitVec 32 := Scalar.addi v1796 c16_i32_1445
  let c3_i32_1446 : BitVec 32 := 3#32
  let v1945 : BitVec 32 := Scalar.subi v1944 c3_i32_1446
  let c16_i32_1447 : BitVec 32 := 16#32
  let c0_i32_1448 : BitVec 32 := 0#32
  let v1946 : BitVec 1 := Scalar.cmpi .eq c16_i32_1447 c0_i32_1448
  let c1_i32_1449 : BitVec 32 := 1#32
  let v1947 : BitVec 32 := Scalar.select v1946 c1_i32_1449 c16_i32_1447
  let v1948 : BitVec 32 := Scalar.remsi v1945 v1947
  let c0_i32_1451 : BitVec 32 := 0#32
  let v1950 : BitVec 1 := Scalar.cmpi .slt v1948 c0_i32_1451
  let c0_i32_1452 : BitVec 32 := 0#32
  let v1951 : BitVec 1 := Scalar.cmpi .slt v1947 c0_i32_1452
  let v1952 : BitVec 1 := Scalar.xori v1950 v1951
  let c0_i32_1450 : BitVec 32 := 0#32
  let v1949 : BitVec 1 := Scalar.cmpi .ne v1948 c0_i32_1450
  let v1953 : BitVec 1 := Scalar.andi v1952 v1949
  let v1954 : BitVec 32 := Scalar.addi v1948 v1947
  let v1955 : BitVec 32 := Scalar.select v1953 v1954 v1948
  let v1956 : BitVec 32 := Scalar.select v1942 v1943 v1955
  let c256_i32_1473 : BitVec 32 := 256#32
  let v1983 : BitVec 32 := Scalar.muli v1956 c256_i32_1473
  let c128_i32_1474 : BitVec 32 := 128#32
  let v1984 : BitVec 32 := Scalar.addi v1983 c128_i32_1474
  let v1985 : BitVec 32 := Scalar.addi v1984 c0_i32_1475
  let c0_i32_1482 : BitVec 32 := 0#32
  ![v1985.toNat, 0]
def k0_dev54 (d0 : Dev nD) : Nat :=
  let c0_i32_1492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_1491 : BitVec 32 := 1#32
  let v2003 : BitVec 32 := Scalar.muli v73 c1_i32_1491
  let v2004 : BitVec 32 := Scalar.addi c0_i32_1492 v2003
  v2004.toNat
def k0_dev55 (d0 : Dev nD) : Nat :=
  let c0_i32_1512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1511 : BitVec 32 := 1#32
  let v2029 : BitVec 32 := Scalar.muli v24 c1_i32_1511
  let v2030 : BitVec 32 := Scalar.addi c0_i32_1512 v2029
  v2030.toNat
def k0_dev56 (d0 : Dev nD) : Nat :=
  let c0_i32_1534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_1533 : BitVec 32 := 1#32
  let v2057 : BitVec 32 := Scalar.muli v73 c1_i32_1533
  let v2058 : BitVec 32 := Scalar.addi c0_i32_1534 v2057
  v2058.toNat
def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c2_i32_1437 : BitVec 32 := 2#32
  let c0_i32_1438 : BitVec 32 := 0#32
  let v1932 : BitVec 1 := Scalar.cmpi .eq c2_i32_1437 c0_i32_1438
  let c1_i32_1439 : BitVec 32 := 1#32
  let v1933 : BitVec 32 := Scalar.select v1932 c1_i32_1439 c2_i32_1437
  let v1934 : BitVec 32 := Scalar.remsi v1796 v1933
  let c0_i32_1441 : BitVec 32 := 0#32
  let v1936 : BitVec 1 := Scalar.cmpi .slt v1934 c0_i32_1441
  let c0_i32_1442 : BitVec 32 := 0#32
  let v1937 : BitVec 1 := Scalar.cmpi .slt v1933 c0_i32_1442
  let v1938 : BitVec 1 := Scalar.xori v1936 v1937
  let c0_i32_1440 : BitVec 32 := 0#32
  let v1935 : BitVec 1 := Scalar.cmpi .ne v1934 c0_i32_1440
  let v1939 : BitVec 1 := Scalar.andi v1938 v1935
  let v1940 : BitVec 32 := Scalar.addi v1934 v1933
  let v1941 : BitVec 32 := Scalar.select v1939 v1940 v1934
  let c0_i32_1443 : BitVec 32 := 0#32
  let v1942 : BitVec 1 := Scalar.cmpi .eq v1941 c0_i32_1443
  let c1_i32_1444 : BitVec 32 := 1#32
  let v1943 : BitVec 32 := Scalar.addi v1796 c1_i32_1444
  let c16_i32_1445 : BitVec 32 := 16#32
  let v1944 : BitVec 32 := Scalar.addi v1796 c16_i32_1445
  let c3_i32_1446 : BitVec 32 := 3#32
  let v1945 : BitVec 32 := Scalar.subi v1944 c3_i32_1446
  let c16_i32_1447 : BitVec 32 := 16#32
  let c0_i32_1448 : BitVec 32 := 0#32
  let v1946 : BitVec 1 := Scalar.cmpi .eq c16_i32_1447 c0_i32_1448
  let c1_i32_1449 : BitVec 32 := 1#32
  let v1947 : BitVec 32 := Scalar.select v1946 c1_i32_1449 c16_i32_1447
  let v1948 : BitVec 32 := Scalar.remsi v1945 v1947
  let c0_i32_1451 : BitVec 32 := 0#32
  let v1950 : BitVec 1 := Scalar.cmpi .slt v1948 c0_i32_1451
  let c0_i32_1452 : BitVec 32 := 0#32
  let v1951 : BitVec 1 := Scalar.cmpi .slt v1947 c0_i32_1452
  let v1952 : BitVec 1 := Scalar.xori v1950 v1951
  let c0_i32_1450 : BitVec 32 := 0#32
  let v1949 : BitVec 1 := Scalar.cmpi .ne v1948 c0_i32_1450
  let v1953 : BitVec 1 := Scalar.andi v1952 v1949
  let v1954 : BitVec 32 := Scalar.addi v1948 v1947
  let v1955 : BitVec 32 := Scalar.select v1953 v1954 v1948
  let v1956 : BitVec 32 := Scalar.select v1942 v1943 v1955
  let c256_i32_1543 : BitVec 32 := 256#32
  let v2072 : BitVec 32 := Scalar.muli v1956 c256_i32_1543
  let c128_i32_1544 : BitVec 32 := 128#32
  let v2073 : BitVec 32 := Scalar.addi v2072 c128_i32_1544
  let v2074 : Index := Scalar.indexCast v2073
  let c0_1545 : Index := 0#32
  ![v2074.toNat, 0]
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c2_i32_1437 : BitVec 32 := 2#32
  let c0_i32_1438 : BitVec 32 := 0#32
  let v1932 : BitVec 1 := Scalar.cmpi .eq c2_i32_1437 c0_i32_1438
  let c1_i32_1439 : BitVec 32 := 1#32
  let v1933 : BitVec 32 := Scalar.select v1932 c1_i32_1439 c2_i32_1437
  let v1934 : BitVec 32 := Scalar.remsi v1796 v1933
  let c0_i32_1441 : BitVec 32 := 0#32
  let v1936 : BitVec 1 := Scalar.cmpi .slt v1934 c0_i32_1441
  let c0_i32_1442 : BitVec 32 := 0#32
  let v1937 : BitVec 1 := Scalar.cmpi .slt v1933 c0_i32_1442
  let v1938 : BitVec 1 := Scalar.xori v1936 v1937
  let c0_i32_1440 : BitVec 32 := 0#32
  let v1935 : BitVec 1 := Scalar.cmpi .ne v1934 c0_i32_1440
  let v1939 : BitVec 1 := Scalar.andi v1938 v1935
  let v1940 : BitVec 32 := Scalar.addi v1934 v1933
  let v1941 : BitVec 32 := Scalar.select v1939 v1940 v1934
  let c0_i32_1443 : BitVec 32 := 0#32
  let v1942 : BitVec 1 := Scalar.cmpi .eq v1941 c0_i32_1443
  let c1_i32_1444 : BitVec 32 := 1#32
  let v1943 : BitVec 32 := Scalar.addi v1796 c1_i32_1444
  let c16_i32_1445 : BitVec 32 := 16#32
  let v1944 : BitVec 32 := Scalar.addi v1796 c16_i32_1445
  let c3_i32_1446 : BitVec 32 := 3#32
  let v1945 : BitVec 32 := Scalar.subi v1944 c3_i32_1446
  let c16_i32_1447 : BitVec 32 := 16#32
  let c0_i32_1448 : BitVec 32 := 0#32
  let v1946 : BitVec 1 := Scalar.cmpi .eq c16_i32_1447 c0_i32_1448
  let c1_i32_1449 : BitVec 32 := 1#32
  let v1947 : BitVec 32 := Scalar.select v1946 c1_i32_1449 c16_i32_1447
  let v1948 : BitVec 32 := Scalar.remsi v1945 v1947
  let c0_i32_1451 : BitVec 32 := 0#32
  let v1950 : BitVec 1 := Scalar.cmpi .slt v1948 c0_i32_1451
  let c0_i32_1452 : BitVec 32 := 0#32
  let v1951 : BitVec 1 := Scalar.cmpi .slt v1947 c0_i32_1452
  let v1952 : BitVec 1 := Scalar.xori v1950 v1951
  let c0_i32_1450 : BitVec 32 := 0#32
  let v1949 : BitVec 1 := Scalar.cmpi .ne v1948 c0_i32_1450
  let v1953 : BitVec 1 := Scalar.andi v1952 v1949
  let v1954 : BitVec 32 := Scalar.addi v1948 v1947
  let v1955 : BitVec 32 := Scalar.select v1953 v1954 v1948
  let v1956 : BitVec 32 := Scalar.select v1942 v1943 v1955
  let c256_i32_1543 : BitVec 32 := 256#32
  let v2072 : BitVec 32 := Scalar.muli v1956 c256_i32_1543
  let c128_i32_1544 : BitVec 32 := 128#32
  let v2073 : BitVec 32 := Scalar.addi v2072 c128_i32_1544
  let v2078 : Index := Scalar.indexCast v2073
  let c0_1549 : Index := 0#32
  ![v2078.toNat, 0]
def k0_dev57 (d0 : Dev nD) : Nat :=
  let c0_i32_1590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1589 : BitVec 32 := 1#32
  let v2135 : BitVec 32 := Scalar.muli v24 c1_i32_1589
  let v2136 : BitVec 32 := Scalar.addi c0_i32_1590 v2135
  v2136.toNat
def k0_off58 (d0 : Dev nD) (c0_i32_1599 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c2_i32_1437 : BitVec 32 := 2#32
  let c0_i32_1438 : BitVec 32 := 0#32
  let v1932 : BitVec 1 := Scalar.cmpi .eq c2_i32_1437 c0_i32_1438
  let c1_i32_1439 : BitVec 32 := 1#32
  let v1933 : BitVec 32 := Scalar.select v1932 c1_i32_1439 c2_i32_1437
  let v1934 : BitVec 32 := Scalar.remsi v1796 v1933
  let c0_i32_1441 : BitVec 32 := 0#32
  let v1936 : BitVec 1 := Scalar.cmpi .slt v1934 c0_i32_1441
  let c0_i32_1442 : BitVec 32 := 0#32
  let v1937 : BitVec 1 := Scalar.cmpi .slt v1933 c0_i32_1442
  let v1938 : BitVec 1 := Scalar.xori v1936 v1937
  let c0_i32_1440 : BitVec 32 := 0#32
  let v1935 : BitVec 1 := Scalar.cmpi .ne v1934 c0_i32_1440
  let v1939 : BitVec 1 := Scalar.andi v1938 v1935
  let v1940 : BitVec 32 := Scalar.addi v1934 v1933
  let v1941 : BitVec 32 := Scalar.select v1939 v1940 v1934
  let c0_i32_1443 : BitVec 32 := 0#32
  let v1942 : BitVec 1 := Scalar.cmpi .eq v1941 c0_i32_1443
  let c1_i32_1444 : BitVec 32 := 1#32
  let v1943 : BitVec 32 := Scalar.addi v1796 c1_i32_1444
  let c16_i32_1445 : BitVec 32 := 16#32
  let v1944 : BitVec 32 := Scalar.addi v1796 c16_i32_1445
  let c3_i32_1446 : BitVec 32 := 3#32
  let v1945 : BitVec 32 := Scalar.subi v1944 c3_i32_1446
  let c16_i32_1447 : BitVec 32 := 16#32
  let c0_i32_1448 : BitVec 32 := 0#32
  let v1946 : BitVec 1 := Scalar.cmpi .eq c16_i32_1447 c0_i32_1448
  let c1_i32_1449 : BitVec 32 := 1#32
  let v1947 : BitVec 32 := Scalar.select v1946 c1_i32_1449 c16_i32_1447
  let v1948 : BitVec 32 := Scalar.remsi v1945 v1947
  let c0_i32_1451 : BitVec 32 := 0#32
  let v1950 : BitVec 1 := Scalar.cmpi .slt v1948 c0_i32_1451
  let c0_i32_1452 : BitVec 32 := 0#32
  let v1951 : BitVec 1 := Scalar.cmpi .slt v1947 c0_i32_1452
  let v1952 : BitVec 1 := Scalar.xori v1950 v1951
  let c0_i32_1450 : BitVec 32 := 0#32
  let v1949 : BitVec 1 := Scalar.cmpi .ne v1948 c0_i32_1450
  let v1953 : BitVec 1 := Scalar.andi v1952 v1949
  let v1954 : BitVec 32 := Scalar.addi v1948 v1947
  let v1955 : BitVec 32 := Scalar.select v1953 v1954 v1948
  let v1956 : BitVec 32 := Scalar.select v1942 v1943 v1955
  let c2_i32_1557 : BitVec 32 := 2#32
  let c0_i32_1558 : BitVec 32 := 0#32
  let v2092 : BitVec 1 := Scalar.cmpi .eq c2_i32_1557 c0_i32_1558
  let c1_i32_1559 : BitVec 32 := 1#32
  let v2093 : BitVec 32 := Scalar.select v2092 c1_i32_1559 c2_i32_1557
  let v2094 : BitVec 32 := Scalar.remsi v1956 v2093
  let c0_i32_1561 : BitVec 32 := 0#32
  let v2096 : BitVec 1 := Scalar.cmpi .slt v2094 c0_i32_1561
  let c0_i32_1562 : BitVec 32 := 0#32
  let v2097 : BitVec 1 := Scalar.cmpi .slt v2093 c0_i32_1562
  let v2098 : BitVec 1 := Scalar.xori v2096 v2097
  let c0_i32_1560 : BitVec 32 := 0#32
  let v2095 : BitVec 1 := Scalar.cmpi .ne v2094 c0_i32_1560
  let v2099 : BitVec 1 := Scalar.andi v2098 v2095
  let v2100 : BitVec 32 := Scalar.addi v2094 v2093
  let v2101 : BitVec 32 := Scalar.select v2099 v2100 v2094
  let c0_i32_1563 : BitVec 32 := 0#32
  let v2102 : BitVec 1 := Scalar.cmpi .eq v2101 c0_i32_1563
  let c1_i32_1564 : BitVec 32 := 1#32
  let v2103 : BitVec 32 := Scalar.addi v1956 c1_i32_1564
  let c16_i32_1565 : BitVec 32 := 16#32
  let v2104 : BitVec 32 := Scalar.addi v1956 c16_i32_1565
  let c3_i32_1566 : BitVec 32 := 3#32
  let v2105 : BitVec 32 := Scalar.subi v2104 c3_i32_1566
  let c16_i32_1567 : BitVec 32 := 16#32
  let c0_i32_1568 : BitVec 32 := 0#32
  let v2106 : BitVec 1 := Scalar.cmpi .eq c16_i32_1567 c0_i32_1568
  let c1_i32_1569 : BitVec 32 := 1#32
  let v2107 : BitVec 32 := Scalar.select v2106 c1_i32_1569 c16_i32_1567
  let v2108 : BitVec 32 := Scalar.remsi v2105 v2107
  let c0_i32_1571 : BitVec 32 := 0#32
  let v2110 : BitVec 1 := Scalar.cmpi .slt v2108 c0_i32_1571
  let c0_i32_1572 : BitVec 32 := 0#32
  let v2111 : BitVec 1 := Scalar.cmpi .slt v2107 c0_i32_1572
  let v2112 : BitVec 1 := Scalar.xori v2110 v2111
  let c0_i32_1570 : BitVec 32 := 0#32
  let v2109 : BitVec 1 := Scalar.cmpi .ne v2108 c0_i32_1570
  let v2113 : BitVec 1 := Scalar.andi v2112 v2109
  let v2114 : BitVec 32 := Scalar.addi v2108 v2107
  let v2115 : BitVec 32 := Scalar.select v2113 v2114 v2108
  let v2116 : BitVec 32 := Scalar.select v2102 v2103 v2115
  let c2_i32_1598 : BitVec 32 := 2#32
  let v2148 : BitVec 32 := Scalar.muli v2116 c2_i32_1598
  let v2149 : BitVec 32 := Scalar.addi v2148 c0_i32_1599
  ![v2149.toNat]
def k0_off59 (d0 : Dev nD) (c0_i32_1595 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c2_i32_1437 : BitVec 32 := 2#32
  let c0_i32_1438 : BitVec 32 := 0#32
  let v1932 : BitVec 1 := Scalar.cmpi .eq c2_i32_1437 c0_i32_1438
  let c1_i32_1439 : BitVec 32 := 1#32
  let v1933 : BitVec 32 := Scalar.select v1932 c1_i32_1439 c2_i32_1437
  let v1934 : BitVec 32 := Scalar.remsi v1796 v1933
  let c0_i32_1441 : BitVec 32 := 0#32
  let v1936 : BitVec 1 := Scalar.cmpi .slt v1934 c0_i32_1441
  let c0_i32_1442 : BitVec 32 := 0#32
  let v1937 : BitVec 1 := Scalar.cmpi .slt v1933 c0_i32_1442
  let v1938 : BitVec 1 := Scalar.xori v1936 v1937
  let c0_i32_1440 : BitVec 32 := 0#32
  let v1935 : BitVec 1 := Scalar.cmpi .ne v1934 c0_i32_1440
  let v1939 : BitVec 1 := Scalar.andi v1938 v1935
  let v1940 : BitVec 32 := Scalar.addi v1934 v1933
  let v1941 : BitVec 32 := Scalar.select v1939 v1940 v1934
  let c0_i32_1443 : BitVec 32 := 0#32
  let v1942 : BitVec 1 := Scalar.cmpi .eq v1941 c0_i32_1443
  let c1_i32_1444 : BitVec 32 := 1#32
  let v1943 : BitVec 32 := Scalar.addi v1796 c1_i32_1444
  let c16_i32_1445 : BitVec 32 := 16#32
  let v1944 : BitVec 32 := Scalar.addi v1796 c16_i32_1445
  let c3_i32_1446 : BitVec 32 := 3#32
  let v1945 : BitVec 32 := Scalar.subi v1944 c3_i32_1446
  let c16_i32_1447 : BitVec 32 := 16#32
  let c0_i32_1448 : BitVec 32 := 0#32
  let v1946 : BitVec 1 := Scalar.cmpi .eq c16_i32_1447 c0_i32_1448
  let c1_i32_1449 : BitVec 32 := 1#32
  let v1947 : BitVec 32 := Scalar.select v1946 c1_i32_1449 c16_i32_1447
  let v1948 : BitVec 32 := Scalar.remsi v1945 v1947
  let c0_i32_1451 : BitVec 32 := 0#32
  let v1950 : BitVec 1 := Scalar.cmpi .slt v1948 c0_i32_1451
  let c0_i32_1452 : BitVec 32 := 0#32
  let v1951 : BitVec 1 := Scalar.cmpi .slt v1947 c0_i32_1452
  let v1952 : BitVec 1 := Scalar.xori v1950 v1951
  let c0_i32_1450 : BitVec 32 := 0#32
  let v1949 : BitVec 1 := Scalar.cmpi .ne v1948 c0_i32_1450
  let v1953 : BitVec 1 := Scalar.andi v1952 v1949
  let v1954 : BitVec 32 := Scalar.addi v1948 v1947
  let v1955 : BitVec 32 := Scalar.select v1953 v1954 v1948
  let v1956 : BitVec 32 := Scalar.select v1942 v1943 v1955
  let c2_i32_1557 : BitVec 32 := 2#32
  let c0_i32_1558 : BitVec 32 := 0#32
  let v2092 : BitVec 1 := Scalar.cmpi .eq c2_i32_1557 c0_i32_1558
  let c1_i32_1559 : BitVec 32 := 1#32
  let v2093 : BitVec 32 := Scalar.select v2092 c1_i32_1559 c2_i32_1557
  let v2094 : BitVec 32 := Scalar.remsi v1956 v2093
  let c0_i32_1561 : BitVec 32 := 0#32
  let v2096 : BitVec 1 := Scalar.cmpi .slt v2094 c0_i32_1561
  let c0_i32_1562 : BitVec 32 := 0#32
  let v2097 : BitVec 1 := Scalar.cmpi .slt v2093 c0_i32_1562
  let v2098 : BitVec 1 := Scalar.xori v2096 v2097
  let c0_i32_1560 : BitVec 32 := 0#32
  let v2095 : BitVec 1 := Scalar.cmpi .ne v2094 c0_i32_1560
  let v2099 : BitVec 1 := Scalar.andi v2098 v2095
  let v2100 : BitVec 32 := Scalar.addi v2094 v2093
  let v2101 : BitVec 32 := Scalar.select v2099 v2100 v2094
  let c0_i32_1563 : BitVec 32 := 0#32
  let v2102 : BitVec 1 := Scalar.cmpi .eq v2101 c0_i32_1563
  let c1_i32_1564 : BitVec 32 := 1#32
  let v2103 : BitVec 32 := Scalar.addi v1956 c1_i32_1564
  let c16_i32_1565 : BitVec 32 := 16#32
  let v2104 : BitVec 32 := Scalar.addi v1956 c16_i32_1565
  let c3_i32_1566 : BitVec 32 := 3#32
  let v2105 : BitVec 32 := Scalar.subi v2104 c3_i32_1566
  let c16_i32_1567 : BitVec 32 := 16#32
  let c0_i32_1568 : BitVec 32 := 0#32
  let v2106 : BitVec 1 := Scalar.cmpi .eq c16_i32_1567 c0_i32_1568
  let c1_i32_1569 : BitVec 32 := 1#32
  let v2107 : BitVec 32 := Scalar.select v2106 c1_i32_1569 c16_i32_1567
  let v2108 : BitVec 32 := Scalar.remsi v2105 v2107
  let c0_i32_1571 : BitVec 32 := 0#32
  let v2110 : BitVec 1 := Scalar.cmpi .slt v2108 c0_i32_1571
  let c0_i32_1572 : BitVec 32 := 0#32
  let v2111 : BitVec 1 := Scalar.cmpi .slt v2107 c0_i32_1572
  let v2112 : BitVec 1 := Scalar.xori v2110 v2111
  let c0_i32_1570 : BitVec 32 := 0#32
  let v2109 : BitVec 1 := Scalar.cmpi .ne v2108 c0_i32_1570
  let v2113 : BitVec 1 := Scalar.andi v2112 v2109
  let v2114 : BitVec 32 := Scalar.addi v2108 v2107
  let v2115 : BitVec 32 := Scalar.select v2113 v2114 v2108
  let v2116 : BitVec 32 := Scalar.select v2102 v2103 v2115
  let c256_i32_1593 : BitVec 32 := 256#32
  let v2143 : BitVec 32 := Scalar.muli v2116 c256_i32_1593
  let c128_i32_1594 : BitVec 32 := 128#32
  let v2144 : BitVec 32 := Scalar.addi v2143 c128_i32_1594
  let v2145 : BitVec 32 := Scalar.addi v2144 c0_i32_1595
  let c0_i32_1602 : BitVec 32 := 0#32
  ![v2145.toNat, 0]
def k0_dev58 (d0 : Dev nD) : Nat :=
  let c0_i32_1612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_1611 : BitVec 32 := 1#32
  let v2163 : BitVec 32 := Scalar.muli v73 c1_i32_1611
  let v2164 : BitVec 32 := Scalar.addi c0_i32_1612 v2163
  v2164.toNat
def k0_dev59 (d0 : Dev nD) : Nat :=
  let c0_i32_1632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1631 : BitVec 32 := 1#32
  let v2189 : BitVec 32 := Scalar.muli v24 c1_i32_1631
  let v2190 : BitVec 32 := Scalar.addi c0_i32_1632 v2189
  v2190.toNat
def k0_dev60 (d0 : Dev nD) : Nat :=
  let c0_i32_1654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_1653 : BitVec 32 := 1#32
  let v2217 : BitVec 32 := Scalar.muli v73 c1_i32_1653
  let v2218 : BitVec 32 := Scalar.addi c0_i32_1654 v2217
  v2218.toNat
def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c2_i32_1437 : BitVec 32 := 2#32
  let c0_i32_1438 : BitVec 32 := 0#32
  let v1932 : BitVec 1 := Scalar.cmpi .eq c2_i32_1437 c0_i32_1438
  let c1_i32_1439 : BitVec 32 := 1#32
  let v1933 : BitVec 32 := Scalar.select v1932 c1_i32_1439 c2_i32_1437
  let v1934 : BitVec 32 := Scalar.remsi v1796 v1933
  let c0_i32_1441 : BitVec 32 := 0#32
  let v1936 : BitVec 1 := Scalar.cmpi .slt v1934 c0_i32_1441
  let c0_i32_1442 : BitVec 32 := 0#32
  let v1937 : BitVec 1 := Scalar.cmpi .slt v1933 c0_i32_1442
  let v1938 : BitVec 1 := Scalar.xori v1936 v1937
  let c0_i32_1440 : BitVec 32 := 0#32
  let v1935 : BitVec 1 := Scalar.cmpi .ne v1934 c0_i32_1440
  let v1939 : BitVec 1 := Scalar.andi v1938 v1935
  let v1940 : BitVec 32 := Scalar.addi v1934 v1933
  let v1941 : BitVec 32 := Scalar.select v1939 v1940 v1934
  let c0_i32_1443 : BitVec 32 := 0#32
  let v1942 : BitVec 1 := Scalar.cmpi .eq v1941 c0_i32_1443
  let c1_i32_1444 : BitVec 32 := 1#32
  let v1943 : BitVec 32 := Scalar.addi v1796 c1_i32_1444
  let c16_i32_1445 : BitVec 32 := 16#32
  let v1944 : BitVec 32 := Scalar.addi v1796 c16_i32_1445
  let c3_i32_1446 : BitVec 32 := 3#32
  let v1945 : BitVec 32 := Scalar.subi v1944 c3_i32_1446
  let c16_i32_1447 : BitVec 32 := 16#32
  let c0_i32_1448 : BitVec 32 := 0#32
  let v1946 : BitVec 1 := Scalar.cmpi .eq c16_i32_1447 c0_i32_1448
  let c1_i32_1449 : BitVec 32 := 1#32
  let v1947 : BitVec 32 := Scalar.select v1946 c1_i32_1449 c16_i32_1447
  let v1948 : BitVec 32 := Scalar.remsi v1945 v1947
  let c0_i32_1451 : BitVec 32 := 0#32
  let v1950 : BitVec 1 := Scalar.cmpi .slt v1948 c0_i32_1451
  let c0_i32_1452 : BitVec 32 := 0#32
  let v1951 : BitVec 1 := Scalar.cmpi .slt v1947 c0_i32_1452
  let v1952 : BitVec 1 := Scalar.xori v1950 v1951
  let c0_i32_1450 : BitVec 32 := 0#32
  let v1949 : BitVec 1 := Scalar.cmpi .ne v1948 c0_i32_1450
  let v1953 : BitVec 1 := Scalar.andi v1952 v1949
  let v1954 : BitVec 32 := Scalar.addi v1948 v1947
  let v1955 : BitVec 32 := Scalar.select v1953 v1954 v1948
  let v1956 : BitVec 32 := Scalar.select v1942 v1943 v1955
  let c2_i32_1557 : BitVec 32 := 2#32
  let c0_i32_1558 : BitVec 32 := 0#32
  let v2092 : BitVec 1 := Scalar.cmpi .eq c2_i32_1557 c0_i32_1558
  let c1_i32_1559 : BitVec 32 := 1#32
  let v2093 : BitVec 32 := Scalar.select v2092 c1_i32_1559 c2_i32_1557
  let v2094 : BitVec 32 := Scalar.remsi v1956 v2093
  let c0_i32_1561 : BitVec 32 := 0#32
  let v2096 : BitVec 1 := Scalar.cmpi .slt v2094 c0_i32_1561
  let c0_i32_1562 : BitVec 32 := 0#32
  let v2097 : BitVec 1 := Scalar.cmpi .slt v2093 c0_i32_1562
  let v2098 : BitVec 1 := Scalar.xori v2096 v2097
  let c0_i32_1560 : BitVec 32 := 0#32
  let v2095 : BitVec 1 := Scalar.cmpi .ne v2094 c0_i32_1560
  let v2099 : BitVec 1 := Scalar.andi v2098 v2095
  let v2100 : BitVec 32 := Scalar.addi v2094 v2093
  let v2101 : BitVec 32 := Scalar.select v2099 v2100 v2094
  let c0_i32_1563 : BitVec 32 := 0#32
  let v2102 : BitVec 1 := Scalar.cmpi .eq v2101 c0_i32_1563
  let c1_i32_1564 : BitVec 32 := 1#32
  let v2103 : BitVec 32 := Scalar.addi v1956 c1_i32_1564
  let c16_i32_1565 : BitVec 32 := 16#32
  let v2104 : BitVec 32 := Scalar.addi v1956 c16_i32_1565
  let c3_i32_1566 : BitVec 32 := 3#32
  let v2105 : BitVec 32 := Scalar.subi v2104 c3_i32_1566
  let c16_i32_1567 : BitVec 32 := 16#32
  let c0_i32_1568 : BitVec 32 := 0#32
  let v2106 : BitVec 1 := Scalar.cmpi .eq c16_i32_1567 c0_i32_1568
  let c1_i32_1569 : BitVec 32 := 1#32
  let v2107 : BitVec 32 := Scalar.select v2106 c1_i32_1569 c16_i32_1567
  let v2108 : BitVec 32 := Scalar.remsi v2105 v2107
  let c0_i32_1571 : BitVec 32 := 0#32
  let v2110 : BitVec 1 := Scalar.cmpi .slt v2108 c0_i32_1571
  let c0_i32_1572 : BitVec 32 := 0#32
  let v2111 : BitVec 1 := Scalar.cmpi .slt v2107 c0_i32_1572
  let v2112 : BitVec 1 := Scalar.xori v2110 v2111
  let c0_i32_1570 : BitVec 32 := 0#32
  let v2109 : BitVec 1 := Scalar.cmpi .ne v2108 c0_i32_1570
  let v2113 : BitVec 1 := Scalar.andi v2112 v2109
  let v2114 : BitVec 32 := Scalar.addi v2108 v2107
  let v2115 : BitVec 32 := Scalar.select v2113 v2114 v2108
  let v2116 : BitVec 32 := Scalar.select v2102 v2103 v2115
  let c256_i32_1663 : BitVec 32 := 256#32
  let v2232 : BitVec 32 := Scalar.muli v2116 c256_i32_1663
  let c128_i32_1664 : BitVec 32 := 128#32
  let v2233 : BitVec 32 := Scalar.addi v2232 c128_i32_1664
  let v2234 : Index := Scalar.indexCast v2233
  let c0_1665 : Index := 0#32
  ![v2234.toNat, 0]
def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c2_i32_1437 : BitVec 32 := 2#32
  let c0_i32_1438 : BitVec 32 := 0#32
  let v1932 : BitVec 1 := Scalar.cmpi .eq c2_i32_1437 c0_i32_1438
  let c1_i32_1439 : BitVec 32 := 1#32
  let v1933 : BitVec 32 := Scalar.select v1932 c1_i32_1439 c2_i32_1437
  let v1934 : BitVec 32 := Scalar.remsi v1796 v1933
  let c0_i32_1441 : BitVec 32 := 0#32
  let v1936 : BitVec 1 := Scalar.cmpi .slt v1934 c0_i32_1441
  let c0_i32_1442 : BitVec 32 := 0#32
  let v1937 : BitVec 1 := Scalar.cmpi .slt v1933 c0_i32_1442
  let v1938 : BitVec 1 := Scalar.xori v1936 v1937
  let c0_i32_1440 : BitVec 32 := 0#32
  let v1935 : BitVec 1 := Scalar.cmpi .ne v1934 c0_i32_1440
  let v1939 : BitVec 1 := Scalar.andi v1938 v1935
  let v1940 : BitVec 32 := Scalar.addi v1934 v1933
  let v1941 : BitVec 32 := Scalar.select v1939 v1940 v1934
  let c0_i32_1443 : BitVec 32 := 0#32
  let v1942 : BitVec 1 := Scalar.cmpi .eq v1941 c0_i32_1443
  let c1_i32_1444 : BitVec 32 := 1#32
  let v1943 : BitVec 32 := Scalar.addi v1796 c1_i32_1444
  let c16_i32_1445 : BitVec 32 := 16#32
  let v1944 : BitVec 32 := Scalar.addi v1796 c16_i32_1445
  let c3_i32_1446 : BitVec 32 := 3#32
  let v1945 : BitVec 32 := Scalar.subi v1944 c3_i32_1446
  let c16_i32_1447 : BitVec 32 := 16#32
  let c0_i32_1448 : BitVec 32 := 0#32
  let v1946 : BitVec 1 := Scalar.cmpi .eq c16_i32_1447 c0_i32_1448
  let c1_i32_1449 : BitVec 32 := 1#32
  let v1947 : BitVec 32 := Scalar.select v1946 c1_i32_1449 c16_i32_1447
  let v1948 : BitVec 32 := Scalar.remsi v1945 v1947
  let c0_i32_1451 : BitVec 32 := 0#32
  let v1950 : BitVec 1 := Scalar.cmpi .slt v1948 c0_i32_1451
  let c0_i32_1452 : BitVec 32 := 0#32
  let v1951 : BitVec 1 := Scalar.cmpi .slt v1947 c0_i32_1452
  let v1952 : BitVec 1 := Scalar.xori v1950 v1951
  let c0_i32_1450 : BitVec 32 := 0#32
  let v1949 : BitVec 1 := Scalar.cmpi .ne v1948 c0_i32_1450
  let v1953 : BitVec 1 := Scalar.andi v1952 v1949
  let v1954 : BitVec 32 := Scalar.addi v1948 v1947
  let v1955 : BitVec 32 := Scalar.select v1953 v1954 v1948
  let v1956 : BitVec 32 := Scalar.select v1942 v1943 v1955
  let c2_i32_1557 : BitVec 32 := 2#32
  let c0_i32_1558 : BitVec 32 := 0#32
  let v2092 : BitVec 1 := Scalar.cmpi .eq c2_i32_1557 c0_i32_1558
  let c1_i32_1559 : BitVec 32 := 1#32
  let v2093 : BitVec 32 := Scalar.select v2092 c1_i32_1559 c2_i32_1557
  let v2094 : BitVec 32 := Scalar.remsi v1956 v2093
  let c0_i32_1561 : BitVec 32 := 0#32
  let v2096 : BitVec 1 := Scalar.cmpi .slt v2094 c0_i32_1561
  let c0_i32_1562 : BitVec 32 := 0#32
  let v2097 : BitVec 1 := Scalar.cmpi .slt v2093 c0_i32_1562
  let v2098 : BitVec 1 := Scalar.xori v2096 v2097
  let c0_i32_1560 : BitVec 32 := 0#32
  let v2095 : BitVec 1 := Scalar.cmpi .ne v2094 c0_i32_1560
  let v2099 : BitVec 1 := Scalar.andi v2098 v2095
  let v2100 : BitVec 32 := Scalar.addi v2094 v2093
  let v2101 : BitVec 32 := Scalar.select v2099 v2100 v2094
  let c0_i32_1563 : BitVec 32 := 0#32
  let v2102 : BitVec 1 := Scalar.cmpi .eq v2101 c0_i32_1563
  let c1_i32_1564 : BitVec 32 := 1#32
  let v2103 : BitVec 32 := Scalar.addi v1956 c1_i32_1564
  let c16_i32_1565 : BitVec 32 := 16#32
  let v2104 : BitVec 32 := Scalar.addi v1956 c16_i32_1565
  let c3_i32_1566 : BitVec 32 := 3#32
  let v2105 : BitVec 32 := Scalar.subi v2104 c3_i32_1566
  let c16_i32_1567 : BitVec 32 := 16#32
  let c0_i32_1568 : BitVec 32 := 0#32
  let v2106 : BitVec 1 := Scalar.cmpi .eq c16_i32_1567 c0_i32_1568
  let c1_i32_1569 : BitVec 32 := 1#32
  let v2107 : BitVec 32 := Scalar.select v2106 c1_i32_1569 c16_i32_1567
  let v2108 : BitVec 32 := Scalar.remsi v2105 v2107
  let c0_i32_1571 : BitVec 32 := 0#32
  let v2110 : BitVec 1 := Scalar.cmpi .slt v2108 c0_i32_1571
  let c0_i32_1572 : BitVec 32 := 0#32
  let v2111 : BitVec 1 := Scalar.cmpi .slt v2107 c0_i32_1572
  let v2112 : BitVec 1 := Scalar.xori v2110 v2111
  let c0_i32_1570 : BitVec 32 := 0#32
  let v2109 : BitVec 1 := Scalar.cmpi .ne v2108 c0_i32_1570
  let v2113 : BitVec 1 := Scalar.andi v2112 v2109
  let v2114 : BitVec 32 := Scalar.addi v2108 v2107
  let v2115 : BitVec 32 := Scalar.select v2113 v2114 v2108
  let v2116 : BitVec 32 := Scalar.select v2102 v2103 v2115
  let c256_i32_1663 : BitVec 32 := 256#32
  let v2232 : BitVec 32 := Scalar.muli v2116 c256_i32_1663
  let c128_i32_1664 : BitVec 32 := 128#32
  let v2233 : BitVec 32 := Scalar.addi v2232 c128_i32_1664
  let v2238 : Index := Scalar.indexCast v2233
  let c0_1669 : Index := 0#32
  ![v2238.toNat, 0]
def k0_dev61 (d0 : Dev nD) : Nat :=
  let c0_i32_1710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1709 : BitVec 32 := 1#32
  let v2295 : BitVec 32 := Scalar.muli v24 c1_i32_1709
  let v2296 : BitVec 32 := Scalar.addi c0_i32_1710 v2295
  v2296.toNat
def k0_off62 (d0 : Dev nD) (c0_i32_1719 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c2_i32_1437 : BitVec 32 := 2#32
  let c0_i32_1438 : BitVec 32 := 0#32
  let v1932 : BitVec 1 := Scalar.cmpi .eq c2_i32_1437 c0_i32_1438
  let c1_i32_1439 : BitVec 32 := 1#32
  let v1933 : BitVec 32 := Scalar.select v1932 c1_i32_1439 c2_i32_1437
  let v1934 : BitVec 32 := Scalar.remsi v1796 v1933
  let c0_i32_1441 : BitVec 32 := 0#32
  let v1936 : BitVec 1 := Scalar.cmpi .slt v1934 c0_i32_1441
  let c0_i32_1442 : BitVec 32 := 0#32
  let v1937 : BitVec 1 := Scalar.cmpi .slt v1933 c0_i32_1442
  let v1938 : BitVec 1 := Scalar.xori v1936 v1937
  let c0_i32_1440 : BitVec 32 := 0#32
  let v1935 : BitVec 1 := Scalar.cmpi .ne v1934 c0_i32_1440
  let v1939 : BitVec 1 := Scalar.andi v1938 v1935
  let v1940 : BitVec 32 := Scalar.addi v1934 v1933
  let v1941 : BitVec 32 := Scalar.select v1939 v1940 v1934
  let c0_i32_1443 : BitVec 32 := 0#32
  let v1942 : BitVec 1 := Scalar.cmpi .eq v1941 c0_i32_1443
  let c1_i32_1444 : BitVec 32 := 1#32
  let v1943 : BitVec 32 := Scalar.addi v1796 c1_i32_1444
  let c16_i32_1445 : BitVec 32 := 16#32
  let v1944 : BitVec 32 := Scalar.addi v1796 c16_i32_1445
  let c3_i32_1446 : BitVec 32 := 3#32
  let v1945 : BitVec 32 := Scalar.subi v1944 c3_i32_1446
  let c16_i32_1447 : BitVec 32 := 16#32
  let c0_i32_1448 : BitVec 32 := 0#32
  let v1946 : BitVec 1 := Scalar.cmpi .eq c16_i32_1447 c0_i32_1448
  let c1_i32_1449 : BitVec 32 := 1#32
  let v1947 : BitVec 32 := Scalar.select v1946 c1_i32_1449 c16_i32_1447
  let v1948 : BitVec 32 := Scalar.remsi v1945 v1947
  let c0_i32_1451 : BitVec 32 := 0#32
  let v1950 : BitVec 1 := Scalar.cmpi .slt v1948 c0_i32_1451
  let c0_i32_1452 : BitVec 32 := 0#32
  let v1951 : BitVec 1 := Scalar.cmpi .slt v1947 c0_i32_1452
  let v1952 : BitVec 1 := Scalar.xori v1950 v1951
  let c0_i32_1450 : BitVec 32 := 0#32
  let v1949 : BitVec 1 := Scalar.cmpi .ne v1948 c0_i32_1450
  let v1953 : BitVec 1 := Scalar.andi v1952 v1949
  let v1954 : BitVec 32 := Scalar.addi v1948 v1947
  let v1955 : BitVec 32 := Scalar.select v1953 v1954 v1948
  let v1956 : BitVec 32 := Scalar.select v1942 v1943 v1955
  let c2_i32_1557 : BitVec 32 := 2#32
  let c0_i32_1558 : BitVec 32 := 0#32
  let v2092 : BitVec 1 := Scalar.cmpi .eq c2_i32_1557 c0_i32_1558
  let c1_i32_1559 : BitVec 32 := 1#32
  let v2093 : BitVec 32 := Scalar.select v2092 c1_i32_1559 c2_i32_1557
  let v2094 : BitVec 32 := Scalar.remsi v1956 v2093
  let c0_i32_1561 : BitVec 32 := 0#32
  let v2096 : BitVec 1 := Scalar.cmpi .slt v2094 c0_i32_1561
  let c0_i32_1562 : BitVec 32 := 0#32
  let v2097 : BitVec 1 := Scalar.cmpi .slt v2093 c0_i32_1562
  let v2098 : BitVec 1 := Scalar.xori v2096 v2097
  let c0_i32_1560 : BitVec 32 := 0#32
  let v2095 : BitVec 1 := Scalar.cmpi .ne v2094 c0_i32_1560
  let v2099 : BitVec 1 := Scalar.andi v2098 v2095
  let v2100 : BitVec 32 := Scalar.addi v2094 v2093
  let v2101 : BitVec 32 := Scalar.select v2099 v2100 v2094
  let c0_i32_1563 : BitVec 32 := 0#32
  let v2102 : BitVec 1 := Scalar.cmpi .eq v2101 c0_i32_1563
  let c1_i32_1564 : BitVec 32 := 1#32
  let v2103 : BitVec 32 := Scalar.addi v1956 c1_i32_1564
  let c16_i32_1565 : BitVec 32 := 16#32
  let v2104 : BitVec 32 := Scalar.addi v1956 c16_i32_1565
  let c3_i32_1566 : BitVec 32 := 3#32
  let v2105 : BitVec 32 := Scalar.subi v2104 c3_i32_1566
  let c16_i32_1567 : BitVec 32 := 16#32
  let c0_i32_1568 : BitVec 32 := 0#32
  let v2106 : BitVec 1 := Scalar.cmpi .eq c16_i32_1567 c0_i32_1568
  let c1_i32_1569 : BitVec 32 := 1#32
  let v2107 : BitVec 32 := Scalar.select v2106 c1_i32_1569 c16_i32_1567
  let v2108 : BitVec 32 := Scalar.remsi v2105 v2107
  let c0_i32_1571 : BitVec 32 := 0#32
  let v2110 : BitVec 1 := Scalar.cmpi .slt v2108 c0_i32_1571
  let c0_i32_1572 : BitVec 32 := 0#32
  let v2111 : BitVec 1 := Scalar.cmpi .slt v2107 c0_i32_1572
  let v2112 : BitVec 1 := Scalar.xori v2110 v2111
  let c0_i32_1570 : BitVec 32 := 0#32
  let v2109 : BitVec 1 := Scalar.cmpi .ne v2108 c0_i32_1570
  let v2113 : BitVec 1 := Scalar.andi v2112 v2109
  let v2114 : BitVec 32 := Scalar.addi v2108 v2107
  let v2115 : BitVec 32 := Scalar.select v2113 v2114 v2108
  let v2116 : BitVec 32 := Scalar.select v2102 v2103 v2115
  let c2_i32_1677 : BitVec 32 := 2#32
  let c0_i32_1678 : BitVec 32 := 0#32
  let v2252 : BitVec 1 := Scalar.cmpi .eq c2_i32_1677 c0_i32_1678
  let c1_i32_1679 : BitVec 32 := 1#32
  let v2253 : BitVec 32 := Scalar.select v2252 c1_i32_1679 c2_i32_1677
  let v2254 : BitVec 32 := Scalar.remsi v2116 v2253
  let c0_i32_1681 : BitVec 32 := 0#32
  let v2256 : BitVec 1 := Scalar.cmpi .slt v2254 c0_i32_1681
  let c0_i32_1682 : BitVec 32 := 0#32
  let v2257 : BitVec 1 := Scalar.cmpi .slt v2253 c0_i32_1682
  let v2258 : BitVec 1 := Scalar.xori v2256 v2257
  let c0_i32_1680 : BitVec 32 := 0#32
  let v2255 : BitVec 1 := Scalar.cmpi .ne v2254 c0_i32_1680
  let v2259 : BitVec 1 := Scalar.andi v2258 v2255
  let v2260 : BitVec 32 := Scalar.addi v2254 v2253
  let v2261 : BitVec 32 := Scalar.select v2259 v2260 v2254
  let c0_i32_1683 : BitVec 32 := 0#32
  let v2262 : BitVec 1 := Scalar.cmpi .eq v2261 c0_i32_1683
  let c1_i32_1684 : BitVec 32 := 1#32
  let v2263 : BitVec 32 := Scalar.addi v2116 c1_i32_1684
  let c16_i32_1685 : BitVec 32 := 16#32
  let v2264 : BitVec 32 := Scalar.addi v2116 c16_i32_1685
  let c3_i32_1686 : BitVec 32 := 3#32
  let v2265 : BitVec 32 := Scalar.subi v2264 c3_i32_1686
  let c16_i32_1687 : BitVec 32 := 16#32
  let c0_i32_1688 : BitVec 32 := 0#32
  let v2266 : BitVec 1 := Scalar.cmpi .eq c16_i32_1687 c0_i32_1688
  let c1_i32_1689 : BitVec 32 := 1#32
  let v2267 : BitVec 32 := Scalar.select v2266 c1_i32_1689 c16_i32_1687
  let v2268 : BitVec 32 := Scalar.remsi v2265 v2267
  let c0_i32_1691 : BitVec 32 := 0#32
  let v2270 : BitVec 1 := Scalar.cmpi .slt v2268 c0_i32_1691
  let c0_i32_1692 : BitVec 32 := 0#32
  let v2271 : BitVec 1 := Scalar.cmpi .slt v2267 c0_i32_1692
  let v2272 : BitVec 1 := Scalar.xori v2270 v2271
  let c0_i32_1690 : BitVec 32 := 0#32
  let v2269 : BitVec 1 := Scalar.cmpi .ne v2268 c0_i32_1690
  let v2273 : BitVec 1 := Scalar.andi v2272 v2269
  let v2274 : BitVec 32 := Scalar.addi v2268 v2267
  let v2275 : BitVec 32 := Scalar.select v2273 v2274 v2268
  let v2276 : BitVec 32 := Scalar.select v2262 v2263 v2275
  let c2_i32_1718 : BitVec 32 := 2#32
  let v2308 : BitVec 32 := Scalar.muli v2276 c2_i32_1718
  let v2309 : BitVec 32 := Scalar.addi v2308 c0_i32_1719
  ![v2309.toNat]
def k0_off63 (d0 : Dev nD) (c0_i32_1715 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c2_i32_1437 : BitVec 32 := 2#32
  let c0_i32_1438 : BitVec 32 := 0#32
  let v1932 : BitVec 1 := Scalar.cmpi .eq c2_i32_1437 c0_i32_1438
  let c1_i32_1439 : BitVec 32 := 1#32
  let v1933 : BitVec 32 := Scalar.select v1932 c1_i32_1439 c2_i32_1437
  let v1934 : BitVec 32 := Scalar.remsi v1796 v1933
  let c0_i32_1441 : BitVec 32 := 0#32
  let v1936 : BitVec 1 := Scalar.cmpi .slt v1934 c0_i32_1441
  let c0_i32_1442 : BitVec 32 := 0#32
  let v1937 : BitVec 1 := Scalar.cmpi .slt v1933 c0_i32_1442
  let v1938 : BitVec 1 := Scalar.xori v1936 v1937
  let c0_i32_1440 : BitVec 32 := 0#32
  let v1935 : BitVec 1 := Scalar.cmpi .ne v1934 c0_i32_1440
  let v1939 : BitVec 1 := Scalar.andi v1938 v1935
  let v1940 : BitVec 32 := Scalar.addi v1934 v1933
  let v1941 : BitVec 32 := Scalar.select v1939 v1940 v1934
  let c0_i32_1443 : BitVec 32 := 0#32
  let v1942 : BitVec 1 := Scalar.cmpi .eq v1941 c0_i32_1443
  let c1_i32_1444 : BitVec 32 := 1#32
  let v1943 : BitVec 32 := Scalar.addi v1796 c1_i32_1444
  let c16_i32_1445 : BitVec 32 := 16#32
  let v1944 : BitVec 32 := Scalar.addi v1796 c16_i32_1445
  let c3_i32_1446 : BitVec 32 := 3#32
  let v1945 : BitVec 32 := Scalar.subi v1944 c3_i32_1446
  let c16_i32_1447 : BitVec 32 := 16#32
  let c0_i32_1448 : BitVec 32 := 0#32
  let v1946 : BitVec 1 := Scalar.cmpi .eq c16_i32_1447 c0_i32_1448
  let c1_i32_1449 : BitVec 32 := 1#32
  let v1947 : BitVec 32 := Scalar.select v1946 c1_i32_1449 c16_i32_1447
  let v1948 : BitVec 32 := Scalar.remsi v1945 v1947
  let c0_i32_1451 : BitVec 32 := 0#32
  let v1950 : BitVec 1 := Scalar.cmpi .slt v1948 c0_i32_1451
  let c0_i32_1452 : BitVec 32 := 0#32
  let v1951 : BitVec 1 := Scalar.cmpi .slt v1947 c0_i32_1452
  let v1952 : BitVec 1 := Scalar.xori v1950 v1951
  let c0_i32_1450 : BitVec 32 := 0#32
  let v1949 : BitVec 1 := Scalar.cmpi .ne v1948 c0_i32_1450
  let v1953 : BitVec 1 := Scalar.andi v1952 v1949
  let v1954 : BitVec 32 := Scalar.addi v1948 v1947
  let v1955 : BitVec 32 := Scalar.select v1953 v1954 v1948
  let v1956 : BitVec 32 := Scalar.select v1942 v1943 v1955
  let c2_i32_1557 : BitVec 32 := 2#32
  let c0_i32_1558 : BitVec 32 := 0#32
  let v2092 : BitVec 1 := Scalar.cmpi .eq c2_i32_1557 c0_i32_1558
  let c1_i32_1559 : BitVec 32 := 1#32
  let v2093 : BitVec 32 := Scalar.select v2092 c1_i32_1559 c2_i32_1557
  let v2094 : BitVec 32 := Scalar.remsi v1956 v2093
  let c0_i32_1561 : BitVec 32 := 0#32
  let v2096 : BitVec 1 := Scalar.cmpi .slt v2094 c0_i32_1561
  let c0_i32_1562 : BitVec 32 := 0#32
  let v2097 : BitVec 1 := Scalar.cmpi .slt v2093 c0_i32_1562
  let v2098 : BitVec 1 := Scalar.xori v2096 v2097
  let c0_i32_1560 : BitVec 32 := 0#32
  let v2095 : BitVec 1 := Scalar.cmpi .ne v2094 c0_i32_1560
  let v2099 : BitVec 1 := Scalar.andi v2098 v2095
  let v2100 : BitVec 32 := Scalar.addi v2094 v2093
  let v2101 : BitVec 32 := Scalar.select v2099 v2100 v2094
  let c0_i32_1563 : BitVec 32 := 0#32
  let v2102 : BitVec 1 := Scalar.cmpi .eq v2101 c0_i32_1563
  let c1_i32_1564 : BitVec 32 := 1#32
  let v2103 : BitVec 32 := Scalar.addi v1956 c1_i32_1564
  let c16_i32_1565 : BitVec 32 := 16#32
  let v2104 : BitVec 32 := Scalar.addi v1956 c16_i32_1565
  let c3_i32_1566 : BitVec 32 := 3#32
  let v2105 : BitVec 32 := Scalar.subi v2104 c3_i32_1566
  let c16_i32_1567 : BitVec 32 := 16#32
  let c0_i32_1568 : BitVec 32 := 0#32
  let v2106 : BitVec 1 := Scalar.cmpi .eq c16_i32_1567 c0_i32_1568
  let c1_i32_1569 : BitVec 32 := 1#32
  let v2107 : BitVec 32 := Scalar.select v2106 c1_i32_1569 c16_i32_1567
  let v2108 : BitVec 32 := Scalar.remsi v2105 v2107
  let c0_i32_1571 : BitVec 32 := 0#32
  let v2110 : BitVec 1 := Scalar.cmpi .slt v2108 c0_i32_1571
  let c0_i32_1572 : BitVec 32 := 0#32
  let v2111 : BitVec 1 := Scalar.cmpi .slt v2107 c0_i32_1572
  let v2112 : BitVec 1 := Scalar.xori v2110 v2111
  let c0_i32_1570 : BitVec 32 := 0#32
  let v2109 : BitVec 1 := Scalar.cmpi .ne v2108 c0_i32_1570
  let v2113 : BitVec 1 := Scalar.andi v2112 v2109
  let v2114 : BitVec 32 := Scalar.addi v2108 v2107
  let v2115 : BitVec 32 := Scalar.select v2113 v2114 v2108
  let v2116 : BitVec 32 := Scalar.select v2102 v2103 v2115
  let c2_i32_1677 : BitVec 32 := 2#32
  let c0_i32_1678 : BitVec 32 := 0#32
  let v2252 : BitVec 1 := Scalar.cmpi .eq c2_i32_1677 c0_i32_1678
  let c1_i32_1679 : BitVec 32 := 1#32
  let v2253 : BitVec 32 := Scalar.select v2252 c1_i32_1679 c2_i32_1677
  let v2254 : BitVec 32 := Scalar.remsi v2116 v2253
  let c0_i32_1681 : BitVec 32 := 0#32
  let v2256 : BitVec 1 := Scalar.cmpi .slt v2254 c0_i32_1681
  let c0_i32_1682 : BitVec 32 := 0#32
  let v2257 : BitVec 1 := Scalar.cmpi .slt v2253 c0_i32_1682
  let v2258 : BitVec 1 := Scalar.xori v2256 v2257
  let c0_i32_1680 : BitVec 32 := 0#32
  let v2255 : BitVec 1 := Scalar.cmpi .ne v2254 c0_i32_1680
  let v2259 : BitVec 1 := Scalar.andi v2258 v2255
  let v2260 : BitVec 32 := Scalar.addi v2254 v2253
  let v2261 : BitVec 32 := Scalar.select v2259 v2260 v2254
  let c0_i32_1683 : BitVec 32 := 0#32
  let v2262 : BitVec 1 := Scalar.cmpi .eq v2261 c0_i32_1683
  let c1_i32_1684 : BitVec 32 := 1#32
  let v2263 : BitVec 32 := Scalar.addi v2116 c1_i32_1684
  let c16_i32_1685 : BitVec 32 := 16#32
  let v2264 : BitVec 32 := Scalar.addi v2116 c16_i32_1685
  let c3_i32_1686 : BitVec 32 := 3#32
  let v2265 : BitVec 32 := Scalar.subi v2264 c3_i32_1686
  let c16_i32_1687 : BitVec 32 := 16#32
  let c0_i32_1688 : BitVec 32 := 0#32
  let v2266 : BitVec 1 := Scalar.cmpi .eq c16_i32_1687 c0_i32_1688
  let c1_i32_1689 : BitVec 32 := 1#32
  let v2267 : BitVec 32 := Scalar.select v2266 c1_i32_1689 c16_i32_1687
  let v2268 : BitVec 32 := Scalar.remsi v2265 v2267
  let c0_i32_1691 : BitVec 32 := 0#32
  let v2270 : BitVec 1 := Scalar.cmpi .slt v2268 c0_i32_1691
  let c0_i32_1692 : BitVec 32 := 0#32
  let v2271 : BitVec 1 := Scalar.cmpi .slt v2267 c0_i32_1692
  let v2272 : BitVec 1 := Scalar.xori v2270 v2271
  let c0_i32_1690 : BitVec 32 := 0#32
  let v2269 : BitVec 1 := Scalar.cmpi .ne v2268 c0_i32_1690
  let v2273 : BitVec 1 := Scalar.andi v2272 v2269
  let v2274 : BitVec 32 := Scalar.addi v2268 v2267
  let v2275 : BitVec 32 := Scalar.select v2273 v2274 v2268
  let v2276 : BitVec 32 := Scalar.select v2262 v2263 v2275
  let c256_i32_1713 : BitVec 32 := 256#32
  let v2303 : BitVec 32 := Scalar.muli v2276 c256_i32_1713
  let c128_i32_1714 : BitVec 32 := 128#32
  let v2304 : BitVec 32 := Scalar.addi v2303 c128_i32_1714
  let v2305 : BitVec 32 := Scalar.addi v2304 c0_i32_1715
  let c0_i32_1722 : BitVec 32 := 0#32
  ![v2305.toNat, 0]
def k0_dev62 (d0 : Dev nD) : Nat :=
  let c0_i32_1732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_1731 : BitVec 32 := 1#32
  let v2323 : BitVec 32 := Scalar.muli v73 c1_i32_1731
  let v2324 : BitVec 32 := Scalar.addi c0_i32_1732 v2323
  v2324.toNat
def k0_dev63 (d0 : Dev nD) : Nat :=
  let c0_i32_1752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1751 : BitVec 32 := 1#32
  let v2349 : BitVec 32 := Scalar.muli v24 c1_i32_1751
  let v2350 : BitVec 32 := Scalar.addi c0_i32_1752 v2349
  v2350.toNat
def k0_dev64 (d0 : Dev nD) : Nat :=
  let c0_i32_1774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let c0_i32_28 : BitVec 32 := 0#32
  let v50 : BitVec 1 := Scalar.cmpi .eq c2_i32_27 c0_i32_28
  let c1_i32_29 : BitVec 32 := 1#32
  let v51 : BitVec 32 := Scalar.select v50 c1_i32_29 c2_i32_27
  let v52 : BitVec 32 := Scalar.remsi v2 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_33 : BitVec 32 := 1#32
  let v60 : BitVec 1 := Scalar.cmpi .eq v59 c1_i32_33
  let c1_i32_34 : BitVec 32 := 1#32
  let v61 : BitVec 32 := Scalar.subi v2 c1_i32_34
  let c3_i32_35 : BitVec 32 := 3#32
  let v62 : BitVec 32 := Scalar.addi v2 c3_i32_35
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let v73 : BitVec 32 := Scalar.select v60 v61 v72
  let c1_i32_1773 : BitVec 32 := 1#32
  let v2377 : BitVec 32 := Scalar.muli v73 c1_i32_1773
  let v2378 : BitVec 32 := Scalar.addi c0_i32_1774 v2377
  v2378.toNat
def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c2_i32_1437 : BitVec 32 := 2#32
  let c0_i32_1438 : BitVec 32 := 0#32
  let v1932 : BitVec 1 := Scalar.cmpi .eq c2_i32_1437 c0_i32_1438
  let c1_i32_1439 : BitVec 32 := 1#32
  let v1933 : BitVec 32 := Scalar.select v1932 c1_i32_1439 c2_i32_1437
  let v1934 : BitVec 32 := Scalar.remsi v1796 v1933
  let c0_i32_1441 : BitVec 32 := 0#32
  let v1936 : BitVec 1 := Scalar.cmpi .slt v1934 c0_i32_1441
  let c0_i32_1442 : BitVec 32 := 0#32
  let v1937 : BitVec 1 := Scalar.cmpi .slt v1933 c0_i32_1442
  let v1938 : BitVec 1 := Scalar.xori v1936 v1937
  let c0_i32_1440 : BitVec 32 := 0#32
  let v1935 : BitVec 1 := Scalar.cmpi .ne v1934 c0_i32_1440
  let v1939 : BitVec 1 := Scalar.andi v1938 v1935
  let v1940 : BitVec 32 := Scalar.addi v1934 v1933
  let v1941 : BitVec 32 := Scalar.select v1939 v1940 v1934
  let c0_i32_1443 : BitVec 32 := 0#32
  let v1942 : BitVec 1 := Scalar.cmpi .eq v1941 c0_i32_1443
  let c1_i32_1444 : BitVec 32 := 1#32
  let v1943 : BitVec 32 := Scalar.addi v1796 c1_i32_1444
  let c16_i32_1445 : BitVec 32 := 16#32
  let v1944 : BitVec 32 := Scalar.addi v1796 c16_i32_1445
  let c3_i32_1446 : BitVec 32 := 3#32
  let v1945 : BitVec 32 := Scalar.subi v1944 c3_i32_1446
  let c16_i32_1447 : BitVec 32 := 16#32
  let c0_i32_1448 : BitVec 32 := 0#32
  let v1946 : BitVec 1 := Scalar.cmpi .eq c16_i32_1447 c0_i32_1448
  let c1_i32_1449 : BitVec 32 := 1#32
  let v1947 : BitVec 32 := Scalar.select v1946 c1_i32_1449 c16_i32_1447
  let v1948 : BitVec 32 := Scalar.remsi v1945 v1947
  let c0_i32_1451 : BitVec 32 := 0#32
  let v1950 : BitVec 1 := Scalar.cmpi .slt v1948 c0_i32_1451
  let c0_i32_1452 : BitVec 32 := 0#32
  let v1951 : BitVec 1 := Scalar.cmpi .slt v1947 c0_i32_1452
  let v1952 : BitVec 1 := Scalar.xori v1950 v1951
  let c0_i32_1450 : BitVec 32 := 0#32
  let v1949 : BitVec 1 := Scalar.cmpi .ne v1948 c0_i32_1450
  let v1953 : BitVec 1 := Scalar.andi v1952 v1949
  let v1954 : BitVec 32 := Scalar.addi v1948 v1947
  let v1955 : BitVec 32 := Scalar.select v1953 v1954 v1948
  let v1956 : BitVec 32 := Scalar.select v1942 v1943 v1955
  let c2_i32_1557 : BitVec 32 := 2#32
  let c0_i32_1558 : BitVec 32 := 0#32
  let v2092 : BitVec 1 := Scalar.cmpi .eq c2_i32_1557 c0_i32_1558
  let c1_i32_1559 : BitVec 32 := 1#32
  let v2093 : BitVec 32 := Scalar.select v2092 c1_i32_1559 c2_i32_1557
  let v2094 : BitVec 32 := Scalar.remsi v1956 v2093
  let c0_i32_1561 : BitVec 32 := 0#32
  let v2096 : BitVec 1 := Scalar.cmpi .slt v2094 c0_i32_1561
  let c0_i32_1562 : BitVec 32 := 0#32
  let v2097 : BitVec 1 := Scalar.cmpi .slt v2093 c0_i32_1562
  let v2098 : BitVec 1 := Scalar.xori v2096 v2097
  let c0_i32_1560 : BitVec 32 := 0#32
  let v2095 : BitVec 1 := Scalar.cmpi .ne v2094 c0_i32_1560
  let v2099 : BitVec 1 := Scalar.andi v2098 v2095
  let v2100 : BitVec 32 := Scalar.addi v2094 v2093
  let v2101 : BitVec 32 := Scalar.select v2099 v2100 v2094
  let c0_i32_1563 : BitVec 32 := 0#32
  let v2102 : BitVec 1 := Scalar.cmpi .eq v2101 c0_i32_1563
  let c1_i32_1564 : BitVec 32 := 1#32
  let v2103 : BitVec 32 := Scalar.addi v1956 c1_i32_1564
  let c16_i32_1565 : BitVec 32 := 16#32
  let v2104 : BitVec 32 := Scalar.addi v1956 c16_i32_1565
  let c3_i32_1566 : BitVec 32 := 3#32
  let v2105 : BitVec 32 := Scalar.subi v2104 c3_i32_1566
  let c16_i32_1567 : BitVec 32 := 16#32
  let c0_i32_1568 : BitVec 32 := 0#32
  let v2106 : BitVec 1 := Scalar.cmpi .eq c16_i32_1567 c0_i32_1568
  let c1_i32_1569 : BitVec 32 := 1#32
  let v2107 : BitVec 32 := Scalar.select v2106 c1_i32_1569 c16_i32_1567
  let v2108 : BitVec 32 := Scalar.remsi v2105 v2107
  let c0_i32_1571 : BitVec 32 := 0#32
  let v2110 : BitVec 1 := Scalar.cmpi .slt v2108 c0_i32_1571
  let c0_i32_1572 : BitVec 32 := 0#32
  let v2111 : BitVec 1 := Scalar.cmpi .slt v2107 c0_i32_1572
  let v2112 : BitVec 1 := Scalar.xori v2110 v2111
  let c0_i32_1570 : BitVec 32 := 0#32
  let v2109 : BitVec 1 := Scalar.cmpi .ne v2108 c0_i32_1570
  let v2113 : BitVec 1 := Scalar.andi v2112 v2109
  let v2114 : BitVec 32 := Scalar.addi v2108 v2107
  let v2115 : BitVec 32 := Scalar.select v2113 v2114 v2108
  let v2116 : BitVec 32 := Scalar.select v2102 v2103 v2115
  let c2_i32_1677 : BitVec 32 := 2#32
  let c0_i32_1678 : BitVec 32 := 0#32
  let v2252 : BitVec 1 := Scalar.cmpi .eq c2_i32_1677 c0_i32_1678
  let c1_i32_1679 : BitVec 32 := 1#32
  let v2253 : BitVec 32 := Scalar.select v2252 c1_i32_1679 c2_i32_1677
  let v2254 : BitVec 32 := Scalar.remsi v2116 v2253
  let c0_i32_1681 : BitVec 32 := 0#32
  let v2256 : BitVec 1 := Scalar.cmpi .slt v2254 c0_i32_1681
  let c0_i32_1682 : BitVec 32 := 0#32
  let v2257 : BitVec 1 := Scalar.cmpi .slt v2253 c0_i32_1682
  let v2258 : BitVec 1 := Scalar.xori v2256 v2257
  let c0_i32_1680 : BitVec 32 := 0#32
  let v2255 : BitVec 1 := Scalar.cmpi .ne v2254 c0_i32_1680
  let v2259 : BitVec 1 := Scalar.andi v2258 v2255
  let v2260 : BitVec 32 := Scalar.addi v2254 v2253
  let v2261 : BitVec 32 := Scalar.select v2259 v2260 v2254
  let c0_i32_1683 : BitVec 32 := 0#32
  let v2262 : BitVec 1 := Scalar.cmpi .eq v2261 c0_i32_1683
  let c1_i32_1684 : BitVec 32 := 1#32
  let v2263 : BitVec 32 := Scalar.addi v2116 c1_i32_1684
  let c16_i32_1685 : BitVec 32 := 16#32
  let v2264 : BitVec 32 := Scalar.addi v2116 c16_i32_1685
  let c3_i32_1686 : BitVec 32 := 3#32
  let v2265 : BitVec 32 := Scalar.subi v2264 c3_i32_1686
  let c16_i32_1687 : BitVec 32 := 16#32
  let c0_i32_1688 : BitVec 32 := 0#32
  let v2266 : BitVec 1 := Scalar.cmpi .eq c16_i32_1687 c0_i32_1688
  let c1_i32_1689 : BitVec 32 := 1#32
  let v2267 : BitVec 32 := Scalar.select v2266 c1_i32_1689 c16_i32_1687
  let v2268 : BitVec 32 := Scalar.remsi v2265 v2267
  let c0_i32_1691 : BitVec 32 := 0#32
  let v2270 : BitVec 1 := Scalar.cmpi .slt v2268 c0_i32_1691
  let c0_i32_1692 : BitVec 32 := 0#32
  let v2271 : BitVec 1 := Scalar.cmpi .slt v2267 c0_i32_1692
  let v2272 : BitVec 1 := Scalar.xori v2270 v2271
  let c0_i32_1690 : BitVec 32 := 0#32
  let v2269 : BitVec 1 := Scalar.cmpi .ne v2268 c0_i32_1690
  let v2273 : BitVec 1 := Scalar.andi v2272 v2269
  let v2274 : BitVec 32 := Scalar.addi v2268 v2267
  let v2275 : BitVec 32 := Scalar.select v2273 v2274 v2268
  let v2276 : BitVec 32 := Scalar.select v2262 v2263 v2275
  let c256_i32_1783 : BitVec 32 := 256#32
  let v2392 : BitVec 32 := Scalar.muli v2276 c256_i32_1783
  let c128_i32_1784 : BitVec 32 := 128#32
  let v2393 : BitVec 32 := Scalar.addi v2392 c128_i32_1784
  let v2394 : Index := Scalar.indexCast v2393
  let c0_1785 : Index := 0#32
  ![v2394.toNat, 0]
def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c2_i32_1437 : BitVec 32 := 2#32
  let c0_i32_1438 : BitVec 32 := 0#32
  let v1932 : BitVec 1 := Scalar.cmpi .eq c2_i32_1437 c0_i32_1438
  let c1_i32_1439 : BitVec 32 := 1#32
  let v1933 : BitVec 32 := Scalar.select v1932 c1_i32_1439 c2_i32_1437
  let v1934 : BitVec 32 := Scalar.remsi v1796 v1933
  let c0_i32_1441 : BitVec 32 := 0#32
  let v1936 : BitVec 1 := Scalar.cmpi .slt v1934 c0_i32_1441
  let c0_i32_1442 : BitVec 32 := 0#32
  let v1937 : BitVec 1 := Scalar.cmpi .slt v1933 c0_i32_1442
  let v1938 : BitVec 1 := Scalar.xori v1936 v1937
  let c0_i32_1440 : BitVec 32 := 0#32
  let v1935 : BitVec 1 := Scalar.cmpi .ne v1934 c0_i32_1440
  let v1939 : BitVec 1 := Scalar.andi v1938 v1935
  let v1940 : BitVec 32 := Scalar.addi v1934 v1933
  let v1941 : BitVec 32 := Scalar.select v1939 v1940 v1934
  let c0_i32_1443 : BitVec 32 := 0#32
  let v1942 : BitVec 1 := Scalar.cmpi .eq v1941 c0_i32_1443
  let c1_i32_1444 : BitVec 32 := 1#32
  let v1943 : BitVec 32 := Scalar.addi v1796 c1_i32_1444
  let c16_i32_1445 : BitVec 32 := 16#32
  let v1944 : BitVec 32 := Scalar.addi v1796 c16_i32_1445
  let c3_i32_1446 : BitVec 32 := 3#32
  let v1945 : BitVec 32 := Scalar.subi v1944 c3_i32_1446
  let c16_i32_1447 : BitVec 32 := 16#32
  let c0_i32_1448 : BitVec 32 := 0#32
  let v1946 : BitVec 1 := Scalar.cmpi .eq c16_i32_1447 c0_i32_1448
  let c1_i32_1449 : BitVec 32 := 1#32
  let v1947 : BitVec 32 := Scalar.select v1946 c1_i32_1449 c16_i32_1447
  let v1948 : BitVec 32 := Scalar.remsi v1945 v1947
  let c0_i32_1451 : BitVec 32 := 0#32
  let v1950 : BitVec 1 := Scalar.cmpi .slt v1948 c0_i32_1451
  let c0_i32_1452 : BitVec 32 := 0#32
  let v1951 : BitVec 1 := Scalar.cmpi .slt v1947 c0_i32_1452
  let v1952 : BitVec 1 := Scalar.xori v1950 v1951
  let c0_i32_1450 : BitVec 32 := 0#32
  let v1949 : BitVec 1 := Scalar.cmpi .ne v1948 c0_i32_1450
  let v1953 : BitVec 1 := Scalar.andi v1952 v1949
  let v1954 : BitVec 32 := Scalar.addi v1948 v1947
  let v1955 : BitVec 32 := Scalar.select v1953 v1954 v1948
  let v1956 : BitVec 32 := Scalar.select v1942 v1943 v1955
  let c2_i32_1557 : BitVec 32 := 2#32
  let c0_i32_1558 : BitVec 32 := 0#32
  let v2092 : BitVec 1 := Scalar.cmpi .eq c2_i32_1557 c0_i32_1558
  let c1_i32_1559 : BitVec 32 := 1#32
  let v2093 : BitVec 32 := Scalar.select v2092 c1_i32_1559 c2_i32_1557
  let v2094 : BitVec 32 := Scalar.remsi v1956 v2093
  let c0_i32_1561 : BitVec 32 := 0#32
  let v2096 : BitVec 1 := Scalar.cmpi .slt v2094 c0_i32_1561
  let c0_i32_1562 : BitVec 32 := 0#32
  let v2097 : BitVec 1 := Scalar.cmpi .slt v2093 c0_i32_1562
  let v2098 : BitVec 1 := Scalar.xori v2096 v2097
  let c0_i32_1560 : BitVec 32 := 0#32
  let v2095 : BitVec 1 := Scalar.cmpi .ne v2094 c0_i32_1560
  let v2099 : BitVec 1 := Scalar.andi v2098 v2095
  let v2100 : BitVec 32 := Scalar.addi v2094 v2093
  let v2101 : BitVec 32 := Scalar.select v2099 v2100 v2094
  let c0_i32_1563 : BitVec 32 := 0#32
  let v2102 : BitVec 1 := Scalar.cmpi .eq v2101 c0_i32_1563
  let c1_i32_1564 : BitVec 32 := 1#32
  let v2103 : BitVec 32 := Scalar.addi v1956 c1_i32_1564
  let c16_i32_1565 : BitVec 32 := 16#32
  let v2104 : BitVec 32 := Scalar.addi v1956 c16_i32_1565
  let c3_i32_1566 : BitVec 32 := 3#32
  let v2105 : BitVec 32 := Scalar.subi v2104 c3_i32_1566
  let c16_i32_1567 : BitVec 32 := 16#32
  let c0_i32_1568 : BitVec 32 := 0#32
  let v2106 : BitVec 1 := Scalar.cmpi .eq c16_i32_1567 c0_i32_1568
  let c1_i32_1569 : BitVec 32 := 1#32
  let v2107 : BitVec 32 := Scalar.select v2106 c1_i32_1569 c16_i32_1567
  let v2108 : BitVec 32 := Scalar.remsi v2105 v2107
  let c0_i32_1571 : BitVec 32 := 0#32
  let v2110 : BitVec 1 := Scalar.cmpi .slt v2108 c0_i32_1571
  let c0_i32_1572 : BitVec 32 := 0#32
  let v2111 : BitVec 1 := Scalar.cmpi .slt v2107 c0_i32_1572
  let v2112 : BitVec 1 := Scalar.xori v2110 v2111
  let c0_i32_1570 : BitVec 32 := 0#32
  let v2109 : BitVec 1 := Scalar.cmpi .ne v2108 c0_i32_1570
  let v2113 : BitVec 1 := Scalar.andi v2112 v2109
  let v2114 : BitVec 32 := Scalar.addi v2108 v2107
  let v2115 : BitVec 32 := Scalar.select v2113 v2114 v2108
  let v2116 : BitVec 32 := Scalar.select v2102 v2103 v2115
  let c2_i32_1677 : BitVec 32 := 2#32
  let c0_i32_1678 : BitVec 32 := 0#32
  let v2252 : BitVec 1 := Scalar.cmpi .eq c2_i32_1677 c0_i32_1678
  let c1_i32_1679 : BitVec 32 := 1#32
  let v2253 : BitVec 32 := Scalar.select v2252 c1_i32_1679 c2_i32_1677
  let v2254 : BitVec 32 := Scalar.remsi v2116 v2253
  let c0_i32_1681 : BitVec 32 := 0#32
  let v2256 : BitVec 1 := Scalar.cmpi .slt v2254 c0_i32_1681
  let c0_i32_1682 : BitVec 32 := 0#32
  let v2257 : BitVec 1 := Scalar.cmpi .slt v2253 c0_i32_1682
  let v2258 : BitVec 1 := Scalar.xori v2256 v2257
  let c0_i32_1680 : BitVec 32 := 0#32
  let v2255 : BitVec 1 := Scalar.cmpi .ne v2254 c0_i32_1680
  let v2259 : BitVec 1 := Scalar.andi v2258 v2255
  let v2260 : BitVec 32 := Scalar.addi v2254 v2253
  let v2261 : BitVec 32 := Scalar.select v2259 v2260 v2254
  let c0_i32_1683 : BitVec 32 := 0#32
  let v2262 : BitVec 1 := Scalar.cmpi .eq v2261 c0_i32_1683
  let c1_i32_1684 : BitVec 32 := 1#32
  let v2263 : BitVec 32 := Scalar.addi v2116 c1_i32_1684
  let c16_i32_1685 : BitVec 32 := 16#32
  let v2264 : BitVec 32 := Scalar.addi v2116 c16_i32_1685
  let c3_i32_1686 : BitVec 32 := 3#32
  let v2265 : BitVec 32 := Scalar.subi v2264 c3_i32_1686
  let c16_i32_1687 : BitVec 32 := 16#32
  let c0_i32_1688 : BitVec 32 := 0#32
  let v2266 : BitVec 1 := Scalar.cmpi .eq c16_i32_1687 c0_i32_1688
  let c1_i32_1689 : BitVec 32 := 1#32
  let v2267 : BitVec 32 := Scalar.select v2266 c1_i32_1689 c16_i32_1687
  let v2268 : BitVec 32 := Scalar.remsi v2265 v2267
  let c0_i32_1691 : BitVec 32 := 0#32
  let v2270 : BitVec 1 := Scalar.cmpi .slt v2268 c0_i32_1691
  let c0_i32_1692 : BitVec 32 := 0#32
  let v2271 : BitVec 1 := Scalar.cmpi .slt v2267 c0_i32_1692
  let v2272 : BitVec 1 := Scalar.xori v2270 v2271
  let c0_i32_1690 : BitVec 32 := 0#32
  let v2269 : BitVec 1 := Scalar.cmpi .ne v2268 c0_i32_1690
  let v2273 : BitVec 1 := Scalar.andi v2272 v2269
  let v2274 : BitVec 32 := Scalar.addi v2268 v2267
  let v2275 : BitVec 32 := Scalar.select v2273 v2274 v2268
  let v2276 : BitVec 32 := Scalar.select v2262 v2263 v2275
  let c256_i32_1783 : BitVec 32 := 256#32
  let v2392 : BitVec 32 := Scalar.muli v2276 c256_i32_1783
  let c128_i32_1784 : BitVec 32 := 128#32
  let v2393 : BitVec 32 := Scalar.addi v2392 c128_i32_1784
  let v2398 : Index := Scalar.indexCast v2393
  let c0_1789 : Index := 0#32
  ![v2398.toNat, 0]
def k0_off66 (d0 : Dev nD) (c0_i32_1829 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c2_i32_1437 : BitVec 32 := 2#32
  let c0_i32_1438 : BitVec 32 := 0#32
  let v1932 : BitVec 1 := Scalar.cmpi .eq c2_i32_1437 c0_i32_1438
  let c1_i32_1439 : BitVec 32 := 1#32
  let v1933 : BitVec 32 := Scalar.select v1932 c1_i32_1439 c2_i32_1437
  let v1934 : BitVec 32 := Scalar.remsi v1796 v1933
  let c0_i32_1441 : BitVec 32 := 0#32
  let v1936 : BitVec 1 := Scalar.cmpi .slt v1934 c0_i32_1441
  let c0_i32_1442 : BitVec 32 := 0#32
  let v1937 : BitVec 1 := Scalar.cmpi .slt v1933 c0_i32_1442
  let v1938 : BitVec 1 := Scalar.xori v1936 v1937
  let c0_i32_1440 : BitVec 32 := 0#32
  let v1935 : BitVec 1 := Scalar.cmpi .ne v1934 c0_i32_1440
  let v1939 : BitVec 1 := Scalar.andi v1938 v1935
  let v1940 : BitVec 32 := Scalar.addi v1934 v1933
  let v1941 : BitVec 32 := Scalar.select v1939 v1940 v1934
  let c0_i32_1443 : BitVec 32 := 0#32
  let v1942 : BitVec 1 := Scalar.cmpi .eq v1941 c0_i32_1443
  let c1_i32_1444 : BitVec 32 := 1#32
  let v1943 : BitVec 32 := Scalar.addi v1796 c1_i32_1444
  let c16_i32_1445 : BitVec 32 := 16#32
  let v1944 : BitVec 32 := Scalar.addi v1796 c16_i32_1445
  let c3_i32_1446 : BitVec 32 := 3#32
  let v1945 : BitVec 32 := Scalar.subi v1944 c3_i32_1446
  let c16_i32_1447 : BitVec 32 := 16#32
  let c0_i32_1448 : BitVec 32 := 0#32
  let v1946 : BitVec 1 := Scalar.cmpi .eq c16_i32_1447 c0_i32_1448
  let c1_i32_1449 : BitVec 32 := 1#32
  let v1947 : BitVec 32 := Scalar.select v1946 c1_i32_1449 c16_i32_1447
  let v1948 : BitVec 32 := Scalar.remsi v1945 v1947
  let c0_i32_1451 : BitVec 32 := 0#32
  let v1950 : BitVec 1 := Scalar.cmpi .slt v1948 c0_i32_1451
  let c0_i32_1452 : BitVec 32 := 0#32
  let v1951 : BitVec 1 := Scalar.cmpi .slt v1947 c0_i32_1452
  let v1952 : BitVec 1 := Scalar.xori v1950 v1951
  let c0_i32_1450 : BitVec 32 := 0#32
  let v1949 : BitVec 1 := Scalar.cmpi .ne v1948 c0_i32_1450
  let v1953 : BitVec 1 := Scalar.andi v1952 v1949
  let v1954 : BitVec 32 := Scalar.addi v1948 v1947
  let v1955 : BitVec 32 := Scalar.select v1953 v1954 v1948
  let v1956 : BitVec 32 := Scalar.select v1942 v1943 v1955
  let c2_i32_1557 : BitVec 32 := 2#32
  let c0_i32_1558 : BitVec 32 := 0#32
  let v2092 : BitVec 1 := Scalar.cmpi .eq c2_i32_1557 c0_i32_1558
  let c1_i32_1559 : BitVec 32 := 1#32
  let v2093 : BitVec 32 := Scalar.select v2092 c1_i32_1559 c2_i32_1557
  let v2094 : BitVec 32 := Scalar.remsi v1956 v2093
  let c0_i32_1561 : BitVec 32 := 0#32
  let v2096 : BitVec 1 := Scalar.cmpi .slt v2094 c0_i32_1561
  let c0_i32_1562 : BitVec 32 := 0#32
  let v2097 : BitVec 1 := Scalar.cmpi .slt v2093 c0_i32_1562
  let v2098 : BitVec 1 := Scalar.xori v2096 v2097
  let c0_i32_1560 : BitVec 32 := 0#32
  let v2095 : BitVec 1 := Scalar.cmpi .ne v2094 c0_i32_1560
  let v2099 : BitVec 1 := Scalar.andi v2098 v2095
  let v2100 : BitVec 32 := Scalar.addi v2094 v2093
  let v2101 : BitVec 32 := Scalar.select v2099 v2100 v2094
  let c0_i32_1563 : BitVec 32 := 0#32
  let v2102 : BitVec 1 := Scalar.cmpi .eq v2101 c0_i32_1563
  let c1_i32_1564 : BitVec 32 := 1#32
  let v2103 : BitVec 32 := Scalar.addi v1956 c1_i32_1564
  let c16_i32_1565 : BitVec 32 := 16#32
  let v2104 : BitVec 32 := Scalar.addi v1956 c16_i32_1565
  let c3_i32_1566 : BitVec 32 := 3#32
  let v2105 : BitVec 32 := Scalar.subi v2104 c3_i32_1566
  let c16_i32_1567 : BitVec 32 := 16#32
  let c0_i32_1568 : BitVec 32 := 0#32
  let v2106 : BitVec 1 := Scalar.cmpi .eq c16_i32_1567 c0_i32_1568
  let c1_i32_1569 : BitVec 32 := 1#32
  let v2107 : BitVec 32 := Scalar.select v2106 c1_i32_1569 c16_i32_1567
  let v2108 : BitVec 32 := Scalar.remsi v2105 v2107
  let c0_i32_1571 : BitVec 32 := 0#32
  let v2110 : BitVec 1 := Scalar.cmpi .slt v2108 c0_i32_1571
  let c0_i32_1572 : BitVec 32 := 0#32
  let v2111 : BitVec 1 := Scalar.cmpi .slt v2107 c0_i32_1572
  let v2112 : BitVec 1 := Scalar.xori v2110 v2111
  let c0_i32_1570 : BitVec 32 := 0#32
  let v2109 : BitVec 1 := Scalar.cmpi .ne v2108 c0_i32_1570
  let v2113 : BitVec 1 := Scalar.andi v2112 v2109
  let v2114 : BitVec 32 := Scalar.addi v2108 v2107
  let v2115 : BitVec 32 := Scalar.select v2113 v2114 v2108
  let v2116 : BitVec 32 := Scalar.select v2102 v2103 v2115
  let c2_i32_1677 : BitVec 32 := 2#32
  let c0_i32_1678 : BitVec 32 := 0#32
  let v2252 : BitVec 1 := Scalar.cmpi .eq c2_i32_1677 c0_i32_1678
  let c1_i32_1679 : BitVec 32 := 1#32
  let v2253 : BitVec 32 := Scalar.select v2252 c1_i32_1679 c2_i32_1677
  let v2254 : BitVec 32 := Scalar.remsi v2116 v2253
  let c0_i32_1681 : BitVec 32 := 0#32
  let v2256 : BitVec 1 := Scalar.cmpi .slt v2254 c0_i32_1681
  let c0_i32_1682 : BitVec 32 := 0#32
  let v2257 : BitVec 1 := Scalar.cmpi .slt v2253 c0_i32_1682
  let v2258 : BitVec 1 := Scalar.xori v2256 v2257
  let c0_i32_1680 : BitVec 32 := 0#32
  let v2255 : BitVec 1 := Scalar.cmpi .ne v2254 c0_i32_1680
  let v2259 : BitVec 1 := Scalar.andi v2258 v2255
  let v2260 : BitVec 32 := Scalar.addi v2254 v2253
  let v2261 : BitVec 32 := Scalar.select v2259 v2260 v2254
  let c0_i32_1683 : BitVec 32 := 0#32
  let v2262 : BitVec 1 := Scalar.cmpi .eq v2261 c0_i32_1683
  let c1_i32_1684 : BitVec 32 := 1#32
  let v2263 : BitVec 32 := Scalar.addi v2116 c1_i32_1684
  let c16_i32_1685 : BitVec 32 := 16#32
  let v2264 : BitVec 32 := Scalar.addi v2116 c16_i32_1685
  let c3_i32_1686 : BitVec 32 := 3#32
  let v2265 : BitVec 32 := Scalar.subi v2264 c3_i32_1686
  let c16_i32_1687 : BitVec 32 := 16#32
  let c0_i32_1688 : BitVec 32 := 0#32
  let v2266 : BitVec 1 := Scalar.cmpi .eq c16_i32_1687 c0_i32_1688
  let c1_i32_1689 : BitVec 32 := 1#32
  let v2267 : BitVec 32 := Scalar.select v2266 c1_i32_1689 c16_i32_1687
  let v2268 : BitVec 32 := Scalar.remsi v2265 v2267
  let c0_i32_1691 : BitVec 32 := 0#32
  let v2270 : BitVec 1 := Scalar.cmpi .slt v2268 c0_i32_1691
  let c0_i32_1692 : BitVec 32 := 0#32
  let v2271 : BitVec 1 := Scalar.cmpi .slt v2267 c0_i32_1692
  let v2272 : BitVec 1 := Scalar.xori v2270 v2271
  let c0_i32_1690 : BitVec 32 := 0#32
  let v2269 : BitVec 1 := Scalar.cmpi .ne v2268 c0_i32_1690
  let v2273 : BitVec 1 := Scalar.andi v2272 v2269
  let v2274 : BitVec 32 := Scalar.addi v2268 v2267
  let v2275 : BitVec 32 := Scalar.select v2273 v2274 v2268
  let v2276 : BitVec 32 := Scalar.select v2262 v2263 v2275
  let c2_i32_1797 : BitVec 32 := 2#32
  let c0_i32_1798 : BitVec 32 := 0#32
  let v2412 : BitVec 1 := Scalar.cmpi .eq c2_i32_1797 c0_i32_1798
  let c1_i32_1799 : BitVec 32 := 1#32
  let v2413 : BitVec 32 := Scalar.select v2412 c1_i32_1799 c2_i32_1797
  let v2414 : BitVec 32 := Scalar.remsi v2276 v2413
  let c0_i32_1801 : BitVec 32 := 0#32
  let v2416 : BitVec 1 := Scalar.cmpi .slt v2414 c0_i32_1801
  let c0_i32_1802 : BitVec 32 := 0#32
  let v2417 : BitVec 1 := Scalar.cmpi .slt v2413 c0_i32_1802
  let v2418 : BitVec 1 := Scalar.xori v2416 v2417
  let c0_i32_1800 : BitVec 32 := 0#32
  let v2415 : BitVec 1 := Scalar.cmpi .ne v2414 c0_i32_1800
  let v2419 : BitVec 1 := Scalar.andi v2418 v2415
  let v2420 : BitVec 32 := Scalar.addi v2414 v2413
  let v2421 : BitVec 32 := Scalar.select v2419 v2420 v2414
  let c0_i32_1803 : BitVec 32 := 0#32
  let v2422 : BitVec 1 := Scalar.cmpi .eq v2421 c0_i32_1803
  let c1_i32_1804 : BitVec 32 := 1#32
  let v2423 : BitVec 32 := Scalar.addi v2276 c1_i32_1804
  let c16_i32_1805 : BitVec 32 := 16#32
  let v2424 : BitVec 32 := Scalar.addi v2276 c16_i32_1805
  let c3_i32_1806 : BitVec 32 := 3#32
  let v2425 : BitVec 32 := Scalar.subi v2424 c3_i32_1806
  let c16_i32_1807 : BitVec 32 := 16#32
  let c0_i32_1808 : BitVec 32 := 0#32
  let v2426 : BitVec 1 := Scalar.cmpi .eq c16_i32_1807 c0_i32_1808
  let c1_i32_1809 : BitVec 32 := 1#32
  let v2427 : BitVec 32 := Scalar.select v2426 c1_i32_1809 c16_i32_1807
  let v2428 : BitVec 32 := Scalar.remsi v2425 v2427
  let c0_i32_1811 : BitVec 32 := 0#32
  let v2430 : BitVec 1 := Scalar.cmpi .slt v2428 c0_i32_1811
  let c0_i32_1812 : BitVec 32 := 0#32
  let v2431 : BitVec 1 := Scalar.cmpi .slt v2427 c0_i32_1812
  let v2432 : BitVec 1 := Scalar.xori v2430 v2431
  let c0_i32_1810 : BitVec 32 := 0#32
  let v2429 : BitVec 1 := Scalar.cmpi .ne v2428 c0_i32_1810
  let v2433 : BitVec 1 := Scalar.andi v2432 v2429
  let v2434 : BitVec 32 := Scalar.addi v2428 v2427
  let v2435 : BitVec 32 := Scalar.select v2433 v2434 v2428
  let v2436 : BitVec 32 := Scalar.select v2422 v2423 v2435
  let c2_i32_1828 : BitVec 32 := 2#32
  let v2454 : BitVec 32 := Scalar.muli v2436 c2_i32_1828
  let v2455 : BitVec 32 := Scalar.addi v2454 c0_i32_1829
  ![v2455.toNat]
def k0_off67 (d0 : Dev nD) (c0_i32_1825 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c2_i32_1437 : BitVec 32 := 2#32
  let c0_i32_1438 : BitVec 32 := 0#32
  let v1932 : BitVec 1 := Scalar.cmpi .eq c2_i32_1437 c0_i32_1438
  let c1_i32_1439 : BitVec 32 := 1#32
  let v1933 : BitVec 32 := Scalar.select v1932 c1_i32_1439 c2_i32_1437
  let v1934 : BitVec 32 := Scalar.remsi v1796 v1933
  let c0_i32_1441 : BitVec 32 := 0#32
  let v1936 : BitVec 1 := Scalar.cmpi .slt v1934 c0_i32_1441
  let c0_i32_1442 : BitVec 32 := 0#32
  let v1937 : BitVec 1 := Scalar.cmpi .slt v1933 c0_i32_1442
  let v1938 : BitVec 1 := Scalar.xori v1936 v1937
  let c0_i32_1440 : BitVec 32 := 0#32
  let v1935 : BitVec 1 := Scalar.cmpi .ne v1934 c0_i32_1440
  let v1939 : BitVec 1 := Scalar.andi v1938 v1935
  let v1940 : BitVec 32 := Scalar.addi v1934 v1933
  let v1941 : BitVec 32 := Scalar.select v1939 v1940 v1934
  let c0_i32_1443 : BitVec 32 := 0#32
  let v1942 : BitVec 1 := Scalar.cmpi .eq v1941 c0_i32_1443
  let c1_i32_1444 : BitVec 32 := 1#32
  let v1943 : BitVec 32 := Scalar.addi v1796 c1_i32_1444
  let c16_i32_1445 : BitVec 32 := 16#32
  let v1944 : BitVec 32 := Scalar.addi v1796 c16_i32_1445
  let c3_i32_1446 : BitVec 32 := 3#32
  let v1945 : BitVec 32 := Scalar.subi v1944 c3_i32_1446
  let c16_i32_1447 : BitVec 32 := 16#32
  let c0_i32_1448 : BitVec 32 := 0#32
  let v1946 : BitVec 1 := Scalar.cmpi .eq c16_i32_1447 c0_i32_1448
  let c1_i32_1449 : BitVec 32 := 1#32
  let v1947 : BitVec 32 := Scalar.select v1946 c1_i32_1449 c16_i32_1447
  let v1948 : BitVec 32 := Scalar.remsi v1945 v1947
  let c0_i32_1451 : BitVec 32 := 0#32
  let v1950 : BitVec 1 := Scalar.cmpi .slt v1948 c0_i32_1451
  let c0_i32_1452 : BitVec 32 := 0#32
  let v1951 : BitVec 1 := Scalar.cmpi .slt v1947 c0_i32_1452
  let v1952 : BitVec 1 := Scalar.xori v1950 v1951
  let c0_i32_1450 : BitVec 32 := 0#32
  let v1949 : BitVec 1 := Scalar.cmpi .ne v1948 c0_i32_1450
  let v1953 : BitVec 1 := Scalar.andi v1952 v1949
  let v1954 : BitVec 32 := Scalar.addi v1948 v1947
  let v1955 : BitVec 32 := Scalar.select v1953 v1954 v1948
  let v1956 : BitVec 32 := Scalar.select v1942 v1943 v1955
  let c2_i32_1557 : BitVec 32 := 2#32
  let c0_i32_1558 : BitVec 32 := 0#32
  let v2092 : BitVec 1 := Scalar.cmpi .eq c2_i32_1557 c0_i32_1558
  let c1_i32_1559 : BitVec 32 := 1#32
  let v2093 : BitVec 32 := Scalar.select v2092 c1_i32_1559 c2_i32_1557
  let v2094 : BitVec 32 := Scalar.remsi v1956 v2093
  let c0_i32_1561 : BitVec 32 := 0#32
  let v2096 : BitVec 1 := Scalar.cmpi .slt v2094 c0_i32_1561
  let c0_i32_1562 : BitVec 32 := 0#32
  let v2097 : BitVec 1 := Scalar.cmpi .slt v2093 c0_i32_1562
  let v2098 : BitVec 1 := Scalar.xori v2096 v2097
  let c0_i32_1560 : BitVec 32 := 0#32
  let v2095 : BitVec 1 := Scalar.cmpi .ne v2094 c0_i32_1560
  let v2099 : BitVec 1 := Scalar.andi v2098 v2095
  let v2100 : BitVec 32 := Scalar.addi v2094 v2093
  let v2101 : BitVec 32 := Scalar.select v2099 v2100 v2094
  let c0_i32_1563 : BitVec 32 := 0#32
  let v2102 : BitVec 1 := Scalar.cmpi .eq v2101 c0_i32_1563
  let c1_i32_1564 : BitVec 32 := 1#32
  let v2103 : BitVec 32 := Scalar.addi v1956 c1_i32_1564
  let c16_i32_1565 : BitVec 32 := 16#32
  let v2104 : BitVec 32 := Scalar.addi v1956 c16_i32_1565
  let c3_i32_1566 : BitVec 32 := 3#32
  let v2105 : BitVec 32 := Scalar.subi v2104 c3_i32_1566
  let c16_i32_1567 : BitVec 32 := 16#32
  let c0_i32_1568 : BitVec 32 := 0#32
  let v2106 : BitVec 1 := Scalar.cmpi .eq c16_i32_1567 c0_i32_1568
  let c1_i32_1569 : BitVec 32 := 1#32
  let v2107 : BitVec 32 := Scalar.select v2106 c1_i32_1569 c16_i32_1567
  let v2108 : BitVec 32 := Scalar.remsi v2105 v2107
  let c0_i32_1571 : BitVec 32 := 0#32
  let v2110 : BitVec 1 := Scalar.cmpi .slt v2108 c0_i32_1571
  let c0_i32_1572 : BitVec 32 := 0#32
  let v2111 : BitVec 1 := Scalar.cmpi .slt v2107 c0_i32_1572
  let v2112 : BitVec 1 := Scalar.xori v2110 v2111
  let c0_i32_1570 : BitVec 32 := 0#32
  let v2109 : BitVec 1 := Scalar.cmpi .ne v2108 c0_i32_1570
  let v2113 : BitVec 1 := Scalar.andi v2112 v2109
  let v2114 : BitVec 32 := Scalar.addi v2108 v2107
  let v2115 : BitVec 32 := Scalar.select v2113 v2114 v2108
  let v2116 : BitVec 32 := Scalar.select v2102 v2103 v2115
  let c2_i32_1677 : BitVec 32 := 2#32
  let c0_i32_1678 : BitVec 32 := 0#32
  let v2252 : BitVec 1 := Scalar.cmpi .eq c2_i32_1677 c0_i32_1678
  let c1_i32_1679 : BitVec 32 := 1#32
  let v2253 : BitVec 32 := Scalar.select v2252 c1_i32_1679 c2_i32_1677
  let v2254 : BitVec 32 := Scalar.remsi v2116 v2253
  let c0_i32_1681 : BitVec 32 := 0#32
  let v2256 : BitVec 1 := Scalar.cmpi .slt v2254 c0_i32_1681
  let c0_i32_1682 : BitVec 32 := 0#32
  let v2257 : BitVec 1 := Scalar.cmpi .slt v2253 c0_i32_1682
  let v2258 : BitVec 1 := Scalar.xori v2256 v2257
  let c0_i32_1680 : BitVec 32 := 0#32
  let v2255 : BitVec 1 := Scalar.cmpi .ne v2254 c0_i32_1680
  let v2259 : BitVec 1 := Scalar.andi v2258 v2255
  let v2260 : BitVec 32 := Scalar.addi v2254 v2253
  let v2261 : BitVec 32 := Scalar.select v2259 v2260 v2254
  let c0_i32_1683 : BitVec 32 := 0#32
  let v2262 : BitVec 1 := Scalar.cmpi .eq v2261 c0_i32_1683
  let c1_i32_1684 : BitVec 32 := 1#32
  let v2263 : BitVec 32 := Scalar.addi v2116 c1_i32_1684
  let c16_i32_1685 : BitVec 32 := 16#32
  let v2264 : BitVec 32 := Scalar.addi v2116 c16_i32_1685
  let c3_i32_1686 : BitVec 32 := 3#32
  let v2265 : BitVec 32 := Scalar.subi v2264 c3_i32_1686
  let c16_i32_1687 : BitVec 32 := 16#32
  let c0_i32_1688 : BitVec 32 := 0#32
  let v2266 : BitVec 1 := Scalar.cmpi .eq c16_i32_1687 c0_i32_1688
  let c1_i32_1689 : BitVec 32 := 1#32
  let v2267 : BitVec 32 := Scalar.select v2266 c1_i32_1689 c16_i32_1687
  let v2268 : BitVec 32 := Scalar.remsi v2265 v2267
  let c0_i32_1691 : BitVec 32 := 0#32
  let v2270 : BitVec 1 := Scalar.cmpi .slt v2268 c0_i32_1691
  let c0_i32_1692 : BitVec 32 := 0#32
  let v2271 : BitVec 1 := Scalar.cmpi .slt v2267 c0_i32_1692
  let v2272 : BitVec 1 := Scalar.xori v2270 v2271
  let c0_i32_1690 : BitVec 32 := 0#32
  let v2269 : BitVec 1 := Scalar.cmpi .ne v2268 c0_i32_1690
  let v2273 : BitVec 1 := Scalar.andi v2272 v2269
  let v2274 : BitVec 32 := Scalar.addi v2268 v2267
  let v2275 : BitVec 32 := Scalar.select v2273 v2274 v2268
  let v2276 : BitVec 32 := Scalar.select v2262 v2263 v2275
  let c2_i32_1797 : BitVec 32 := 2#32
  let c0_i32_1798 : BitVec 32 := 0#32
  let v2412 : BitVec 1 := Scalar.cmpi .eq c2_i32_1797 c0_i32_1798
  let c1_i32_1799 : BitVec 32 := 1#32
  let v2413 : BitVec 32 := Scalar.select v2412 c1_i32_1799 c2_i32_1797
  let v2414 : BitVec 32 := Scalar.remsi v2276 v2413
  let c0_i32_1801 : BitVec 32 := 0#32
  let v2416 : BitVec 1 := Scalar.cmpi .slt v2414 c0_i32_1801
  let c0_i32_1802 : BitVec 32 := 0#32
  let v2417 : BitVec 1 := Scalar.cmpi .slt v2413 c0_i32_1802
  let v2418 : BitVec 1 := Scalar.xori v2416 v2417
  let c0_i32_1800 : BitVec 32 := 0#32
  let v2415 : BitVec 1 := Scalar.cmpi .ne v2414 c0_i32_1800
  let v2419 : BitVec 1 := Scalar.andi v2418 v2415
  let v2420 : BitVec 32 := Scalar.addi v2414 v2413
  let v2421 : BitVec 32 := Scalar.select v2419 v2420 v2414
  let c0_i32_1803 : BitVec 32 := 0#32
  let v2422 : BitVec 1 := Scalar.cmpi .eq v2421 c0_i32_1803
  let c1_i32_1804 : BitVec 32 := 1#32
  let v2423 : BitVec 32 := Scalar.addi v2276 c1_i32_1804
  let c16_i32_1805 : BitVec 32 := 16#32
  let v2424 : BitVec 32 := Scalar.addi v2276 c16_i32_1805
  let c3_i32_1806 : BitVec 32 := 3#32
  let v2425 : BitVec 32 := Scalar.subi v2424 c3_i32_1806
  let c16_i32_1807 : BitVec 32 := 16#32
  let c0_i32_1808 : BitVec 32 := 0#32
  let v2426 : BitVec 1 := Scalar.cmpi .eq c16_i32_1807 c0_i32_1808
  let c1_i32_1809 : BitVec 32 := 1#32
  let v2427 : BitVec 32 := Scalar.select v2426 c1_i32_1809 c16_i32_1807
  let v2428 : BitVec 32 := Scalar.remsi v2425 v2427
  let c0_i32_1811 : BitVec 32 := 0#32
  let v2430 : BitVec 1 := Scalar.cmpi .slt v2428 c0_i32_1811
  let c0_i32_1812 : BitVec 32 := 0#32
  let v2431 : BitVec 1 := Scalar.cmpi .slt v2427 c0_i32_1812
  let v2432 : BitVec 1 := Scalar.xori v2430 v2431
  let c0_i32_1810 : BitVec 32 := 0#32
  let v2429 : BitVec 1 := Scalar.cmpi .ne v2428 c0_i32_1810
  let v2433 : BitVec 1 := Scalar.andi v2432 v2429
  let v2434 : BitVec 32 := Scalar.addi v2428 v2427
  let v2435 : BitVec 32 := Scalar.select v2433 v2434 v2428
  let v2436 : BitVec 32 := Scalar.select v2422 v2423 v2435
  let c256_i32_1823 : BitVec 32 := 256#32
  let v2449 : BitVec 32 := Scalar.muli v2436 c256_i32_1823
  let c128_i32_1824 : BitVec 32 := 128#32
  let v2450 : BitVec 32 := Scalar.addi v2449 c128_i32_1824
  let v2451 : BitVec 32 := Scalar.addi v2450 c0_i32_1825
  let c0_i32_1832 : BitVec 32 := 0#32
  ![v2451.toNat, 0]
def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c2_i32_1437 : BitVec 32 := 2#32
  let c0_i32_1438 : BitVec 32 := 0#32
  let v1932 : BitVec 1 := Scalar.cmpi .eq c2_i32_1437 c0_i32_1438
  let c1_i32_1439 : BitVec 32 := 1#32
  let v1933 : BitVec 32 := Scalar.select v1932 c1_i32_1439 c2_i32_1437
  let v1934 : BitVec 32 := Scalar.remsi v1796 v1933
  let c0_i32_1441 : BitVec 32 := 0#32
  let v1936 : BitVec 1 := Scalar.cmpi .slt v1934 c0_i32_1441
  let c0_i32_1442 : BitVec 32 := 0#32
  let v1937 : BitVec 1 := Scalar.cmpi .slt v1933 c0_i32_1442
  let v1938 : BitVec 1 := Scalar.xori v1936 v1937
  let c0_i32_1440 : BitVec 32 := 0#32
  let v1935 : BitVec 1 := Scalar.cmpi .ne v1934 c0_i32_1440
  let v1939 : BitVec 1 := Scalar.andi v1938 v1935
  let v1940 : BitVec 32 := Scalar.addi v1934 v1933
  let v1941 : BitVec 32 := Scalar.select v1939 v1940 v1934
  let c0_i32_1443 : BitVec 32 := 0#32
  let v1942 : BitVec 1 := Scalar.cmpi .eq v1941 c0_i32_1443
  let c1_i32_1444 : BitVec 32 := 1#32
  let v1943 : BitVec 32 := Scalar.addi v1796 c1_i32_1444
  let c16_i32_1445 : BitVec 32 := 16#32
  let v1944 : BitVec 32 := Scalar.addi v1796 c16_i32_1445
  let c3_i32_1446 : BitVec 32 := 3#32
  let v1945 : BitVec 32 := Scalar.subi v1944 c3_i32_1446
  let c16_i32_1447 : BitVec 32 := 16#32
  let c0_i32_1448 : BitVec 32 := 0#32
  let v1946 : BitVec 1 := Scalar.cmpi .eq c16_i32_1447 c0_i32_1448
  let c1_i32_1449 : BitVec 32 := 1#32
  let v1947 : BitVec 32 := Scalar.select v1946 c1_i32_1449 c16_i32_1447
  let v1948 : BitVec 32 := Scalar.remsi v1945 v1947
  let c0_i32_1451 : BitVec 32 := 0#32
  let v1950 : BitVec 1 := Scalar.cmpi .slt v1948 c0_i32_1451
  let c0_i32_1452 : BitVec 32 := 0#32
  let v1951 : BitVec 1 := Scalar.cmpi .slt v1947 c0_i32_1452
  let v1952 : BitVec 1 := Scalar.xori v1950 v1951
  let c0_i32_1450 : BitVec 32 := 0#32
  let v1949 : BitVec 1 := Scalar.cmpi .ne v1948 c0_i32_1450
  let v1953 : BitVec 1 := Scalar.andi v1952 v1949
  let v1954 : BitVec 32 := Scalar.addi v1948 v1947
  let v1955 : BitVec 32 := Scalar.select v1953 v1954 v1948
  let v1956 : BitVec 32 := Scalar.select v1942 v1943 v1955
  let c2_i32_1557 : BitVec 32 := 2#32
  let c0_i32_1558 : BitVec 32 := 0#32
  let v2092 : BitVec 1 := Scalar.cmpi .eq c2_i32_1557 c0_i32_1558
  let c1_i32_1559 : BitVec 32 := 1#32
  let v2093 : BitVec 32 := Scalar.select v2092 c1_i32_1559 c2_i32_1557
  let v2094 : BitVec 32 := Scalar.remsi v1956 v2093
  let c0_i32_1561 : BitVec 32 := 0#32
  let v2096 : BitVec 1 := Scalar.cmpi .slt v2094 c0_i32_1561
  let c0_i32_1562 : BitVec 32 := 0#32
  let v2097 : BitVec 1 := Scalar.cmpi .slt v2093 c0_i32_1562
  let v2098 : BitVec 1 := Scalar.xori v2096 v2097
  let c0_i32_1560 : BitVec 32 := 0#32
  let v2095 : BitVec 1 := Scalar.cmpi .ne v2094 c0_i32_1560
  let v2099 : BitVec 1 := Scalar.andi v2098 v2095
  let v2100 : BitVec 32 := Scalar.addi v2094 v2093
  let v2101 : BitVec 32 := Scalar.select v2099 v2100 v2094
  let c0_i32_1563 : BitVec 32 := 0#32
  let v2102 : BitVec 1 := Scalar.cmpi .eq v2101 c0_i32_1563
  let c1_i32_1564 : BitVec 32 := 1#32
  let v2103 : BitVec 32 := Scalar.addi v1956 c1_i32_1564
  let c16_i32_1565 : BitVec 32 := 16#32
  let v2104 : BitVec 32 := Scalar.addi v1956 c16_i32_1565
  let c3_i32_1566 : BitVec 32 := 3#32
  let v2105 : BitVec 32 := Scalar.subi v2104 c3_i32_1566
  let c16_i32_1567 : BitVec 32 := 16#32
  let c0_i32_1568 : BitVec 32 := 0#32
  let v2106 : BitVec 1 := Scalar.cmpi .eq c16_i32_1567 c0_i32_1568
  let c1_i32_1569 : BitVec 32 := 1#32
  let v2107 : BitVec 32 := Scalar.select v2106 c1_i32_1569 c16_i32_1567
  let v2108 : BitVec 32 := Scalar.remsi v2105 v2107
  let c0_i32_1571 : BitVec 32 := 0#32
  let v2110 : BitVec 1 := Scalar.cmpi .slt v2108 c0_i32_1571
  let c0_i32_1572 : BitVec 32 := 0#32
  let v2111 : BitVec 1 := Scalar.cmpi .slt v2107 c0_i32_1572
  let v2112 : BitVec 1 := Scalar.xori v2110 v2111
  let c0_i32_1570 : BitVec 32 := 0#32
  let v2109 : BitVec 1 := Scalar.cmpi .ne v2108 c0_i32_1570
  let v2113 : BitVec 1 := Scalar.andi v2112 v2109
  let v2114 : BitVec 32 := Scalar.addi v2108 v2107
  let v2115 : BitVec 32 := Scalar.select v2113 v2114 v2108
  let v2116 : BitVec 32 := Scalar.select v2102 v2103 v2115
  let c2_i32_1677 : BitVec 32 := 2#32
  let c0_i32_1678 : BitVec 32 := 0#32
  let v2252 : BitVec 1 := Scalar.cmpi .eq c2_i32_1677 c0_i32_1678
  let c1_i32_1679 : BitVec 32 := 1#32
  let v2253 : BitVec 32 := Scalar.select v2252 c1_i32_1679 c2_i32_1677
  let v2254 : BitVec 32 := Scalar.remsi v2116 v2253
  let c0_i32_1681 : BitVec 32 := 0#32
  let v2256 : BitVec 1 := Scalar.cmpi .slt v2254 c0_i32_1681
  let c0_i32_1682 : BitVec 32 := 0#32
  let v2257 : BitVec 1 := Scalar.cmpi .slt v2253 c0_i32_1682
  let v2258 : BitVec 1 := Scalar.xori v2256 v2257
  let c0_i32_1680 : BitVec 32 := 0#32
  let v2255 : BitVec 1 := Scalar.cmpi .ne v2254 c0_i32_1680
  let v2259 : BitVec 1 := Scalar.andi v2258 v2255
  let v2260 : BitVec 32 := Scalar.addi v2254 v2253
  let v2261 : BitVec 32 := Scalar.select v2259 v2260 v2254
  let c0_i32_1683 : BitVec 32 := 0#32
  let v2262 : BitVec 1 := Scalar.cmpi .eq v2261 c0_i32_1683
  let c1_i32_1684 : BitVec 32 := 1#32
  let v2263 : BitVec 32 := Scalar.addi v2116 c1_i32_1684
  let c16_i32_1685 : BitVec 32 := 16#32
  let v2264 : BitVec 32 := Scalar.addi v2116 c16_i32_1685
  let c3_i32_1686 : BitVec 32 := 3#32
  let v2265 : BitVec 32 := Scalar.subi v2264 c3_i32_1686
  let c16_i32_1687 : BitVec 32 := 16#32
  let c0_i32_1688 : BitVec 32 := 0#32
  let v2266 : BitVec 1 := Scalar.cmpi .eq c16_i32_1687 c0_i32_1688
  let c1_i32_1689 : BitVec 32 := 1#32
  let v2267 : BitVec 32 := Scalar.select v2266 c1_i32_1689 c16_i32_1687
  let v2268 : BitVec 32 := Scalar.remsi v2265 v2267
  let c0_i32_1691 : BitVec 32 := 0#32
  let v2270 : BitVec 1 := Scalar.cmpi .slt v2268 c0_i32_1691
  let c0_i32_1692 : BitVec 32 := 0#32
  let v2271 : BitVec 1 := Scalar.cmpi .slt v2267 c0_i32_1692
  let v2272 : BitVec 1 := Scalar.xori v2270 v2271
  let c0_i32_1690 : BitVec 32 := 0#32
  let v2269 : BitVec 1 := Scalar.cmpi .ne v2268 c0_i32_1690
  let v2273 : BitVec 1 := Scalar.andi v2272 v2269
  let v2274 : BitVec 32 := Scalar.addi v2268 v2267
  let v2275 : BitVec 32 := Scalar.select v2273 v2274 v2268
  let v2276 : BitVec 32 := Scalar.select v2262 v2263 v2275
  let c2_i32_1797 : BitVec 32 := 2#32
  let c0_i32_1798 : BitVec 32 := 0#32
  let v2412 : BitVec 1 := Scalar.cmpi .eq c2_i32_1797 c0_i32_1798
  let c1_i32_1799 : BitVec 32 := 1#32
  let v2413 : BitVec 32 := Scalar.select v2412 c1_i32_1799 c2_i32_1797
  let v2414 : BitVec 32 := Scalar.remsi v2276 v2413
  let c0_i32_1801 : BitVec 32 := 0#32
  let v2416 : BitVec 1 := Scalar.cmpi .slt v2414 c0_i32_1801
  let c0_i32_1802 : BitVec 32 := 0#32
  let v2417 : BitVec 1 := Scalar.cmpi .slt v2413 c0_i32_1802
  let v2418 : BitVec 1 := Scalar.xori v2416 v2417
  let c0_i32_1800 : BitVec 32 := 0#32
  let v2415 : BitVec 1 := Scalar.cmpi .ne v2414 c0_i32_1800
  let v2419 : BitVec 1 := Scalar.andi v2418 v2415
  let v2420 : BitVec 32 := Scalar.addi v2414 v2413
  let v2421 : BitVec 32 := Scalar.select v2419 v2420 v2414
  let c0_i32_1803 : BitVec 32 := 0#32
  let v2422 : BitVec 1 := Scalar.cmpi .eq v2421 c0_i32_1803
  let c1_i32_1804 : BitVec 32 := 1#32
  let v2423 : BitVec 32 := Scalar.addi v2276 c1_i32_1804
  let c16_i32_1805 : BitVec 32 := 16#32
  let v2424 : BitVec 32 := Scalar.addi v2276 c16_i32_1805
  let c3_i32_1806 : BitVec 32 := 3#32
  let v2425 : BitVec 32 := Scalar.subi v2424 c3_i32_1806
  let c16_i32_1807 : BitVec 32 := 16#32
  let c0_i32_1808 : BitVec 32 := 0#32
  let v2426 : BitVec 1 := Scalar.cmpi .eq c16_i32_1807 c0_i32_1808
  let c1_i32_1809 : BitVec 32 := 1#32
  let v2427 : BitVec 32 := Scalar.select v2426 c1_i32_1809 c16_i32_1807
  let v2428 : BitVec 32 := Scalar.remsi v2425 v2427
  let c0_i32_1811 : BitVec 32 := 0#32
  let v2430 : BitVec 1 := Scalar.cmpi .slt v2428 c0_i32_1811
  let c0_i32_1812 : BitVec 32 := 0#32
  let v2431 : BitVec 1 := Scalar.cmpi .slt v2427 c0_i32_1812
  let v2432 : BitVec 1 := Scalar.xori v2430 v2431
  let c0_i32_1810 : BitVec 32 := 0#32
  let v2429 : BitVec 1 := Scalar.cmpi .ne v2428 c0_i32_1810
  let v2433 : BitVec 1 := Scalar.andi v2432 v2429
  let v2434 : BitVec 32 := Scalar.addi v2428 v2427
  let v2435 : BitVec 32 := Scalar.select v2433 v2434 v2428
  let v2436 : BitVec 32 := Scalar.select v2422 v2423 v2435
  let c256_i32_1861 : BitVec 32 := 256#32
  let v2494 : BitVec 32 := Scalar.muli v2436 c256_i32_1861
  let c128_i32_1862 : BitVec 32 := 128#32
  let v2495 : BitVec 32 := Scalar.addi v2494 c128_i32_1862
  let v2496 : Index := Scalar.indexCast v2495
  let c0_1863 : Index := 0#32
  ![v2496.toNat, 0]
def k0_off69 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let c0_i32_114 : BitVec 32 := 0#32
  let v172 : BitVec 1 := Scalar.cmpi .eq c2_i32_113 c0_i32_114
  let c1_i32_115 : BitVec 32 := 1#32
  let v173 : BitVec 32 := Scalar.select v172 c1_i32_115 c2_i32_113
  let v174 : BitVec 32 := Scalar.remsi v2 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c0_i32_119 : BitVec 32 := 0#32
  let v182 : BitVec 1 := Scalar.cmpi .eq v181 c0_i32_119
  let c1_i32_120 : BitVec 32 := 1#32
  let v183 : BitVec 32 := Scalar.addi v2 c1_i32_120
  let c16_i32_121 : BitVec 32 := 16#32
  let v184 : BitVec 32 := Scalar.addi v2 c16_i32_121
  let c3_i32_122 : BitVec 32 := 3#32
  let v185 : BitVec 32 := Scalar.subi v184 c3_i32_122
  let c16_i32_123 : BitVec 32 := 16#32
  let c0_i32_124 : BitVec 32 := 0#32
  let v186 : BitVec 1 := Scalar.cmpi .eq c16_i32_123 c0_i32_124
  let c1_i32_125 : BitVec 32 := 1#32
  let v187 : BitVec 32 := Scalar.select v186 c1_i32_125 c16_i32_123
  let v188 : BitVec 32 := Scalar.remsi v185 v187
  let c0_i32_127 : BitVec 32 := 0#32
  let v190 : BitVec 1 := Scalar.cmpi .slt v188 c0_i32_127
  let c0_i32_128 : BitVec 32 := 0#32
  let v191 : BitVec 1 := Scalar.cmpi .slt v187 c0_i32_128
  let v192 : BitVec 1 := Scalar.xori v190 v191
  let c0_i32_126 : BitVec 32 := 0#32
  let v189 : BitVec 1 := Scalar.cmpi .ne v188 c0_i32_126
  let v193 : BitVec 1 := Scalar.andi v192 v189
  let v194 : BitVec 32 := Scalar.addi v188 v187
  let v195 : BitVec 32 := Scalar.select v193 v194 v188
  let v196 : BitVec 32 := Scalar.select v182 v183 v195
  let c2_i32_234 : BitVec 32 := 2#32
  let c0_i32_235 : BitVec 32 := 0#32
  let v332 : BitVec 1 := Scalar.cmpi .eq c2_i32_234 c0_i32_235
  let c1_i32_236 : BitVec 32 := 1#32
  let v333 : BitVec 32 := Scalar.select v332 c1_i32_236 c2_i32_234
  let v334 : BitVec 32 := Scalar.remsi v196 v333
  let c0_i32_238 : BitVec 32 := 0#32
  let v336 : BitVec 1 := Scalar.cmpi .slt v334 c0_i32_238
  let c0_i32_239 : BitVec 32 := 0#32
  let v337 : BitVec 1 := Scalar.cmpi .slt v333 c0_i32_239
  let v338 : BitVec 1 := Scalar.xori v336 v337
  let c0_i32_237 : BitVec 32 := 0#32
  let v335 : BitVec 1 := Scalar.cmpi .ne v334 c0_i32_237
  let v339 : BitVec 1 := Scalar.andi v338 v335
  let v340 : BitVec 32 := Scalar.addi v334 v333
  let v341 : BitVec 32 := Scalar.select v339 v340 v334
  let c0_i32_240 : BitVec 32 := 0#32
  let v342 : BitVec 1 := Scalar.cmpi .eq v341 c0_i32_240
  let c1_i32_241 : BitVec 32 := 1#32
  let v343 : BitVec 32 := Scalar.addi v196 c1_i32_241
  let c16_i32_242 : BitVec 32 := 16#32
  let v344 : BitVec 32 := Scalar.addi v196 c16_i32_242
  let c3_i32_243 : BitVec 32 := 3#32
  let v345 : BitVec 32 := Scalar.subi v344 c3_i32_243
  let c16_i32_244 : BitVec 32 := 16#32
  let c0_i32_245 : BitVec 32 := 0#32
  let v346 : BitVec 1 := Scalar.cmpi .eq c16_i32_244 c0_i32_245
  let c1_i32_246 : BitVec 32 := 1#32
  let v347 : BitVec 32 := Scalar.select v346 c1_i32_246 c16_i32_244
  let v348 : BitVec 32 := Scalar.remsi v345 v347
  let c0_i32_248 : BitVec 32 := 0#32
  let v350 : BitVec 1 := Scalar.cmpi .slt v348 c0_i32_248
  let c0_i32_249 : BitVec 32 := 0#32
  let v351 : BitVec 1 := Scalar.cmpi .slt v347 c0_i32_249
  let v352 : BitVec 1 := Scalar.xori v350 v351
  let c0_i32_247 : BitVec 32 := 0#32
  let v349 : BitVec 1 := Scalar.cmpi .ne v348 c0_i32_247
  let v353 : BitVec 1 := Scalar.andi v352 v349
  let v354 : BitVec 32 := Scalar.addi v348 v347
  let v355 : BitVec 32 := Scalar.select v353 v354 v348
  let v356 : BitVec 32 := Scalar.select v342 v343 v355
  let c2_i32_355 : BitVec 32 := 2#32
  let c0_i32_356 : BitVec 32 := 0#32
  let v492 : BitVec 1 := Scalar.cmpi .eq c2_i32_355 c0_i32_356
  let c1_i32_357 : BitVec 32 := 1#32
  let v493 : BitVec 32 := Scalar.select v492 c1_i32_357 c2_i32_355
  let v494 : BitVec 32 := Scalar.remsi v356 v493
  let c0_i32_359 : BitVec 32 := 0#32
  let v496 : BitVec 1 := Scalar.cmpi .slt v494 c0_i32_359
  let c0_i32_360 : BitVec 32 := 0#32
  let v497 : BitVec 1 := Scalar.cmpi .slt v493 c0_i32_360
  let v498 : BitVec 1 := Scalar.xori v496 v497
  let c0_i32_358 : BitVec 32 := 0#32
  let v495 : BitVec 1 := Scalar.cmpi .ne v494 c0_i32_358
  let v499 : BitVec 1 := Scalar.andi v498 v495
  let v500 : BitVec 32 := Scalar.addi v494 v493
  let v501 : BitVec 32 := Scalar.select v499 v500 v494
  let c0_i32_361 : BitVec 32 := 0#32
  let v502 : BitVec 1 := Scalar.cmpi .eq v501 c0_i32_361
  let c1_i32_362 : BitVec 32 := 1#32
  let v503 : BitVec 32 := Scalar.addi v356 c1_i32_362
  let c16_i32_363 : BitVec 32 := 16#32
  let v504 : BitVec 32 := Scalar.addi v356 c16_i32_363
  let c3_i32_364 : BitVec 32 := 3#32
  let v505 : BitVec 32 := Scalar.subi v504 c3_i32_364
  let c16_i32_365 : BitVec 32 := 16#32
  let c0_i32_366 : BitVec 32 := 0#32
  let v506 : BitVec 1 := Scalar.cmpi .eq c16_i32_365 c0_i32_366
  let c1_i32_367 : BitVec 32 := 1#32
  let v507 : BitVec 32 := Scalar.select v506 c1_i32_367 c16_i32_365
  let v508 : BitVec 32 := Scalar.remsi v505 v507
  let c0_i32_369 : BitVec 32 := 0#32
  let v510 : BitVec 1 := Scalar.cmpi .slt v508 c0_i32_369
  let c0_i32_370 : BitVec 32 := 0#32
  let v511 : BitVec 1 := Scalar.cmpi .slt v507 c0_i32_370
  let v512 : BitVec 1 := Scalar.xori v510 v511
  let c0_i32_368 : BitVec 32 := 0#32
  let v509 : BitVec 1 := Scalar.cmpi .ne v508 c0_i32_368
  let v513 : BitVec 1 := Scalar.andi v512 v509
  let v514 : BitVec 32 := Scalar.addi v508 v507
  let v515 : BitVec 32 := Scalar.select v513 v514 v508
  let v516 : BitVec 32 := Scalar.select v502 v503 v515
  let c2_i32_476 : BitVec 32 := 2#32
  let c0_i32_477 : BitVec 32 := 0#32
  let v652 : BitVec 1 := Scalar.cmpi .eq c2_i32_476 c0_i32_477
  let c1_i32_478 : BitVec 32 := 1#32
  let v653 : BitVec 32 := Scalar.select v652 c1_i32_478 c2_i32_476
  let v654 : BitVec 32 := Scalar.remsi v516 v653
  let c0_i32_480 : BitVec 32 := 0#32
  let v656 : BitVec 1 := Scalar.cmpi .slt v654 c0_i32_480
  let c0_i32_481 : BitVec 32 := 0#32
  let v657 : BitVec 1 := Scalar.cmpi .slt v653 c0_i32_481
  let v658 : BitVec 1 := Scalar.xori v656 v657
  let c0_i32_479 : BitVec 32 := 0#32
  let v655 : BitVec 1 := Scalar.cmpi .ne v654 c0_i32_479
  let v659 : BitVec 1 := Scalar.andi v658 v655
  let v660 : BitVec 32 := Scalar.addi v654 v653
  let v661 : BitVec 32 := Scalar.select v659 v660 v654
  let c0_i32_482 : BitVec 32 := 0#32
  let v662 : BitVec 1 := Scalar.cmpi .eq v661 c0_i32_482
  let c1_i32_483 : BitVec 32 := 1#32
  let v663 : BitVec 32 := Scalar.addi v516 c1_i32_483
  let c16_i32_484 : BitVec 32 := 16#32
  let v664 : BitVec 32 := Scalar.addi v516 c16_i32_484
  let c3_i32_485 : BitVec 32 := 3#32
  let v665 : BitVec 32 := Scalar.subi v664 c3_i32_485
  let c16_i32_486 : BitVec 32 := 16#32
  let c0_i32_487 : BitVec 32 := 0#32
  let v666 : BitVec 1 := Scalar.cmpi .eq c16_i32_486 c0_i32_487
  let c1_i32_488 : BitVec 32 := 1#32
  let v667 : BitVec 32 := Scalar.select v666 c1_i32_488 c16_i32_486
  let v668 : BitVec 32 := Scalar.remsi v665 v667
  let c0_i32_490 : BitVec 32 := 0#32
  let v670 : BitVec 1 := Scalar.cmpi .slt v668 c0_i32_490
  let c0_i32_491 : BitVec 32 := 0#32
  let v671 : BitVec 1 := Scalar.cmpi .slt v667 c0_i32_491
  let v672 : BitVec 1 := Scalar.xori v670 v671
  let c0_i32_489 : BitVec 32 := 0#32
  let v669 : BitVec 1 := Scalar.cmpi .ne v668 c0_i32_489
  let v673 : BitVec 1 := Scalar.andi v672 v669
  let v674 : BitVec 32 := Scalar.addi v668 v667
  let v675 : BitVec 32 := Scalar.select v673 v674 v668
  let v676 : BitVec 32 := Scalar.select v662 v663 v675
  let c2_i32_597 : BitVec 32 := 2#32
  let c0_i32_598 : BitVec 32 := 0#32
  let v812 : BitVec 1 := Scalar.cmpi .eq c2_i32_597 c0_i32_598
  let c1_i32_599 : BitVec 32 := 1#32
  let v813 : BitVec 32 := Scalar.select v812 c1_i32_599 c2_i32_597
  let v814 : BitVec 32 := Scalar.remsi v676 v813
  let c0_i32_601 : BitVec 32 := 0#32
  let v816 : BitVec 1 := Scalar.cmpi .slt v814 c0_i32_601
  let c0_i32_602 : BitVec 32 := 0#32
  let v817 : BitVec 1 := Scalar.cmpi .slt v813 c0_i32_602
  let v818 : BitVec 1 := Scalar.xori v816 v817
  let c0_i32_600 : BitVec 32 := 0#32
  let v815 : BitVec 1 := Scalar.cmpi .ne v814 c0_i32_600
  let v819 : BitVec 1 := Scalar.andi v818 v815
  let v820 : BitVec 32 := Scalar.addi v814 v813
  let v821 : BitVec 32 := Scalar.select v819 v820 v814
  let c0_i32_603 : BitVec 32 := 0#32
  let v822 : BitVec 1 := Scalar.cmpi .eq v821 c0_i32_603
  let c1_i32_604 : BitVec 32 := 1#32
  let v823 : BitVec 32 := Scalar.addi v676 c1_i32_604
  let c16_i32_605 : BitVec 32 := 16#32
  let v824 : BitVec 32 := Scalar.addi v676 c16_i32_605
  let c3_i32_606 : BitVec 32 := 3#32
  let v825 : BitVec 32 := Scalar.subi v824 c3_i32_606
  let c16_i32_607 : BitVec 32 := 16#32
  let c0_i32_608 : BitVec 32 := 0#32
  let v826 : BitVec 1 := Scalar.cmpi .eq c16_i32_607 c0_i32_608
  let c1_i32_609 : BitVec 32 := 1#32
  let v827 : BitVec 32 := Scalar.select v826 c1_i32_609 c16_i32_607
  let v828 : BitVec 32 := Scalar.remsi v825 v827
  let c0_i32_611 : BitVec 32 := 0#32
  let v830 : BitVec 1 := Scalar.cmpi .slt v828 c0_i32_611
  let c0_i32_612 : BitVec 32 := 0#32
  let v831 : BitVec 1 := Scalar.cmpi .slt v827 c0_i32_612
  let v832 : BitVec 1 := Scalar.xori v830 v831
  let c0_i32_610 : BitVec 32 := 0#32
  let v829 : BitVec 1 := Scalar.cmpi .ne v828 c0_i32_610
  let v833 : BitVec 1 := Scalar.andi v832 v829
  let v834 : BitVec 32 := Scalar.addi v828 v827
  let v835 : BitVec 32 := Scalar.select v833 v834 v828
  let v836 : BitVec 32 := Scalar.select v822 v823 v835
  let c2_i32_717 : BitVec 32 := 2#32
  let c0_i32_718 : BitVec 32 := 0#32
  let v972 : BitVec 1 := Scalar.cmpi .eq c2_i32_717 c0_i32_718
  let c1_i32_719 : BitVec 32 := 1#32
  let v973 : BitVec 32 := Scalar.select v972 c1_i32_719 c2_i32_717
  let v974 : BitVec 32 := Scalar.remsi v836 v973
  let c0_i32_721 : BitVec 32 := 0#32
  let v976 : BitVec 1 := Scalar.cmpi .slt v974 c0_i32_721
  let c0_i32_722 : BitVec 32 := 0#32
  let v977 : BitVec 1 := Scalar.cmpi .slt v973 c0_i32_722
  let v978 : BitVec 1 := Scalar.xori v976 v977
  let c0_i32_720 : BitVec 32 := 0#32
  let v975 : BitVec 1 := Scalar.cmpi .ne v974 c0_i32_720
  let v979 : BitVec 1 := Scalar.andi v978 v975
  let v980 : BitVec 32 := Scalar.addi v974 v973
  let v981 : BitVec 32 := Scalar.select v979 v980 v974
  let c0_i32_723 : BitVec 32 := 0#32
  let v982 : BitVec 1 := Scalar.cmpi .eq v981 c0_i32_723
  let c1_i32_724 : BitVec 32 := 1#32
  let v983 : BitVec 32 := Scalar.addi v836 c1_i32_724
  let c16_i32_725 : BitVec 32 := 16#32
  let v984 : BitVec 32 := Scalar.addi v836 c16_i32_725
  let c3_i32_726 : BitVec 32 := 3#32
  let v985 : BitVec 32 := Scalar.subi v984 c3_i32_726
  let c16_i32_727 : BitVec 32 := 16#32
  let c0_i32_728 : BitVec 32 := 0#32
  let v986 : BitVec 1 := Scalar.cmpi .eq c16_i32_727 c0_i32_728
  let c1_i32_729 : BitVec 32 := 1#32
  let v987 : BitVec 32 := Scalar.select v986 c1_i32_729 c16_i32_727
  let v988 : BitVec 32 := Scalar.remsi v985 v987
  let c0_i32_731 : BitVec 32 := 0#32
  let v990 : BitVec 1 := Scalar.cmpi .slt v988 c0_i32_731
  let c0_i32_732 : BitVec 32 := 0#32
  let v991 : BitVec 1 := Scalar.cmpi .slt v987 c0_i32_732
  let v992 : BitVec 1 := Scalar.xori v990 v991
  let c0_i32_730 : BitVec 32 := 0#32
  let v989 : BitVec 1 := Scalar.cmpi .ne v988 c0_i32_730
  let v993 : BitVec 1 := Scalar.andi v992 v989
  let v994 : BitVec 32 := Scalar.addi v988 v987
  let v995 : BitVec 32 := Scalar.select v993 v994 v988
  let v996 : BitVec 32 := Scalar.select v982 v983 v995
  let c2_i32_837 : BitVec 32 := 2#32
  let c0_i32_838 : BitVec 32 := 0#32
  let v1132 : BitVec 1 := Scalar.cmpi .eq c2_i32_837 c0_i32_838
  let c1_i32_839 : BitVec 32 := 1#32
  let v1133 : BitVec 32 := Scalar.select v1132 c1_i32_839 c2_i32_837
  let v1134 : BitVec 32 := Scalar.remsi v996 v1133
  let c0_i32_841 : BitVec 32 := 0#32
  let v1136 : BitVec 1 := Scalar.cmpi .slt v1134 c0_i32_841
  let c0_i32_842 : BitVec 32 := 0#32
  let v1137 : BitVec 1 := Scalar.cmpi .slt v1133 c0_i32_842
  let v1138 : BitVec 1 := Scalar.xori v1136 v1137
  let c0_i32_840 : BitVec 32 := 0#32
  let v1135 : BitVec 1 := Scalar.cmpi .ne v1134 c0_i32_840
  let v1139 : BitVec 1 := Scalar.andi v1138 v1135
  let v1140 : BitVec 32 := Scalar.addi v1134 v1133
  let v1141 : BitVec 32 := Scalar.select v1139 v1140 v1134
  let c0_i32_843 : BitVec 32 := 0#32
  let v1142 : BitVec 1 := Scalar.cmpi .eq v1141 c0_i32_843
  let c1_i32_844 : BitVec 32 := 1#32
  let v1143 : BitVec 32 := Scalar.addi v996 c1_i32_844
  let c16_i32_845 : BitVec 32 := 16#32
  let v1144 : BitVec 32 := Scalar.addi v996 c16_i32_845
  let c3_i32_846 : BitVec 32 := 3#32
  let v1145 : BitVec 32 := Scalar.subi v1144 c3_i32_846
  let c16_i32_847 : BitVec 32 := 16#32
  let c0_i32_848 : BitVec 32 := 0#32
  let v1146 : BitVec 1 := Scalar.cmpi .eq c16_i32_847 c0_i32_848
  let c1_i32_849 : BitVec 32 := 1#32
  let v1147 : BitVec 32 := Scalar.select v1146 c1_i32_849 c16_i32_847
  let v1148 : BitVec 32 := Scalar.remsi v1145 v1147
  let c0_i32_851 : BitVec 32 := 0#32
  let v1150 : BitVec 1 := Scalar.cmpi .slt v1148 c0_i32_851
  let c0_i32_852 : BitVec 32 := 0#32
  let v1151 : BitVec 1 := Scalar.cmpi .slt v1147 c0_i32_852
  let v1152 : BitVec 1 := Scalar.xori v1150 v1151
  let c0_i32_850 : BitVec 32 := 0#32
  let v1149 : BitVec 1 := Scalar.cmpi .ne v1148 c0_i32_850
  let v1153 : BitVec 1 := Scalar.andi v1152 v1149
  let v1154 : BitVec 32 := Scalar.addi v1148 v1147
  let v1155 : BitVec 32 := Scalar.select v1153 v1154 v1148
  let v1156 : BitVec 32 := Scalar.select v1142 v1143 v1155
  let c2_i32_957 : BitVec 32 := 2#32
  let c0_i32_958 : BitVec 32 := 0#32
  let v1292 : BitVec 1 := Scalar.cmpi .eq c2_i32_957 c0_i32_958
  let c1_i32_959 : BitVec 32 := 1#32
  let v1293 : BitVec 32 := Scalar.select v1292 c1_i32_959 c2_i32_957
  let v1294 : BitVec 32 := Scalar.remsi v1156 v1293
  let c0_i32_961 : BitVec 32 := 0#32
  let v1296 : BitVec 1 := Scalar.cmpi .slt v1294 c0_i32_961
  let c0_i32_962 : BitVec 32 := 0#32
  let v1297 : BitVec 1 := Scalar.cmpi .slt v1293 c0_i32_962
  let v1298 : BitVec 1 := Scalar.xori v1296 v1297
  let c0_i32_960 : BitVec 32 := 0#32
  let v1295 : BitVec 1 := Scalar.cmpi .ne v1294 c0_i32_960
  let v1299 : BitVec 1 := Scalar.andi v1298 v1295
  let v1300 : BitVec 32 := Scalar.addi v1294 v1293
  let v1301 : BitVec 32 := Scalar.select v1299 v1300 v1294
  let c0_i32_963 : BitVec 32 := 0#32
  let v1302 : BitVec 1 := Scalar.cmpi .eq v1301 c0_i32_963
  let c1_i32_964 : BitVec 32 := 1#32
  let v1303 : BitVec 32 := Scalar.addi v1156 c1_i32_964
  let c16_i32_965 : BitVec 32 := 16#32
  let v1304 : BitVec 32 := Scalar.addi v1156 c16_i32_965
  let c3_i32_966 : BitVec 32 := 3#32
  let v1305 : BitVec 32 := Scalar.subi v1304 c3_i32_966
  let c16_i32_967 : BitVec 32 := 16#32
  let c0_i32_968 : BitVec 32 := 0#32
  let v1306 : BitVec 1 := Scalar.cmpi .eq c16_i32_967 c0_i32_968
  let c1_i32_969 : BitVec 32 := 1#32
  let v1307 : BitVec 32 := Scalar.select v1306 c1_i32_969 c16_i32_967
  let v1308 : BitVec 32 := Scalar.remsi v1305 v1307
  let c0_i32_971 : BitVec 32 := 0#32
  let v1310 : BitVec 1 := Scalar.cmpi .slt v1308 c0_i32_971
  let c0_i32_972 : BitVec 32 := 0#32
  let v1311 : BitVec 1 := Scalar.cmpi .slt v1307 c0_i32_972
  let v1312 : BitVec 1 := Scalar.xori v1310 v1311
  let c0_i32_970 : BitVec 32 := 0#32
  let v1309 : BitVec 1 := Scalar.cmpi .ne v1308 c0_i32_970
  let v1313 : BitVec 1 := Scalar.andi v1312 v1309
  let v1314 : BitVec 32 := Scalar.addi v1308 v1307
  let v1315 : BitVec 32 := Scalar.select v1313 v1314 v1308
  let v1316 : BitVec 32 := Scalar.select v1302 v1303 v1315
  let c2_i32_1077 : BitVec 32 := 2#32
  let c0_i32_1078 : BitVec 32 := 0#32
  let v1452 : BitVec 1 := Scalar.cmpi .eq c2_i32_1077 c0_i32_1078
  let c1_i32_1079 : BitVec 32 := 1#32
  let v1453 : BitVec 32 := Scalar.select v1452 c1_i32_1079 c2_i32_1077
  let v1454 : BitVec 32 := Scalar.remsi v1316 v1453
  let c0_i32_1081 : BitVec 32 := 0#32
  let v1456 : BitVec 1 := Scalar.cmpi .slt v1454 c0_i32_1081
  let c0_i32_1082 : BitVec 32 := 0#32
  let v1457 : BitVec 1 := Scalar.cmpi .slt v1453 c0_i32_1082
  let v1458 : BitVec 1 := Scalar.xori v1456 v1457
  let c0_i32_1080 : BitVec 32 := 0#32
  let v1455 : BitVec 1 := Scalar.cmpi .ne v1454 c0_i32_1080
  let v1459 : BitVec 1 := Scalar.andi v1458 v1455
  let v1460 : BitVec 32 := Scalar.addi v1454 v1453
  let v1461 : BitVec 32 := Scalar.select v1459 v1460 v1454
  let c0_i32_1083 : BitVec 32 := 0#32
  let v1462 : BitVec 1 := Scalar.cmpi .eq v1461 c0_i32_1083
  let c1_i32_1084 : BitVec 32 := 1#32
  let v1463 : BitVec 32 := Scalar.addi v1316 c1_i32_1084
  let c16_i32_1085 : BitVec 32 := 16#32
  let v1464 : BitVec 32 := Scalar.addi v1316 c16_i32_1085
  let c3_i32_1086 : BitVec 32 := 3#32
  let v1465 : BitVec 32 := Scalar.subi v1464 c3_i32_1086
  let c16_i32_1087 : BitVec 32 := 16#32
  let c0_i32_1088 : BitVec 32 := 0#32
  let v1466 : BitVec 1 := Scalar.cmpi .eq c16_i32_1087 c0_i32_1088
  let c1_i32_1089 : BitVec 32 := 1#32
  let v1467 : BitVec 32 := Scalar.select v1466 c1_i32_1089 c16_i32_1087
  let v1468 : BitVec 32 := Scalar.remsi v1465 v1467
  let c0_i32_1091 : BitVec 32 := 0#32
  let v1470 : BitVec 1 := Scalar.cmpi .slt v1468 c0_i32_1091
  let c0_i32_1092 : BitVec 32 := 0#32
  let v1471 : BitVec 1 := Scalar.cmpi .slt v1467 c0_i32_1092
  let v1472 : BitVec 1 := Scalar.xori v1470 v1471
  let c0_i32_1090 : BitVec 32 := 0#32
  let v1469 : BitVec 1 := Scalar.cmpi .ne v1468 c0_i32_1090
  let v1473 : BitVec 1 := Scalar.andi v1472 v1469
  let v1474 : BitVec 32 := Scalar.addi v1468 v1467
  let v1475 : BitVec 32 := Scalar.select v1473 v1474 v1468
  let v1476 : BitVec 32 := Scalar.select v1462 v1463 v1475
  let c2_i32_1197 : BitVec 32 := 2#32
  let c0_i32_1198 : BitVec 32 := 0#32
  let v1612 : BitVec 1 := Scalar.cmpi .eq c2_i32_1197 c0_i32_1198
  let c1_i32_1199 : BitVec 32 := 1#32
  let v1613 : BitVec 32 := Scalar.select v1612 c1_i32_1199 c2_i32_1197
  let v1614 : BitVec 32 := Scalar.remsi v1476 v1613
  let c0_i32_1201 : BitVec 32 := 0#32
  let v1616 : BitVec 1 := Scalar.cmpi .slt v1614 c0_i32_1201
  let c0_i32_1202 : BitVec 32 := 0#32
  let v1617 : BitVec 1 := Scalar.cmpi .slt v1613 c0_i32_1202
  let v1618 : BitVec 1 := Scalar.xori v1616 v1617
  let c0_i32_1200 : BitVec 32 := 0#32
  let v1615 : BitVec 1 := Scalar.cmpi .ne v1614 c0_i32_1200
  let v1619 : BitVec 1 := Scalar.andi v1618 v1615
  let v1620 : BitVec 32 := Scalar.addi v1614 v1613
  let v1621 : BitVec 32 := Scalar.select v1619 v1620 v1614
  let c0_i32_1203 : BitVec 32 := 0#32
  let v1622 : BitVec 1 := Scalar.cmpi .eq v1621 c0_i32_1203
  let c1_i32_1204 : BitVec 32 := 1#32
  let v1623 : BitVec 32 := Scalar.addi v1476 c1_i32_1204
  let c16_i32_1205 : BitVec 32 := 16#32
  let v1624 : BitVec 32 := Scalar.addi v1476 c16_i32_1205
  let c3_i32_1206 : BitVec 32 := 3#32
  let v1625 : BitVec 32 := Scalar.subi v1624 c3_i32_1206
  let c16_i32_1207 : BitVec 32 := 16#32
  let c0_i32_1208 : BitVec 32 := 0#32
  let v1626 : BitVec 1 := Scalar.cmpi .eq c16_i32_1207 c0_i32_1208
  let c1_i32_1209 : BitVec 32 := 1#32
  let v1627 : BitVec 32 := Scalar.select v1626 c1_i32_1209 c16_i32_1207
  let v1628 : BitVec 32 := Scalar.remsi v1625 v1627
  let c0_i32_1211 : BitVec 32 := 0#32
  let v1630 : BitVec 1 := Scalar.cmpi .slt v1628 c0_i32_1211
  let c0_i32_1212 : BitVec 32 := 0#32
  let v1631 : BitVec 1 := Scalar.cmpi .slt v1627 c0_i32_1212
  let v1632 : BitVec 1 := Scalar.xori v1630 v1631
  let c0_i32_1210 : BitVec 32 := 0#32
  let v1629 : BitVec 1 := Scalar.cmpi .ne v1628 c0_i32_1210
  let v1633 : BitVec 1 := Scalar.andi v1632 v1629
  let v1634 : BitVec 32 := Scalar.addi v1628 v1627
  let v1635 : BitVec 32 := Scalar.select v1633 v1634 v1628
  let v1636 : BitVec 32 := Scalar.select v1622 v1623 v1635
  let c2_i32_1317 : BitVec 32 := 2#32
  let c0_i32_1318 : BitVec 32 := 0#32
  let v1772 : BitVec 1 := Scalar.cmpi .eq c2_i32_1317 c0_i32_1318
  let c1_i32_1319 : BitVec 32 := 1#32
  let v1773 : BitVec 32 := Scalar.select v1772 c1_i32_1319 c2_i32_1317
  let v1774 : BitVec 32 := Scalar.remsi v1636 v1773
  let c0_i32_1321 : BitVec 32 := 0#32
  let v1776 : BitVec 1 := Scalar.cmpi .slt v1774 c0_i32_1321
  let c0_i32_1322 : BitVec 32 := 0#32
  let v1777 : BitVec 1 := Scalar.cmpi .slt v1773 c0_i32_1322
  let v1778 : BitVec 1 := Scalar.xori v1776 v1777
  let c0_i32_1320 : BitVec 32 := 0#32
  let v1775 : BitVec 1 := Scalar.cmpi .ne v1774 c0_i32_1320
  let v1779 : BitVec 1 := Scalar.andi v1778 v1775
  let v1780 : BitVec 32 := Scalar.addi v1774 v1773
  let v1781 : BitVec 32 := Scalar.select v1779 v1780 v1774
  let c0_i32_1323 : BitVec 32 := 0#32
  let v1782 : BitVec 1 := Scalar.cmpi .eq v1781 c0_i32_1323
  let c1_i32_1324 : BitVec 32 := 1#32
  let v1783 : BitVec 32 := Scalar.addi v1636 c1_i32_1324
  let c16_i32_1325 : BitVec 32 := 16#32
  let v1784 : BitVec 32 := Scalar.addi v1636 c16_i32_1325
  let c3_i32_1326 : BitVec 32 := 3#32
  let v1785 : BitVec 32 := Scalar.subi v1784 c3_i32_1326
  let c16_i32_1327 : BitVec 32 := 16#32
  let c0_i32_1328 : BitVec 32 := 0#32
  let v1786 : BitVec 1 := Scalar.cmpi .eq c16_i32_1327 c0_i32_1328
  let c1_i32_1329 : BitVec 32 := 1#32
  let v1787 : BitVec 32 := Scalar.select v1786 c1_i32_1329 c16_i32_1327
  let v1788 : BitVec 32 := Scalar.remsi v1785 v1787
  let c0_i32_1331 : BitVec 32 := 0#32
  let v1790 : BitVec 1 := Scalar.cmpi .slt v1788 c0_i32_1331
  let c0_i32_1332 : BitVec 32 := 0#32
  let v1791 : BitVec 1 := Scalar.cmpi .slt v1787 c0_i32_1332
  let v1792 : BitVec 1 := Scalar.xori v1790 v1791
  let c0_i32_1330 : BitVec 32 := 0#32
  let v1789 : BitVec 1 := Scalar.cmpi .ne v1788 c0_i32_1330
  let v1793 : BitVec 1 := Scalar.andi v1792 v1789
  let v1794 : BitVec 32 := Scalar.addi v1788 v1787
  let v1795 : BitVec 32 := Scalar.select v1793 v1794 v1788
  let v1796 : BitVec 32 := Scalar.select v1782 v1783 v1795
  let c2_i32_1437 : BitVec 32 := 2#32
  let c0_i32_1438 : BitVec 32 := 0#32
  let v1932 : BitVec 1 := Scalar.cmpi .eq c2_i32_1437 c0_i32_1438
  let c1_i32_1439 : BitVec 32 := 1#32
  let v1933 : BitVec 32 := Scalar.select v1932 c1_i32_1439 c2_i32_1437
  let v1934 : BitVec 32 := Scalar.remsi v1796 v1933
  let c0_i32_1441 : BitVec 32 := 0#32
  let v1936 : BitVec 1 := Scalar.cmpi .slt v1934 c0_i32_1441
  let c0_i32_1442 : BitVec 32 := 0#32
  let v1937 : BitVec 1 := Scalar.cmpi .slt v1933 c0_i32_1442
  let v1938 : BitVec 1 := Scalar.xori v1936 v1937
  let c0_i32_1440 : BitVec 32 := 0#32
  let v1935 : BitVec 1 := Scalar.cmpi .ne v1934 c0_i32_1440
  let v1939 : BitVec 1 := Scalar.andi v1938 v1935
  let v1940 : BitVec 32 := Scalar.addi v1934 v1933
  let v1941 : BitVec 32 := Scalar.select v1939 v1940 v1934
  let c0_i32_1443 : BitVec 32 := 0#32
  let v1942 : BitVec 1 := Scalar.cmpi .eq v1941 c0_i32_1443
  let c1_i32_1444 : BitVec 32 := 1#32
  let v1943 : BitVec 32 := Scalar.addi v1796 c1_i32_1444
  let c16_i32_1445 : BitVec 32 := 16#32
  let v1944 : BitVec 32 := Scalar.addi v1796 c16_i32_1445
  let c3_i32_1446 : BitVec 32 := 3#32
  let v1945 : BitVec 32 := Scalar.subi v1944 c3_i32_1446
  let c16_i32_1447 : BitVec 32 := 16#32
  let c0_i32_1448 : BitVec 32 := 0#32
  let v1946 : BitVec 1 := Scalar.cmpi .eq c16_i32_1447 c0_i32_1448
  let c1_i32_1449 : BitVec 32 := 1#32
  let v1947 : BitVec 32 := Scalar.select v1946 c1_i32_1449 c16_i32_1447
  let v1948 : BitVec 32 := Scalar.remsi v1945 v1947
  let c0_i32_1451 : BitVec 32 := 0#32
  let v1950 : BitVec 1 := Scalar.cmpi .slt v1948 c0_i32_1451
  let c0_i32_1452 : BitVec 32 := 0#32
  let v1951 : BitVec 1 := Scalar.cmpi .slt v1947 c0_i32_1452
  let v1952 : BitVec 1 := Scalar.xori v1950 v1951
  let c0_i32_1450 : BitVec 32 := 0#32
  let v1949 : BitVec 1 := Scalar.cmpi .ne v1948 c0_i32_1450
  let v1953 : BitVec 1 := Scalar.andi v1952 v1949
  let v1954 : BitVec 32 := Scalar.addi v1948 v1947
  let v1955 : BitVec 32 := Scalar.select v1953 v1954 v1948
  let v1956 : BitVec 32 := Scalar.select v1942 v1943 v1955
  let c2_i32_1557 : BitVec 32 := 2#32
  let c0_i32_1558 : BitVec 32 := 0#32
  let v2092 : BitVec 1 := Scalar.cmpi .eq c2_i32_1557 c0_i32_1558
  let c1_i32_1559 : BitVec 32 := 1#32
  let v2093 : BitVec 32 := Scalar.select v2092 c1_i32_1559 c2_i32_1557
  let v2094 : BitVec 32 := Scalar.remsi v1956 v2093
  let c0_i32_1561 : BitVec 32 := 0#32
  let v2096 : BitVec 1 := Scalar.cmpi .slt v2094 c0_i32_1561
  let c0_i32_1562 : BitVec 32 := 0#32
  let v2097 : BitVec 1 := Scalar.cmpi .slt v2093 c0_i32_1562
  let v2098 : BitVec 1 := Scalar.xori v2096 v2097
  let c0_i32_1560 : BitVec 32 := 0#32
  let v2095 : BitVec 1 := Scalar.cmpi .ne v2094 c0_i32_1560
  let v2099 : BitVec 1 := Scalar.andi v2098 v2095
  let v2100 : BitVec 32 := Scalar.addi v2094 v2093
  let v2101 : BitVec 32 := Scalar.select v2099 v2100 v2094
  let c0_i32_1563 : BitVec 32 := 0#32
  let v2102 : BitVec 1 := Scalar.cmpi .eq v2101 c0_i32_1563
  let c1_i32_1564 : BitVec 32 := 1#32
  let v2103 : BitVec 32 := Scalar.addi v1956 c1_i32_1564
  let c16_i32_1565 : BitVec 32 := 16#32
  let v2104 : BitVec 32 := Scalar.addi v1956 c16_i32_1565
  let c3_i32_1566 : BitVec 32 := 3#32
  let v2105 : BitVec 32 := Scalar.subi v2104 c3_i32_1566
  let c16_i32_1567 : BitVec 32 := 16#32
  let c0_i32_1568 : BitVec 32 := 0#32
  let v2106 : BitVec 1 := Scalar.cmpi .eq c16_i32_1567 c0_i32_1568
  let c1_i32_1569 : BitVec 32 := 1#32
  let v2107 : BitVec 32 := Scalar.select v2106 c1_i32_1569 c16_i32_1567
  let v2108 : BitVec 32 := Scalar.remsi v2105 v2107
  let c0_i32_1571 : BitVec 32 := 0#32
  let v2110 : BitVec 1 := Scalar.cmpi .slt v2108 c0_i32_1571
  let c0_i32_1572 : BitVec 32 := 0#32
  let v2111 : BitVec 1 := Scalar.cmpi .slt v2107 c0_i32_1572
  let v2112 : BitVec 1 := Scalar.xori v2110 v2111
  let c0_i32_1570 : BitVec 32 := 0#32
  let v2109 : BitVec 1 := Scalar.cmpi .ne v2108 c0_i32_1570
  let v2113 : BitVec 1 := Scalar.andi v2112 v2109
  let v2114 : BitVec 32 := Scalar.addi v2108 v2107
  let v2115 : BitVec 32 := Scalar.select v2113 v2114 v2108
  let v2116 : BitVec 32 := Scalar.select v2102 v2103 v2115
  let c2_i32_1677 : BitVec 32 := 2#32
  let c0_i32_1678 : BitVec 32 := 0#32
  let v2252 : BitVec 1 := Scalar.cmpi .eq c2_i32_1677 c0_i32_1678
  let c1_i32_1679 : BitVec 32 := 1#32
  let v2253 : BitVec 32 := Scalar.select v2252 c1_i32_1679 c2_i32_1677
  let v2254 : BitVec 32 := Scalar.remsi v2116 v2253
  let c0_i32_1681 : BitVec 32 := 0#32
  let v2256 : BitVec 1 := Scalar.cmpi .slt v2254 c0_i32_1681
  let c0_i32_1682 : BitVec 32 := 0#32
  let v2257 : BitVec 1 := Scalar.cmpi .slt v2253 c0_i32_1682
  let v2258 : BitVec 1 := Scalar.xori v2256 v2257
  let c0_i32_1680 : BitVec 32 := 0#32
  let v2255 : BitVec 1 := Scalar.cmpi .ne v2254 c0_i32_1680
  let v2259 : BitVec 1 := Scalar.andi v2258 v2255
  let v2260 : BitVec 32 := Scalar.addi v2254 v2253
  let v2261 : BitVec 32 := Scalar.select v2259 v2260 v2254
  let c0_i32_1683 : BitVec 32 := 0#32
  let v2262 : BitVec 1 := Scalar.cmpi .eq v2261 c0_i32_1683
  let c1_i32_1684 : BitVec 32 := 1#32
  let v2263 : BitVec 32 := Scalar.addi v2116 c1_i32_1684
  let c16_i32_1685 : BitVec 32 := 16#32
  let v2264 : BitVec 32 := Scalar.addi v2116 c16_i32_1685
  let c3_i32_1686 : BitVec 32 := 3#32
  let v2265 : BitVec 32 := Scalar.subi v2264 c3_i32_1686
  let c16_i32_1687 : BitVec 32 := 16#32
  let c0_i32_1688 : BitVec 32 := 0#32
  let v2266 : BitVec 1 := Scalar.cmpi .eq c16_i32_1687 c0_i32_1688
  let c1_i32_1689 : BitVec 32 := 1#32
  let v2267 : BitVec 32 := Scalar.select v2266 c1_i32_1689 c16_i32_1687
  let v2268 : BitVec 32 := Scalar.remsi v2265 v2267
  let c0_i32_1691 : BitVec 32 := 0#32
  let v2270 : BitVec 1 := Scalar.cmpi .slt v2268 c0_i32_1691
  let c0_i32_1692 : BitVec 32 := 0#32
  let v2271 : BitVec 1 := Scalar.cmpi .slt v2267 c0_i32_1692
  let v2272 : BitVec 1 := Scalar.xori v2270 v2271
  let c0_i32_1690 : BitVec 32 := 0#32
  let v2269 : BitVec 1 := Scalar.cmpi .ne v2268 c0_i32_1690
  let v2273 : BitVec 1 := Scalar.andi v2272 v2269
  let v2274 : BitVec 32 := Scalar.addi v2268 v2267
  let v2275 : BitVec 32 := Scalar.select v2273 v2274 v2268
  let v2276 : BitVec 32 := Scalar.select v2262 v2263 v2275
  let c2_i32_1797 : BitVec 32 := 2#32
  let c0_i32_1798 : BitVec 32 := 0#32
  let v2412 : BitVec 1 := Scalar.cmpi .eq c2_i32_1797 c0_i32_1798
  let c1_i32_1799 : BitVec 32 := 1#32
  let v2413 : BitVec 32 := Scalar.select v2412 c1_i32_1799 c2_i32_1797
  let v2414 : BitVec 32 := Scalar.remsi v2276 v2413
  let c0_i32_1801 : BitVec 32 := 0#32
  let v2416 : BitVec 1 := Scalar.cmpi .slt v2414 c0_i32_1801
  let c0_i32_1802 : BitVec 32 := 0#32
  let v2417 : BitVec 1 := Scalar.cmpi .slt v2413 c0_i32_1802
  let v2418 : BitVec 1 := Scalar.xori v2416 v2417
  let c0_i32_1800 : BitVec 32 := 0#32
  let v2415 : BitVec 1 := Scalar.cmpi .ne v2414 c0_i32_1800
  let v2419 : BitVec 1 := Scalar.andi v2418 v2415
  let v2420 : BitVec 32 := Scalar.addi v2414 v2413
  let v2421 : BitVec 32 := Scalar.select v2419 v2420 v2414
  let c0_i32_1803 : BitVec 32 := 0#32
  let v2422 : BitVec 1 := Scalar.cmpi .eq v2421 c0_i32_1803
  let c1_i32_1804 : BitVec 32 := 1#32
  let v2423 : BitVec 32 := Scalar.addi v2276 c1_i32_1804
  let c16_i32_1805 : BitVec 32 := 16#32
  let v2424 : BitVec 32 := Scalar.addi v2276 c16_i32_1805
  let c3_i32_1806 : BitVec 32 := 3#32
  let v2425 : BitVec 32 := Scalar.subi v2424 c3_i32_1806
  let c16_i32_1807 : BitVec 32 := 16#32
  let c0_i32_1808 : BitVec 32 := 0#32
  let v2426 : BitVec 1 := Scalar.cmpi .eq c16_i32_1807 c0_i32_1808
  let c1_i32_1809 : BitVec 32 := 1#32
  let v2427 : BitVec 32 := Scalar.select v2426 c1_i32_1809 c16_i32_1807
  let v2428 : BitVec 32 := Scalar.remsi v2425 v2427
  let c0_i32_1811 : BitVec 32 := 0#32
  let v2430 : BitVec 1 := Scalar.cmpi .slt v2428 c0_i32_1811
  let c0_i32_1812 : BitVec 32 := 0#32
  let v2431 : BitVec 1 := Scalar.cmpi .slt v2427 c0_i32_1812
  let v2432 : BitVec 1 := Scalar.xori v2430 v2431
  let c0_i32_1810 : BitVec 32 := 0#32
  let v2429 : BitVec 1 := Scalar.cmpi .ne v2428 c0_i32_1810
  let v2433 : BitVec 1 := Scalar.andi v2432 v2429
  let v2434 : BitVec 32 := Scalar.addi v2428 v2427
  let v2435 : BitVec 32 := Scalar.select v2433 v2434 v2428
  let v2436 : BitVec 32 := Scalar.select v2422 v2423 v2435
  let c256_i32_1861 : BitVec 32 := 256#32
  let v2494 : BitVec 32 := Scalar.muli v2436 c256_i32_1861
  let c128_i32_1862 : BitVec 32 := 128#32
  let v2495 : BitVec 32 := Scalar.addi v2494 c128_i32_1862
  let v2500 : Index := Scalar.indexCast v2495
  let c0_1867 : Index := 0#32
  ![v2500.toNat, 0]
def k0_off70 (d0 : Dev nD) (c0_i32_1868 : BitVec 32) (c0_i32_1878 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2502 : BitVec 32 := Scalar.subi v2 c0_i32_1868
  let c16_i32_1869 : BitVec 32 := 16#32
  let c0_i32_1870 : BitVec 32 := 0#32
  let v2503 : BitVec 1 := Scalar.cmpi .eq c16_i32_1869 c0_i32_1870
  let c1_i32_1871 : BitVec 32 := 1#32
  let v2504 : BitVec 32 := Scalar.select v2503 c1_i32_1871 c16_i32_1869
  let v2505 : BitVec 32 := Scalar.remsi v2502 v2504
  let c0_i32_1873 : BitVec 32 := 0#32
  let v2507 : BitVec 1 := Scalar.cmpi .slt v2505 c0_i32_1873
  let c0_i32_1874 : BitVec 32 := 0#32
  let v2508 : BitVec 1 := Scalar.cmpi .slt v2504 c0_i32_1874
  let v2509 : BitVec 1 := Scalar.xori v2507 v2508
  let c0_i32_1872 : BitVec 32 := 0#32
  let v2506 : BitVec 1 := Scalar.cmpi .ne v2505 c0_i32_1872
  let v2510 : BitVec 1 := Scalar.andi v2509 v2506
  let v2511 : BitVec 32 := Scalar.addi v2505 v2504
  let v2512 : BitVec 32 := Scalar.select v2510 v2511 v2505
  let c2_i32_1877 : BitVec 32 := 2#32
  let v2515 : BitVec 32 := Scalar.muli v2512 c2_i32_1877
  let v2516 : BitVec 32 := Scalar.addi v2515 c0_i32_1878
  ![v2516.toNat]
def k0_off71 (d0 : Dev nD) (c0_i32_1868 : BitVec 32) (c0_i32_1876 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2502 : BitVec 32 := Scalar.subi v2 c0_i32_1868
  let c16_i32_1869 : BitVec 32 := 16#32
  let c0_i32_1870 : BitVec 32 := 0#32
  let v2503 : BitVec 1 := Scalar.cmpi .eq c16_i32_1869 c0_i32_1870
  let c1_i32_1871 : BitVec 32 := 1#32
  let v2504 : BitVec 32 := Scalar.select v2503 c1_i32_1871 c16_i32_1869
  let v2505 : BitVec 32 := Scalar.remsi v2502 v2504
  let c0_i32_1873 : BitVec 32 := 0#32
  let v2507 : BitVec 1 := Scalar.cmpi .slt v2505 c0_i32_1873
  let c0_i32_1874 : BitVec 32 := 0#32
  let v2508 : BitVec 1 := Scalar.cmpi .slt v2504 c0_i32_1874
  let v2509 : BitVec 1 := Scalar.xori v2507 v2508
  let c0_i32_1872 : BitVec 32 := 0#32
  let v2506 : BitVec 1 := Scalar.cmpi .ne v2505 c0_i32_1872
  let v2510 : BitVec 1 := Scalar.andi v2509 v2506
  let v2511 : BitVec 32 := Scalar.addi v2505 v2504
  let v2512 : BitVec 32 := Scalar.select v2510 v2511 v2505
  let c256_i32_1875 : BitVec 32 := 256#32
  let v2513 : BitVec 32 := Scalar.muli v2512 c256_i32_1875
  let v2514 : BitVec 32 := Scalar.addi v2513 c0_i32_1876
  let c0_i32_1882 : BitVec 32 := 0#32
  ![v2514.toNat, 0]
def k0_off72 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2770 : BitVec 32 := 8#32
  let v3655 : BitVec 32 := Scalar.muli v2 c8_i32_2770
  let v3656 : Index := Scalar.indexCast v3655
  let c0_2771 : Index := 0#32
  ![v3656.toNat, 0]
def k0_off73 (d0 : Dev nD) (c1_i32_2772 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3660 : BitVec 32 := Scalar.addi v2 c1_i32_2772
  let c16_i32_2773 : BitVec 32 := 16#32
  let c0_i32_2774 : BitVec 32 := 0#32
  let v3661 : BitVec 1 := Scalar.cmpi .eq c16_i32_2773 c0_i32_2774
  let c1_i32_2775 : BitVec 32 := 1#32
  let v3662 : BitVec 32 := Scalar.select v3661 c1_i32_2775 c16_i32_2773
  let v3663 : BitVec 32 := Scalar.remsi v3660 v3662
  let c0_i32_2777 : BitVec 32 := 0#32
  let v3665 : BitVec 1 := Scalar.cmpi .slt v3663 c0_i32_2777
  let c0_i32_2778 : BitVec 32 := 0#32
  let v3666 : BitVec 1 := Scalar.cmpi .slt v3662 c0_i32_2778
  let v3667 : BitVec 1 := Scalar.xori v3665 v3666
  let c0_i32_2776 : BitVec 32 := 0#32
  let v3664 : BitVec 1 := Scalar.cmpi .ne v3663 c0_i32_2776
  let v3668 : BitVec 1 := Scalar.andi v3667 v3664
  let v3669 : BitVec 32 := Scalar.addi v3663 v3662
  let v3670 : BitVec 32 := Scalar.select v3668 v3669 v3663
  ![v3670.toNat]
def k0_off74 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off75 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2780 : BitVec 32 := 8#32
  let v3672 : BitVec 32 := Scalar.muli v2 c8_i32_2780
  let c0_i32_2783 : BitVec 32 := 0#32
  ![v3672.toNat, 0]
def k0_dev65 (d0 : Dev nD) : Nat :=
  let c0_i32_2782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2772 : BitVec 32 := 1#32
  let v3660 : BitVec 32 := Scalar.addi v2 c1_i32_2772
  let c16_i32_2773 : BitVec 32 := 16#32
  let c0_i32_2774 : BitVec 32 := 0#32
  let v3661 : BitVec 1 := Scalar.cmpi .eq c16_i32_2773 c0_i32_2774
  let c1_i32_2775 : BitVec 32 := 1#32
  let v3662 : BitVec 32 := Scalar.select v3661 c1_i32_2775 c16_i32_2773
  let v3663 : BitVec 32 := Scalar.remsi v3660 v3662
  let c0_i32_2777 : BitVec 32 := 0#32
  let v3665 : BitVec 1 := Scalar.cmpi .slt v3663 c0_i32_2777
  let c0_i32_2778 : BitVec 32 := 0#32
  let v3666 : BitVec 1 := Scalar.cmpi .slt v3662 c0_i32_2778
  let v3667 : BitVec 1 := Scalar.xori v3665 v3666
  let c0_i32_2776 : BitVec 32 := 0#32
  let v3664 : BitVec 1 := Scalar.cmpi .ne v3663 c0_i32_2776
  let v3668 : BitVec 1 := Scalar.andi v3667 v3664
  let v3669 : BitVec 32 := Scalar.addi v3663 v3662
  let v3670 : BitVec 32 := Scalar.select v3668 v3669 v3663
  let c1_i32_2781 : BitVec 32 := 1#32
  let v3673 : BitVec 32 := Scalar.muli v3670 c1_i32_2781
  let v3674 : BitVec 32 := Scalar.addi c0_i32_2782 v3673
  v3674.toNat
def k0_dev66 (d0 : Dev nD) : Nat :=
  let c0_i32_2795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2785 : BitVec 32 := 2#32
  let v3681 : BitVec 32 := Scalar.addi v2 c2_i32_2785
  let c16_i32_2786 : BitVec 32 := 16#32
  let c0_i32_2787 : BitVec 32 := 0#32
  let v3682 : BitVec 1 := Scalar.cmpi .eq c16_i32_2786 c0_i32_2787
  let c1_i32_2788 : BitVec 32 := 1#32
  let v3683 : BitVec 32 := Scalar.select v3682 c1_i32_2788 c16_i32_2786
  let v3684 : BitVec 32 := Scalar.remsi v3681 v3683
  let c0_i32_2790 : BitVec 32 := 0#32
  let v3686 : BitVec 1 := Scalar.cmpi .slt v3684 c0_i32_2790
  let c0_i32_2791 : BitVec 32 := 0#32
  let v3687 : BitVec 1 := Scalar.cmpi .slt v3683 c0_i32_2791
  let v3688 : BitVec 1 := Scalar.xori v3686 v3687
  let c0_i32_2789 : BitVec 32 := 0#32
  let v3685 : BitVec 1 := Scalar.cmpi .ne v3684 c0_i32_2789
  let v3689 : BitVec 1 := Scalar.andi v3688 v3685
  let v3690 : BitVec 32 := Scalar.addi v3684 v3683
  let v3691 : BitVec 32 := Scalar.select v3689 v3690 v3684
  let c1_i32_2794 : BitVec 32 := 1#32
  let v3694 : BitVec 32 := Scalar.muli v3691 c1_i32_2794
  let v3695 : BitVec 32 := Scalar.addi c0_i32_2795 v3694
  v3695.toNat
def k0_dev67 (d0 : Dev nD) : Nat :=
  let c0_i32_2808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2798 : BitVec 32 := 3#32
  let v3702 : BitVec 32 := Scalar.addi v2 c3_i32_2798
  let c16_i32_2799 : BitVec 32 := 16#32
  let c0_i32_2800 : BitVec 32 := 0#32
  let v3703 : BitVec 1 := Scalar.cmpi .eq c16_i32_2799 c0_i32_2800
  let c1_i32_2801 : BitVec 32 := 1#32
  let v3704 : BitVec 32 := Scalar.select v3703 c1_i32_2801 c16_i32_2799
  let v3705 : BitVec 32 := Scalar.remsi v3702 v3704
  let c0_i32_2803 : BitVec 32 := 0#32
  let v3707 : BitVec 1 := Scalar.cmpi .slt v3705 c0_i32_2803
  let c0_i32_2804 : BitVec 32 := 0#32
  let v3708 : BitVec 1 := Scalar.cmpi .slt v3704 c0_i32_2804
  let v3709 : BitVec 1 := Scalar.xori v3707 v3708
  let c0_i32_2802 : BitVec 32 := 0#32
  let v3706 : BitVec 1 := Scalar.cmpi .ne v3705 c0_i32_2802
  let v3710 : BitVec 1 := Scalar.andi v3709 v3706
  let v3711 : BitVec 32 := Scalar.addi v3705 v3704
  let v3712 : BitVec 32 := Scalar.select v3710 v3711 v3705
  let c1_i32_2807 : BitVec 32 := 1#32
  let v3715 : BitVec 32 := Scalar.muli v3712 c1_i32_2807
  let v3716 : BitVec 32 := Scalar.addi c0_i32_2808 v3715
  v3716.toNat
def k0_dev68 (d0 : Dev nD) : Nat :=
  let c0_i32_2821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2811 : BitVec 32 := 4#32
  let v3723 : BitVec 32 := Scalar.addi v2 c4_i32_2811
  let c16_i32_2812 : BitVec 32 := 16#32
  let c0_i32_2813 : BitVec 32 := 0#32
  let v3724 : BitVec 1 := Scalar.cmpi .eq c16_i32_2812 c0_i32_2813
  let c1_i32_2814 : BitVec 32 := 1#32
  let v3725 : BitVec 32 := Scalar.select v3724 c1_i32_2814 c16_i32_2812
  let v3726 : BitVec 32 := Scalar.remsi v3723 v3725
  let c0_i32_2816 : BitVec 32 := 0#32
  let v3728 : BitVec 1 := Scalar.cmpi .slt v3726 c0_i32_2816
  let c0_i32_2817 : BitVec 32 := 0#32
  let v3729 : BitVec 1 := Scalar.cmpi .slt v3725 c0_i32_2817
  let v3730 : BitVec 1 := Scalar.xori v3728 v3729
  let c0_i32_2815 : BitVec 32 := 0#32
  let v3727 : BitVec 1 := Scalar.cmpi .ne v3726 c0_i32_2815
  let v3731 : BitVec 1 := Scalar.andi v3730 v3727
  let v3732 : BitVec 32 := Scalar.addi v3726 v3725
  let v3733 : BitVec 32 := Scalar.select v3731 v3732 v3726
  let c1_i32_2820 : BitVec 32 := 1#32
  let v3736 : BitVec 32 := Scalar.muli v3733 c1_i32_2820
  let v3737 : BitVec 32 := Scalar.addi c0_i32_2821 v3736
  v3737.toNat
def k0_dev69 (d0 : Dev nD) : Nat :=
  let c0_i32_2834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2824 : BitVec 32 := 5#32
  let v3744 : BitVec 32 := Scalar.addi v2 c5_i32_2824
  let c16_i32_2825 : BitVec 32 := 16#32
  let c0_i32_2826 : BitVec 32 := 0#32
  let v3745 : BitVec 1 := Scalar.cmpi .eq c16_i32_2825 c0_i32_2826
  let c1_i32_2827 : BitVec 32 := 1#32
  let v3746 : BitVec 32 := Scalar.select v3745 c1_i32_2827 c16_i32_2825
  let v3747 : BitVec 32 := Scalar.remsi v3744 v3746
  let c0_i32_2829 : BitVec 32 := 0#32
  let v3749 : BitVec 1 := Scalar.cmpi .slt v3747 c0_i32_2829
  let c0_i32_2830 : BitVec 32 := 0#32
  let v3750 : BitVec 1 := Scalar.cmpi .slt v3746 c0_i32_2830
  let v3751 : BitVec 1 := Scalar.xori v3749 v3750
  let c0_i32_2828 : BitVec 32 := 0#32
  let v3748 : BitVec 1 := Scalar.cmpi .ne v3747 c0_i32_2828
  let v3752 : BitVec 1 := Scalar.andi v3751 v3748
  let v3753 : BitVec 32 := Scalar.addi v3747 v3746
  let v3754 : BitVec 32 := Scalar.select v3752 v3753 v3747
  let c1_i32_2833 : BitVec 32 := 1#32
  let v3757 : BitVec 32 := Scalar.muli v3754 c1_i32_2833
  let v3758 : BitVec 32 := Scalar.addi c0_i32_2834 v3757
  v3758.toNat
def k0_dev70 (d0 : Dev nD) : Nat :=
  let c0_i32_2847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2837 : BitVec 32 := 6#32
  let v3765 : BitVec 32 := Scalar.addi v2 c6_i32_2837
  let c16_i32_2838 : BitVec 32 := 16#32
  let c0_i32_2839 : BitVec 32 := 0#32
  let v3766 : BitVec 1 := Scalar.cmpi .eq c16_i32_2838 c0_i32_2839
  let c1_i32_2840 : BitVec 32 := 1#32
  let v3767 : BitVec 32 := Scalar.select v3766 c1_i32_2840 c16_i32_2838
  let v3768 : BitVec 32 := Scalar.remsi v3765 v3767
  let c0_i32_2842 : BitVec 32 := 0#32
  let v3770 : BitVec 1 := Scalar.cmpi .slt v3768 c0_i32_2842
  let c0_i32_2843 : BitVec 32 := 0#32
  let v3771 : BitVec 1 := Scalar.cmpi .slt v3767 c0_i32_2843
  let v3772 : BitVec 1 := Scalar.xori v3770 v3771
  let c0_i32_2841 : BitVec 32 := 0#32
  let v3769 : BitVec 1 := Scalar.cmpi .ne v3768 c0_i32_2841
  let v3773 : BitVec 1 := Scalar.andi v3772 v3769
  let v3774 : BitVec 32 := Scalar.addi v3768 v3767
  let v3775 : BitVec 32 := Scalar.select v3773 v3774 v3768
  let c1_i32_2846 : BitVec 32 := 1#32
  let v3778 : BitVec 32 := Scalar.muli v3775 c1_i32_2846
  let v3779 : BitVec 32 := Scalar.addi c0_i32_2847 v3778
  v3779.toNat
def k0_dev71 (d0 : Dev nD) : Nat :=
  let c0_i32_2860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2850 : BitVec 32 := 7#32
  let v3786 : BitVec 32 := Scalar.addi v2 c7_i32_2850
  let c16_i32_2851 : BitVec 32 := 16#32
  let c0_i32_2852 : BitVec 32 := 0#32
  let v3787 : BitVec 1 := Scalar.cmpi .eq c16_i32_2851 c0_i32_2852
  let c1_i32_2853 : BitVec 32 := 1#32
  let v3788 : BitVec 32 := Scalar.select v3787 c1_i32_2853 c16_i32_2851
  let v3789 : BitVec 32 := Scalar.remsi v3786 v3788
  let c0_i32_2855 : BitVec 32 := 0#32
  let v3791 : BitVec 1 := Scalar.cmpi .slt v3789 c0_i32_2855
  let c0_i32_2856 : BitVec 32 := 0#32
  let v3792 : BitVec 1 := Scalar.cmpi .slt v3788 c0_i32_2856
  let v3793 : BitVec 1 := Scalar.xori v3791 v3792
  let c0_i32_2854 : BitVec 32 := 0#32
  let v3790 : BitVec 1 := Scalar.cmpi .ne v3789 c0_i32_2854
  let v3794 : BitVec 1 := Scalar.andi v3793 v3790
  let v3795 : BitVec 32 := Scalar.addi v3789 v3788
  let v3796 : BitVec 32 := Scalar.select v3794 v3795 v3789
  let c1_i32_2859 : BitVec 32 := 1#32
  let v3799 : BitVec 32 := Scalar.muli v3796 c1_i32_2859
  let v3800 : BitVec 32 := Scalar.addi c0_i32_2860 v3799
  v3800.toNat
def k0_dev72 (d0 : Dev nD) : Nat :=
  let c0_i32_2873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2863 : BitVec 32 := 8#32
  let v3807 : BitVec 32 := Scalar.addi v2 c8_i32_2863
  let c16_i32_2864 : BitVec 32 := 16#32
  let c0_i32_2865 : BitVec 32 := 0#32
  let v3808 : BitVec 1 := Scalar.cmpi .eq c16_i32_2864 c0_i32_2865
  let c1_i32_2866 : BitVec 32 := 1#32
  let v3809 : BitVec 32 := Scalar.select v3808 c1_i32_2866 c16_i32_2864
  let v3810 : BitVec 32 := Scalar.remsi v3807 v3809
  let c0_i32_2868 : BitVec 32 := 0#32
  let v3812 : BitVec 1 := Scalar.cmpi .slt v3810 c0_i32_2868
  let c0_i32_2869 : BitVec 32 := 0#32
  let v3813 : BitVec 1 := Scalar.cmpi .slt v3809 c0_i32_2869
  let v3814 : BitVec 1 := Scalar.xori v3812 v3813
  let c0_i32_2867 : BitVec 32 := 0#32
  let v3811 : BitVec 1 := Scalar.cmpi .ne v3810 c0_i32_2867
  let v3815 : BitVec 1 := Scalar.andi v3814 v3811
  let v3816 : BitVec 32 := Scalar.addi v3810 v3809
  let v3817 : BitVec 32 := Scalar.select v3815 v3816 v3810
  let c1_i32_2872 : BitVec 32 := 1#32
  let v3820 : BitVec 32 := Scalar.muli v3817 c1_i32_2872
  let v3821 : BitVec 32 := Scalar.addi c0_i32_2873 v3820
  v3821.toNat
def k0_dev73 (d0 : Dev nD) : Nat :=
  let c0_i32_2886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2876 : BitVec 32 := 9#32
  let v3828 : BitVec 32 := Scalar.addi v2 c9_i32_2876
  let c16_i32_2877 : BitVec 32 := 16#32
  let c0_i32_2878 : BitVec 32 := 0#32
  let v3829 : BitVec 1 := Scalar.cmpi .eq c16_i32_2877 c0_i32_2878
  let c1_i32_2879 : BitVec 32 := 1#32
  let v3830 : BitVec 32 := Scalar.select v3829 c1_i32_2879 c16_i32_2877
  let v3831 : BitVec 32 := Scalar.remsi v3828 v3830
  let c0_i32_2881 : BitVec 32 := 0#32
  let v3833 : BitVec 1 := Scalar.cmpi .slt v3831 c0_i32_2881
  let c0_i32_2882 : BitVec 32 := 0#32
  let v3834 : BitVec 1 := Scalar.cmpi .slt v3830 c0_i32_2882
  let v3835 : BitVec 1 := Scalar.xori v3833 v3834
  let c0_i32_2880 : BitVec 32 := 0#32
  let v3832 : BitVec 1 := Scalar.cmpi .ne v3831 c0_i32_2880
  let v3836 : BitVec 1 := Scalar.andi v3835 v3832
  let v3837 : BitVec 32 := Scalar.addi v3831 v3830
  let v3838 : BitVec 32 := Scalar.select v3836 v3837 v3831
  let c1_i32_2885 : BitVec 32 := 1#32
  let v3841 : BitVec 32 := Scalar.muli v3838 c1_i32_2885
  let v3842 : BitVec 32 := Scalar.addi c0_i32_2886 v3841
  v3842.toNat
def k0_dev74 (d0 : Dev nD) : Nat :=
  let c0_i32_2899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2889 : BitVec 32 := 10#32
  let v3849 : BitVec 32 := Scalar.addi v2 c10_i32_2889
  let c16_i32_2890 : BitVec 32 := 16#32
  let c0_i32_2891 : BitVec 32 := 0#32
  let v3850 : BitVec 1 := Scalar.cmpi .eq c16_i32_2890 c0_i32_2891
  let c1_i32_2892 : BitVec 32 := 1#32
  let v3851 : BitVec 32 := Scalar.select v3850 c1_i32_2892 c16_i32_2890
  let v3852 : BitVec 32 := Scalar.remsi v3849 v3851
  let c0_i32_2894 : BitVec 32 := 0#32
  let v3854 : BitVec 1 := Scalar.cmpi .slt v3852 c0_i32_2894
  let c0_i32_2895 : BitVec 32 := 0#32
  let v3855 : BitVec 1 := Scalar.cmpi .slt v3851 c0_i32_2895
  let v3856 : BitVec 1 := Scalar.xori v3854 v3855
  let c0_i32_2893 : BitVec 32 := 0#32
  let v3853 : BitVec 1 := Scalar.cmpi .ne v3852 c0_i32_2893
  let v3857 : BitVec 1 := Scalar.andi v3856 v3853
  let v3858 : BitVec 32 := Scalar.addi v3852 v3851
  let v3859 : BitVec 32 := Scalar.select v3857 v3858 v3852
  let c1_i32_2898 : BitVec 32 := 1#32
  let v3862 : BitVec 32 := Scalar.muli v3859 c1_i32_2898
  let v3863 : BitVec 32 := Scalar.addi c0_i32_2899 v3862
  v3863.toNat
def k0_dev75 (d0 : Dev nD) : Nat :=
  let c0_i32_2912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2902 : BitVec 32 := 11#32
  let v3870 : BitVec 32 := Scalar.addi v2 c11_i32_2902
  let c16_i32_2903 : BitVec 32 := 16#32
  let c0_i32_2904 : BitVec 32 := 0#32
  let v3871 : BitVec 1 := Scalar.cmpi .eq c16_i32_2903 c0_i32_2904
  let c1_i32_2905 : BitVec 32 := 1#32
  let v3872 : BitVec 32 := Scalar.select v3871 c1_i32_2905 c16_i32_2903
  let v3873 : BitVec 32 := Scalar.remsi v3870 v3872
  let c0_i32_2907 : BitVec 32 := 0#32
  let v3875 : BitVec 1 := Scalar.cmpi .slt v3873 c0_i32_2907
  let c0_i32_2908 : BitVec 32 := 0#32
  let v3876 : BitVec 1 := Scalar.cmpi .slt v3872 c0_i32_2908
  let v3877 : BitVec 1 := Scalar.xori v3875 v3876
  let c0_i32_2906 : BitVec 32 := 0#32
  let v3874 : BitVec 1 := Scalar.cmpi .ne v3873 c0_i32_2906
  let v3878 : BitVec 1 := Scalar.andi v3877 v3874
  let v3879 : BitVec 32 := Scalar.addi v3873 v3872
  let v3880 : BitVec 32 := Scalar.select v3878 v3879 v3873
  let c1_i32_2911 : BitVec 32 := 1#32
  let v3883 : BitVec 32 := Scalar.muli v3880 c1_i32_2911
  let v3884 : BitVec 32 := Scalar.addi c0_i32_2912 v3883
  v3884.toNat
def k0_dev76 (d0 : Dev nD) : Nat :=
  let c0_i32_2925 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2915 : BitVec 32 := 12#32
  let v3891 : BitVec 32 := Scalar.addi v2 c12_i32_2915
  let c16_i32_2916 : BitVec 32 := 16#32
  let c0_i32_2917 : BitVec 32 := 0#32
  let v3892 : BitVec 1 := Scalar.cmpi .eq c16_i32_2916 c0_i32_2917
  let c1_i32_2918 : BitVec 32 := 1#32
  let v3893 : BitVec 32 := Scalar.select v3892 c1_i32_2918 c16_i32_2916
  let v3894 : BitVec 32 := Scalar.remsi v3891 v3893
  let c0_i32_2920 : BitVec 32 := 0#32
  let v3896 : BitVec 1 := Scalar.cmpi .slt v3894 c0_i32_2920
  let c0_i32_2921 : BitVec 32 := 0#32
  let v3897 : BitVec 1 := Scalar.cmpi .slt v3893 c0_i32_2921
  let v3898 : BitVec 1 := Scalar.xori v3896 v3897
  let c0_i32_2919 : BitVec 32 := 0#32
  let v3895 : BitVec 1 := Scalar.cmpi .ne v3894 c0_i32_2919
  let v3899 : BitVec 1 := Scalar.andi v3898 v3895
  let v3900 : BitVec 32 := Scalar.addi v3894 v3893
  let v3901 : BitVec 32 := Scalar.select v3899 v3900 v3894
  let c1_i32_2924 : BitVec 32 := 1#32
  let v3904 : BitVec 32 := Scalar.muli v3901 c1_i32_2924
  let v3905 : BitVec 32 := Scalar.addi c0_i32_2925 v3904
  v3905.toNat
def k0_dev77 (d0 : Dev nD) : Nat :=
  let c0_i32_2938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2928 : BitVec 32 := 13#32
  let v3912 : BitVec 32 := Scalar.addi v2 c13_i32_2928
  let c16_i32_2929 : BitVec 32 := 16#32
  let c0_i32_2930 : BitVec 32 := 0#32
  let v3913 : BitVec 1 := Scalar.cmpi .eq c16_i32_2929 c0_i32_2930
  let c1_i32_2931 : BitVec 32 := 1#32
  let v3914 : BitVec 32 := Scalar.select v3913 c1_i32_2931 c16_i32_2929
  let v3915 : BitVec 32 := Scalar.remsi v3912 v3914
  let c0_i32_2933 : BitVec 32 := 0#32
  let v3917 : BitVec 1 := Scalar.cmpi .slt v3915 c0_i32_2933
  let c0_i32_2934 : BitVec 32 := 0#32
  let v3918 : BitVec 1 := Scalar.cmpi .slt v3914 c0_i32_2934
  let v3919 : BitVec 1 := Scalar.xori v3917 v3918
  let c0_i32_2932 : BitVec 32 := 0#32
  let v3916 : BitVec 1 := Scalar.cmpi .ne v3915 c0_i32_2932
  let v3920 : BitVec 1 := Scalar.andi v3919 v3916
  let v3921 : BitVec 32 := Scalar.addi v3915 v3914
  let v3922 : BitVec 32 := Scalar.select v3920 v3921 v3915
  let c1_i32_2937 : BitVec 32 := 1#32
  let v3925 : BitVec 32 := Scalar.muli v3922 c1_i32_2937
  let v3926 : BitVec 32 := Scalar.addi c0_i32_2938 v3925
  v3926.toNat
def k0_dev78 (d0 : Dev nD) : Nat :=
  let c0_i32_2951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2941 : BitVec 32 := 14#32
  let v3933 : BitVec 32 := Scalar.addi v2 c14_i32_2941
  let c16_i32_2942 : BitVec 32 := 16#32
  let c0_i32_2943 : BitVec 32 := 0#32
  let v3934 : BitVec 1 := Scalar.cmpi .eq c16_i32_2942 c0_i32_2943
  let c1_i32_2944 : BitVec 32 := 1#32
  let v3935 : BitVec 32 := Scalar.select v3934 c1_i32_2944 c16_i32_2942
  let v3936 : BitVec 32 := Scalar.remsi v3933 v3935
  let c0_i32_2946 : BitVec 32 := 0#32
  let v3938 : BitVec 1 := Scalar.cmpi .slt v3936 c0_i32_2946
  let c0_i32_2947 : BitVec 32 := 0#32
  let v3939 : BitVec 1 := Scalar.cmpi .slt v3935 c0_i32_2947
  let v3940 : BitVec 1 := Scalar.xori v3938 v3939
  let c0_i32_2945 : BitVec 32 := 0#32
  let v3937 : BitVec 1 := Scalar.cmpi .ne v3936 c0_i32_2945
  let v3941 : BitVec 1 := Scalar.andi v3940 v3937
  let v3942 : BitVec 32 := Scalar.addi v3936 v3935
  let v3943 : BitVec 32 := Scalar.select v3941 v3942 v3936
  let c1_i32_2950 : BitVec 32 := 1#32
  let v3946 : BitVec 32 := Scalar.muli v3943 c1_i32_2950
  let v3947 : BitVec 32 := Scalar.addi c0_i32_2951 v3946
  v3947.toNat
def k0_dev79 (d0 : Dev nD) : Nat :=
  let c0_i32_2963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3954 : BitVec 32 := Scalar.addi v2 c15_i32
  let c16_i32_2954 : BitVec 32 := 16#32
  let c0_i32_2955 : BitVec 32 := 0#32
  let v3955 : BitVec 1 := Scalar.cmpi .eq c16_i32_2954 c0_i32_2955
  let c1_i32_2956 : BitVec 32 := 1#32
  let v3956 : BitVec 32 := Scalar.select v3955 c1_i32_2956 c16_i32_2954
  let v3957 : BitVec 32 := Scalar.remsi v3954 v3956
  let c0_i32_2958 : BitVec 32 := 0#32
  let v3959 : BitVec 1 := Scalar.cmpi .slt v3957 c0_i32_2958
  let c0_i32_2959 : BitVec 32 := 0#32
  let v3960 : BitVec 1 := Scalar.cmpi .slt v3956 c0_i32_2959
  let v3961 : BitVec 1 := Scalar.xori v3959 v3960
  let c0_i32_2957 : BitVec 32 := 0#32
  let v3958 : BitVec 1 := Scalar.cmpi .ne v3957 c0_i32_2957
  let v3962 : BitVec 1 := Scalar.andi v3961 v3958
  let v3963 : BitVec 32 := Scalar.addi v3957 v3956
  let v3964 : BitVec 32 := Scalar.select v3962 v3963 v3957
  let c1_i32_2962 : BitVec 32 := 1#32
  let v3967 : BitVec 32 := Scalar.muli v3964 c1_i32_2962
  let v3968 : BitVec 32 := Scalar.addi c0_i32_2963 v3967
  v3968.toNat
def k0_off76 (d0 : Dev nD) (c1_i32_2966 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3975 : BitVec 32 := Scalar.addi v2 c1_i32_2966
  let c16_i32_2967 : BitVec 32 := 16#32
  let c0_i32_2968 : BitVec 32 := 0#32
  let v3976 : BitVec 1 := Scalar.cmpi .eq c16_i32_2967 c0_i32_2968
  let c1_i32_2969 : BitVec 32 := 1#32
  let v3977 : BitVec 32 := Scalar.select v3976 c1_i32_2969 c16_i32_2967
  let v3978 : BitVec 32 := Scalar.remsi v3975 v3977
  let c0_i32_2971 : BitVec 32 := 0#32
  let v3980 : BitVec 1 := Scalar.cmpi .slt v3978 c0_i32_2971
  let c0_i32_2972 : BitVec 32 := 0#32
  let v3981 : BitVec 1 := Scalar.cmpi .slt v3977 c0_i32_2972
  let v3982 : BitVec 1 := Scalar.xori v3980 v3981
  let c0_i32_2970 : BitVec 32 := 0#32
  let v3979 : BitVec 1 := Scalar.cmpi .ne v3978 c0_i32_2970
  let v3983 : BitVec 1 := Scalar.andi v3982 v3979
  let v3984 : BitVec 32 := Scalar.addi v3978 v3977
  let v3985 : BitVec 32 := Scalar.select v3983 v3984 v3978
  let c8_i32_2974 : BitVec 32 := 8#32
  let v3987 : BitVec 32 := Scalar.muli v3985 c8_i32_2974
  let c0_i32_2977 : BitVec 32 := 0#32
  ![v3987.toNat, 0]
abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Proof.K.Ring.lean ====
/-
# The two rings

Sixteen devices, two directed rings through all of them: ring 0 (the upper half of every chunk) steps from device
`d` to `d + 1`; ring 1 (the lower half) follows the cycle `0 → 3 → 2 → 5 → 4 → … → 15 → 14 → 1 → 0`. Both are
described by a position along the ring: `pos r d` is where device `d` stands on ring `r`, `dev r p` the device
standing at position `p`. `org r c k` is the device `k` steps before `c`, `nxt r c` the one after it, `dist r o c`
the number of steps from `o` to `c`. Everything here is decided over the sixteen devices.
-/
module

public import Init

@[expose] public section

namespace Cert.K

/-- Where device `d` stands on ring `r`. -/
def pos (r : Fin 2) (d : Fin 16) : Fin 16 :=
  if r = 0 then d else if d.val % 2 = 0 then d else d + 14

/-- The device that stands at position `p` of ring `r`. -/
def dev (r : Fin 2) (p : Fin 16) : Fin 16 :=
  if r = 0 then p else if p.val % 2 = 0 then p else p + 2

/-- The device `k` steps before `c` on ring `r`. -/
def org (r : Fin 2) (c : Fin 16) (k : Fin 16) : Fin 16 := dev r (pos r c - k)

/-- The device after `c` on ring `r`. -/
def nxt (r : Fin 2) (c : Fin 16) : Fin 16 := dev r (pos r c + 1)

/-- The device before `c` on ring `r`. -/
def prv (r : Fin 2) (c : Fin 16) : Fin 16 := dev r (pos r c - 1)

/-- The number of steps from `o` to `c` on ring `r`. -/
def dist (r : Fin 2) (o c : Fin 16) : Fin 16 := pos r c - pos r o

theorem org_zero : ∀ (r : Fin 2) (c : Fin 16), org r c 0 = c := by decide
theorem dist_org : ∀ (r : Fin 2) (c k : Fin 16), dist r (org r c k) c = k := by decide +kernel
theorem org_dist : ∀ (r : Fin 2) (o c : Fin 16), org r c (dist r o c) = o := by decide +kernel
theorem dist_self : ∀ (r : Fin 2) (c : Fin 16), dist r c c = 0 := by decide
theorem dist_eq_zero : ∀ (r : Fin 2) (o c : Fin 16), dist r o c = 0 → o = c := by decide +kernel
theorem prv_nxt : ∀ (r : Fin 2) (c : Fin 16), prv r (nxt r c) = c := by decide
theorem nxt_prv : ∀ (r : Fin 2) (c : Fin 16), nxt r (prv r c) = c := by decide
/-- One step further along the ring is one step more. -/
theorem dist_nxt : ∀ (r : Fin 2) (o c : Fin 16), dist r o (nxt r c) = dist r o c + 1 := by decide +kernel
/-- The device `k` steps before `c` is the one `k + 1` steps before the next. -/
theorem org_nxt : ∀ (r : Fin 2) (c k : Fin 16), org r (nxt r c) (k + 1) = org r c k := by decide +kernel

end Cert.K
-- ==== Proof.K.Script.lean ====
/-
# The kernel's body as a script

The body is one device's straight run of instructions. This file names the instructions, at the rows and cells they
touch, and lists them in program order (`script c`); `Body.lean` proves that the printed body is this script.
-/
module

public import proofs.«01_k».proof.Proof.K.Ring
public import proofs.«01_k».proof.Proof.Gen.KernelIdeal
public import proofs.«01_k».proof.Proof.Gen.KernelIdeal.Skeleton
public import Idealize.ShloMosaic.Lib.Pipeline.Kit

@[expose] public section

noncomputable section

namespace Cert.K

open Cert.KernelIdeal Cert.KernelIdeal.Gen
open Idealize.ShloMosaic Idealize.ShloMosaic.TcCoe
open Idealize.SL.Sem

variable {F : FTy → Type} [FloatOps F]

/-! ## The buffers -/

abbrev xM : Memref sig .tc .vmem S256x4096 .bf16 := Memref.whole cc0_stg0_0
abbrev wM : Memref sig .tc .vmem S4096x128 .bf16 := Memref.whole cc0_stg1_0
abbrev oM : Memref sig .tc .vmem S4096x128 .f32 := Memref.whole cc0_stg2_0
/-- The gather buffer: every device's chunk of `x`, 256 rows each. -/
abbrev bM : Memref sig .tc .vmem S4096x4096 .bf16 := Memref.whole cc0_scratch0
abbrev vM : Memref sig .tc .vmem S4096x128 .bf16 := Memref.whole cc0_scratch1
/-- The exchange buffer of the local maxima, 8 rows per device. -/
abbrev aM : Memref sig .tc .vmem S128x128 .f32 := Memref.whole cc0_scratch2

/-! ## The pieces of the buffers -/

/-- The first row of piece `(r, si)` of device `o`'s chunk. -/
abbrev row (o : Fin 16) (r si : Fin 2) : ℕ := 256 * o.val + 128 * r.val + 64 * si.val

theorem piece_inb (o : Fin 16) (r si : Fin 2) : ∀ a, (![row o r si, 0] : Fin 2 → ℕ) a + S64x4096.size a ≤ S4096x4096.size a := by
  revert o r si; decide
theorem half_inb (o : Fin 16) (r : Fin 2) : ∀ a, (![row o r 0, 0] : Fin 2 → ℕ) a + S128x4096.size a ≤ S4096x4096.size a := by
  revert o r; decide
theorem own_inb (o : Fin 16) : ∀ a, (![256 * o.val, 0] : Fin 2 → ℕ) a + S256x4096.size a ≤ S4096x4096.size a := by revert o; decide
theorem ohalf_inb (o : Fin 16) (r : Fin 2) : ∀ a, (![row o r 0, 0] : Fin 2 → ℕ) a + S128x128.size a ≤ S4096x128.size a := by
  revert o r; decide
theorem oown_inb (o : Fin 16) : ∀ a, (![256 * o.val, 0] : Fin 2 → ℕ) a + S256x128.size a ≤ S4096x128.size a := by revert o; decide
theorem am_inb (o : Fin 16) : ∀ a, (![8 * o.val, 0] : Fin 2 → ℕ) a + S8x128.size a ≤ S128x128.size a := by revert o; decide

/-- Piece `(r, si)` of device `o`'s chunk in the gather buffer: 64 rows. -/
abbrev pieceR (o : Fin 16) (r si : Fin 2) : Rect S4096x4096 := Rect.unit ![row o r si, 0] S64x4096.size (piece_inb o r si)
abbrev piece (o : Fin 16) (r si : Fin 2) : Memref sig .tc .vmem S64x4096 .bf16 := bM.slice (pieceR o r si) (fun _ => rfl)
/-- Device `o`'s eight rows of the exchange buffer. -/
abbrev amR (o : Fin 16) : Rect S128x128 := Rect.unit ![8 * o.val, 0] S8x128.size (am_inb o)
abbrev amRow (o : Fin 16) : Memref sig .tc .vmem S8x128 .f32 := aM.slice (amR o) (fun _ => rfl)

/-! ## The cells -/

/-- The send cell of piece `(r, si)` of chunk `o`, -/
abbrev sndS (r : Fin 2) (o : Fin 16) (si : Fin 2) : DmaSem sig := ⟨3 + 64 * r.val + 2 * o.val + si.val, by show _ < 163; omega⟩
/-- its receive cell, -/
abbrev rcvS (r : Fin 2) (o : Fin 16) (si : Fin 2) : DmaSem sig := ⟨35 + 64 * r.val + 2 * o.val + si.val, by show _ < 163; omega⟩
/-- the send cell of the maximum sent to `t`, -/
abbrev asndS (t : Fin 16) : DmaSem sig := ⟨131 + t.val, by show _ < 163; omega⟩
/-- the receive cell of the maximum that comes from `s`, -/
abbrev arcvS (s : Fin 16) : DmaSem sig := ⟨147 + s.val, by show _ < 163; omega⟩
/-- the runtime's barrier semaphore. -/
abbrev barS : Sem sig := (SemArray.scalar (sig.barrier 0 rfl) : Sems sig S_).sem

/-! ## The instructions -/

inductive Ins
  /-- the own chunk into the gather buffer -/
  | own
  /-- one unit onto device `n`'s barrier cell -/
  | signal (n : Fin 16)
  /-- wait for four units on the own barrier cell -/
  | barWait
  /-- piece `(r, si)` of chunk `o` to device `n` -/
  | send (r : Fin 2) (o : Fin 16) (si : Fin 2) (n : Fin 16)
  /-- the weights into their scratch buffer -/
  | weights
  /-- the product of the own 256 rows -/
  | gemmOwn
  /-- wait for piece `(r, si)` of chunk `o` -/
  | recv (r : Fin 2) (o : Fin 16) (si : Fin 2)
  /-- the product of half `r` of chunk `o` -/
  | gemm (r : Fin 2) (o : Fin 16)
  /-- wait until piece `(r, si)` of chunk `o` has left -/
  | sent (r : Fin 2) (o : Fin 16) (si : Fin 2)
  /-- the local maximum into the own rows of the exchange buffer -/
  | amax
  /-- those rows to device `t` -/
  | amaxSend (t : Fin 16)
  /-- wait for device `s`'s rows -/
  | amaxRecv (s : Fin 16)
  /-- wait until the rows sent to `t` have left -/
  | amaxSent (t : Fin 16)
  /-- the quantised result -/
  | finish

abbrev PG (F : FTy → Type) : Type 1 := Prog (TpuEff nD τ sig (Elt F) Λ₀ .tc) PUnit

theorem piece_words (o : Fin 16) (r si : Fin 2) : (piece o r si).view.WordExact := by
  refine (Memref.isWhole_whole cc0_scratch0 : bM.IsWhole).wordExact_slice rfl _ ?_
  revert o r si; decide +kernel

theorem own_packed (o : Fin 16) :
    (Rect.unit (s := S4096x4096) ![256 * o.val, 0] S256x4096.size (own_inb o)).PackedRows (EltTy.packing .bf16) := by
  revert o; decide +kernel

/-! ## The single operations, continued by `K` -/

abbrev ownR (o : Fin 16) : Rect S4096x4096 := Rect.unit ![256 * o.val, 0] S256x4096.size (own_inb o)
abbrev halfR (o : Fin 16) (r : Fin 2) : Rect S4096x4096 := Rect.unit ![row o r 0, 0] S128x4096.size (half_inb o r)
abbrev oownR (o : Fin 16) : Rect S4096x128 := Rect.unit ![256 * o.val, 0] S256x128.size (oown_inb o)
abbrev ohalfR (o : Fin 16) (r : Fin 2) : Rect S4096x128 := Rect.unit ![row o r 0, 0] S128x128.size (ohalf_inb o r)
abbrev xR : Rect S256x4096 := Rect.unit ![0, 0] S256x4096.size inb_S256x4096_S256x4096_0_0
abbrev wR : Rect S4096x128 := Rect.unit ![0, 0] S4096x128.size inb_S4096x128_S4096x128_0_0
abbrev aR : Rect S128x128 := Rect.unit ![0, 0] S128x128.size inb_S128x128_S128x128_0_0

def opOwn (c : Fin 16) (K : PG F) : PG F :=
  .op (.load xM xR.toLoadRect (View.loadsAt_vmem h_S256x4096)) fun x =>
  .op (.load bM (ownR c).toLoadRect (View.loadsAt_vmem h_S256x4096)) fun _ =>
  .op (.store bM (ownR c) (k0_pay2 x) Finset.univ
    (View.stores_vmem h_S256x4096 ((Memref.isWhole_whole cc0_scratch0 : bM.IsWhole).storeExact_slice rfl _ (own_packed c)) (fun _ => rfl)) (.inl rfl)) fun _ => K

def opSignal (n : Dev nD) (K : PG F) : PG F := .op (.semSignal (Dev.tc n) barS 1) fun _ => K
def opBarWait (K : PG F) : PG F := .op (.semWait barS 4) fun _ => K

def opSend (r : Fin 2) (o : Fin 16) (si : Fin 2) (n : Dev nD) (K : PG F) : PG F :=
  .op (.enqueueDma (piece o r si) (.remote (Dev.tc n) (piece o r si) (.dma (sndS r o si))) (.dma (rcvS r o si))
    (piece_words o r si) (piece_words o r si) ⟨⟨rfl, Or.inl rfl⟩, trivial⟩) fun _ => K

def opWeights (K : PG F) : PG F :=
  .op (.load wM wR.toLoadRect (View.loadsAt_vmem h_S4096x128)) fun w =>
  .op (.load vM wR.toLoadRect (View.loadsAt_vmem h_S4096x128)) fun _ =>
  .op (.store vM wR (k0_pay3 w) Finset.univ
    (View.stores_vmem h_S4096x128 ((Memref.isWhole_whole cc0_scratch1 : vM.IsWhole).storeExact_slice rfl _ packedbf16_S4096x128_S4096x128_0_0) (fun _ => rfl)) (.inl rfl)) fun _ => K

def opGemmOwn (c : Fin 16) (K : PG F) : PG F :=
  .op (.load bM (ownR c).toLoadRect (View.loadsAt_vmem h_S256x4096)) fun a =>
  .op (.load vM wR.toLoadRect (View.loadsAt_vmem h_S4096x128)) fun w =>
  .op (.load oM (oownR c).toLoadRect (View.loadsAt_vmem h_S256x128)) fun _ =>
  .op (.store oM (oownR c) (k0_pay4 a w) Finset.univ (View.stores_vmem_bits_univ h_S256x128 rfl) (.inl rfl)) fun _ => K

/-- A wait on DMA cell `s` for a piece of the gather buffer. -/
def opWait (s : DmaSem sig) (r : Fin 2) (o : Fin 16) (si : Fin 2) (K : PG F) : PG F :=
  .op (.waitDma2 s (piece o r si) (piece o r si) (piece_words o r si) (piece_words o r si)) fun _ => K

def opGemm (r : Fin 2) (o : Fin 16) (K : PG F) : PG F :=
  .op (.load bM (halfR o r).toLoadRect (View.loadsAt_vmem h_S128x4096)) fun a =>
  .op (.load vM wR.toLoadRect (View.loadsAt_vmem h_S4096x128)) fun w =>
  .op (.load oM (ohalfR o r).toLoadRect (View.loadsAt_vmem h_S128x128)) fun _ =>
  .op (.store oM (ohalfR o r) (k0_pay5 a w) Finset.univ (View.stores_vmem_bits_univ h_S128x128 rfl) (.inl rfl)) fun _ => K

def opAmax (c : Fin 16) (K : PG F) : PG F :=
  .op (.load oM wR.toLoadRect (View.loadsAt_vmem h_S4096x128)) fun y =>
  .op (.load aM (amR c).toLoadRect (View.loadsAt_vmem h_S8x128)) fun _ =>
  .op (.store aM (amR c) (k0_pay36 (k0_pay35 y)) Finset.univ (View.stores_vmem_bits_univ h_S8x128 rfl) (.inl rfl)) fun _ => K

def opAmaxSend (c t : Fin 16) (K : PG F) : PG F :=
  .op (.enqueueDma (amRow c) (.remote (Dev.tc (t : Dev nD)) (amRow c) (.dma (asndS t))) (.dma (arcvS c))
    (View.wordExact_bits rfl) (View.wordExact_bits rfl) ⟨⟨rfl, Or.inl rfl⟩, trivial⟩) fun _ => K

/-- A wait on DMA cell `q` for device `s`'s rows of the exchange buffer. -/
def opAmaxWait (q : DmaSem sig) (c s : Fin 16) (K : PG F) : PG F :=
  .op (.waitDma2 q (amRow c) (amRow s) (View.wordExact_bits rfl) (View.wordExact_bits rfl)) fun _ => K

def opFinish (K : PG F) : PG F :=
  .op (.load aM aR.toLoadRect (View.loadsAt_vmem h_S128x128)) fun a =>
  .op (.load oM wR.toLoadRect (View.loadsAt_vmem h_S4096x128)) fun y =>
  .op (.load oM wR.toLoadRect (View.loadsAt_vmem h_S4096x128)) fun _ =>
  .op (.store oM wR (k0_pay1 (k0_pay37 a) (k0_pay38 a y)) Finset.univ (View.stores_vmem_bits_univ h_S4096x128 rfl) (.inl rfl)) fun _ => K

/-- Instruction `i` on device `c`, continued by `K`. -/
def Ins.op (c : Fin 16) : Ins → PG F → PG F
  | .own, K => opOwn c K
  | .signal n, K => opSignal n K
  | .barWait, K => opBarWait K
  | .send r o si n, K => opSend r o si n K
  | .weights, K => opWeights K
  | .gemmOwn, K => opGemmOwn c K
  | .recv r o si, K => opWait (rcvS r o si) r o si K
  | .gemm r o, K => opGemm r o K
  | .sent r o si, K => opWait (sndS r o si) r o si K
  | .amax, K => opAmax c K
  | .amaxSend t, K => opAmaxSend c t K
  | .amaxRecv s, K => opAmaxWait (arcvS s) c s K
  | .amaxSent t, K => opAmaxWait (asndS t) c c K
  | .finish, K => opFinish K

/-- A list of instructions, continued by `K`. -/
def run (c : Fin 16) : List Ins → PG F → PG F
  | [], K => K
  | i :: l, K => i.op c (run c l K)

theorem run_append (c : Fin 16) (l l' : List Ins) (K : PG F) : run c (l ++ l') K = run c l (run c l' K) := by
  induction l with
  | nil => rfl
  | cons i l ih => exact congrArg (i.op c) ih

/-! ## The script -/

/-- The four pieces of a chunk's two halves in the order the body handles them: `(si, r)` with ring 0 first. -/
abbrev pieces : List (Fin 2 × Fin 2) := [(0, 0), (1, 0), (0, 1), (1, 1)]

/-- The entry handshake and the own chunk sent both ways. -/
def start (c : Fin 16) : List Ins :=
  [.own, .signal (prv 0 c), .signal (nxt 0 c), .signal (prv 1 c), .signal (nxt 1 c), .barWait]
    ++ pieces.map (fun p => .send p.1 c p.2 (nxt p.1 c)) ++ [.weights, .gemmOwn]

/-- Hop `k` (`1 ≤ k ≤ 15`): the chunks that come from `k` devices back, each piece sent on unless it has been all
    the way round, then the two products. -/
def hop (c k : Fin 16) : List Ins :=
  pieces.flatMap (fun p => .recv p.1 (org p.1 c k) p.2 ::
      (if k = 15 then [] else [.send p.1 (org p.1 c k) p.2 (nxt p.1 c)]))
    ++ [.gemm 0 (org 0 c k), .gemm 1 (org 1 c k)]

/-- The steps `1 … 15`, in order. -/
abbrev steps : List (Fin 16) := [1, 2, 3, 4, 5, 6, 7, 8, 9, 10, 11, 12, 13, 14, 15]

/-- Every piece sent has left: those of the chunks from `0 … 14` devices back. -/
def drain (c : Fin 16) : List Ins :=
  steps.flatMap fun k => pieces.map fun p => .sent p.1 (org p.1 c (k - 1)) p.2

/-- The exchange of the local maxima, and the quantised result. -/
def exchange (c : Fin 16) : List Ins :=
  .amax :: (steps.map (fun j => .amaxSend (c + j)) ++ steps.map (fun j => .amaxRecv (c + j))
    ++ steps.map (fun j => .amaxSent (c + j)) ++ [.finish])

def script (c : Fin 16) : List Ins := start c ++ steps.flatMap (hop c) ++ drain c ++ exchange c

end Cert.K
-- ==== Proof.K.BodyParts.lean ====
/-
# The printed body is the script, in stretches

The printed kernel is a straight run of operations whose offsets and devices are integer chains over the device id.
Each chain is decided over the sixteen devices to be the row, cell or device the script names, and the two runs are
the same operation by operation.
-/
module

public import proofs.«01_k».proof.Proof.K.Script

@[expose] public section

noncomputable section

namespace Cert.K

open Cert.KernelIdeal Cert.KernelIdeal.Gen
open Idealize.ShloMosaic Idealize.ShloMosaic.TcCoe
open Idealize.SL.Sem

variable {F : FTy → Type} [FloatOps F]

/-- Two loads at equal offsets, continued alike. -/
theorem load_congr {S : Shape} {e : EltTy} {m : Memref sig .tc .vmem S e} {off off' : Fin S.rank → ℕ} {sz : Fin S.rank → ℕ}
    {h : ∀ a, off a + sz a ≤ S.size a} {h' : ∀ a, off' a + sz a ≤ S.size a} {p p'}
    {k k' : _ → PG F} (ho : off = off') (hk : ∀ v, k v = k' v) :
    Prog.op (.load m (Rect.unit (s := S) off sz h).toLoadRect p) k = Prog.op (.load m (Rect.unit (s := S) off' sz h').toLoadRect p') k' := by
  subst ho; exact congrArg (Prog.op _) (funext hk)

/-- Two stores of equal values at equal offsets, continued alike. -/
theorem store_congr {S : Shape} {e : EltTy} {m : Memref sig .tc .vmem S e} {off off' : Fin S.rank → ℕ} {sz : Fin S.rank → ℕ}
    {h : ∀ a, off a + sz a ≤ S.size a} {h' : ∀ a, off' a + sz a ≤ S.size a}
    {w w' : (Rect.unit (s := S) off sz h).shape.Idx → Elt F e} {Mk p q p' q'}
    {k k' : _ → PG F} (ho : off = off') (hw : w = w') (hk : ∀ v, k v = k' v) :
    Prog.op (.store m (Rect.unit (s := S) off sz h) w Mk p q) k = Prog.op (.store m (Rect.unit (s := S) off' sz h') w' Mk p' q') k' := by
  subst ho hw; exact congrArg (Prog.op _) (funext hk)

/-- A transfer of the rows at `off` of the gather buffer is the script's, once its rows, device and cells are. -/
theorem send_congr {r : Fin 2} {o : Fin 16} {si : Fin 2} {n : Dev nD} {K : PG F} {n' : Dev nD} {q₁ q₂ : DmaSem sig}
    {off off' : Fin 2 → ℕ} {h : ∀ a, off a + S64x4096.size a ≤ S4096x4096.size a} {h' : ∀ a, off' a + S64x4096.size a ≤ S4096x4096.size a}
    {u u' hsc p₁ p₂ p₃} {k : _ → PG F}
    (ho : off = ![row o r si, 0]) (ho' : off' = ![row o r si, 0]) (hn : n' = n) (h₁ : q₁ = sndS r o si) (h₂ : q₂ = rcvS r o si) (hk : ∀ v, K = k v) :
    opSend r o si n K = Prog.op (.enqueueDma (bM.slice (Rect.unit (s := S4096x4096) off S64x4096.size h) u)
      (.remote (Dev.tc n') (bM.slice (Rect.unit (s := S4096x4096) off' S64x4096.size h') u') (.dma q₁) hsc) (.dma q₂) p₁ p₂ p₃) k := by
  subst ho ho' hn h₁ h₂; exact congrArg (Prog.op _) (funext hk)

/-- A wait for the rows at `off` of the gather buffer is the script's, once its rows and its cell are. -/
theorem wait_congr {q : DmaSem sig} {r : Fin 2} {o : Fin 16} {si : Fin 2} {K : PG F} {q' : DmaSem sig}
    {off off' : Fin 2 → ℕ} {h : ∀ a, off a + S64x4096.size a ≤ S4096x4096.size a} {h' : ∀ a, off' a + S64x4096.size a ≤ S4096x4096.size a}
    {u u' p₁ p₂} {k : _ → PG F}
    (ho : off = ![row o r si, 0]) (ho' : off' = ![row o r si, 0]) (h₁ : q' = q) (hk : ∀ v, K = k v) :
    opWait q r o si K = Prog.op (.waitDma2 q' (bM.slice (Rect.unit (s := S4096x4096) off S64x4096.size h) u)
      (bM.slice (Rect.unit (s := S4096x4096) off' S64x4096.size h') u') p₁ p₂) k := by
  subst ho ho' h₁; exact congrArg (Prog.op _) (funext hk)

/-- The same of a transfer of the exchange buffer's rows -/
theorem amaxSend_congr {c t : Fin 16} {K : PG F} {n' : Dev nD} {q₁ q₂ : DmaSem sig}
    {off off' : Fin 2 → ℕ} {h : ∀ a, off a + S8x128.size a ≤ S128x128.size a} {h' : ∀ a, off' a + S8x128.size a ≤ S128x128.size a}
    {u u' hsc p₁ p₂ p₃} {k : _ → PG F}
    (ho : off = ![8 * c.val, 0]) (ho' : off' = ![8 * c.val, 0]) (hn : n' = t) (h₁ : q₁ = asndS t) (h₂ : q₂ = arcvS c) (hk : ∀ v, K = k v) :
    opAmaxSend c t K = Prog.op (.enqueueDma (aM.slice (Rect.unit (s := S128x128) off S8x128.size h) u)
      (.remote (Dev.tc n') (aM.slice (Rect.unit (s := S128x128) off' S8x128.size h') u') (.dma q₁) hsc) (.dma q₂) p₁ p₂ p₃) k := by
  subst ho ho' hn h₁ h₂; exact congrArg (Prog.op _) (funext hk)

/-- and of a wait for some. -/
theorem amaxWait_congr {q : DmaSem sig} {c s : Fin 16} {K : PG F} {q' : DmaSem sig}
    {off off' : Fin 2 → ℕ} {h : ∀ a, off a + S8x128.size a ≤ S128x128.size a} {h' : ∀ a, off' a + S8x128.size a ≤ S128x128.size a}
    {u u' p₁ p₂} {k : _ → PG F}
    (ho : off = ![8 * c.val, 0]) (ho' : off' = ![8 * s.val, 0]) (h₁ : q' = q) (hk : ∀ v, K = k v) :
    opAmaxWait q c s K = Prog.op (.waitDma2 q' (aM.slice (Rect.unit (s := S128x128) off S8x128.size h) u)
      (aM.slice (Rect.unit (s := S128x128) off' S8x128.size h') u') p₁ p₂) k := by
  subst ho ho' h₁; exact congrArg (Prog.op _) (funext hk)

/-- A signal is the script's, once its device is. -/
theorem signal_congr {n n' : Dev nD} {K : PG F} {k : _ → PG F} (hn : n' = n) (hk : ∀ v, K = k v) :
    opSignal n K = Prog.op (.semSignal (Dev.tc n') barS 1) k := by
  subst hn; exact congrArg (Prog.op _) (funext hk)

theorem barWait_congr {K : PG F} {k : _ → PG F} (hk : ∀ v, K = k v) : opBarWait K = Prog.op (.semWait barS 4) k :=
  congrArg (Prog.op _) (funext hk)

attribute [local irreducible] opOwn opSignal opBarWait opSend opWeights opGemmOwn opWait opGemm opAmax opAmaxSend opAmaxWait opFinish

/-- The first stretch of the printed body: the handshake and the hops up to the twelfth's first transfer. -/
abbrev part1 (c : Fin 16) : List Ins := start c ++ ([1, 2, 3, 4, 5, 6, 7, 8, 9, 10, 11].flatMap (hop c) ++ (hop c 12).take 2)
/-- The second: up to the transfers of the local maxima. -/
abbrev part2 (c : Fin 16) : List Ins :=
  (hop c 12).drop 2 ++ ([13, 14, 15].flatMap (hop c) ++ (drain c ++ .amax :: steps.map fun j => .amaxSend (c + j)))
/-- The third: the waits for them, and the quantised result. -/
abbrev part3 (c : Fin 16) : List Ins :=
  steps.map (fun j => .amaxRecv (c + j)) ++ (steps.map (fun j => .amaxSent (c + j)) ++ [.finish])

theorem script_parts (c : Fin 16) : script c = part1 c ++ (part2 c ++ part3 c) := by
  have hs : steps = [1, 2, 3, 4, 5, 6, 7, 8, 9, 10, 11] ++ ([12] ++ [13, 14, 15]) := rfl
  unfold script exchange part1 part2 part3
  generalize drain c = D
  rw [congrArg (List.flatMap (hop c)) hs, List.flatMap_append, List.flatMap_append, List.flatMap_singleton]
  conv_lhs => rw [← List.take_append_drop 2 (hop c 12)]
  simp only [List.append_assoc, List.cons_append]

set_option maxRecDepth 65536 in
set_option maxHeartbeats 4000000 in
theorem part1_eq : ∃ f : Dev nD → (Σ' (_ : Dev nD) (_ : BitVec 32) (_ : BitVec 32) (_ : BitVec 32) (_ : BitVec 32) (_ : BitVec 32) (_ : BitVec 32), BitVec 32),
    (∀ c, (f c).1 = c) ∧ ∀ G : _ → PG F, (k0_part137 xM (Memref.isWhole_whole _) wM (Memref.isWhole_whole _) oM (Memref.isWhole_whole _) bM (Memref.isWhole_whole _)
      vM (Memref.isWhole_whole _) aM (Memref.isWhole_whole _) cc0_scratch3 cc0_scratch4 cc0_scratch5 cc0_scratch6 cc0_scratch7 cc0_scratch8) >>= G
    = Prog.op .deviceId fun c => run c (part1 c) (G (f c)) := by
  refine ⟨?f, ?_, fun G => ?h⟩
  case h =>
    symm
    refine congrArg (Prog.op _) (funext fun c => ?_)
    simp only [part1, part2, part3, script, start, hop, drain, exchange, List.flatMap_cons, List.flatMap_nil, List.map_cons, List.map_nil, List.append_assoc,
    List.cons_append, List.nil_append, Fin.isValue, Fin.reduceEq, ↓reduceIte, List.take_succ_cons, List.take_zero, List.drop_succ_cons, List.drop_zero, run, Ins.op]
    unfold opOwn
    refine load_congr rfl fun x => ?_
    refine load_congr ?_ fun _ => ?_
    · decide +kernel +revert
    refine store_congr ?_ rfl fun _ => ?_
    · decide +kernel +revert
    iterate 4 (refine signal_congr ?_ fun _ => ?_; on_goal 1 => (dsimp only; decide +kernel +revert))
    refine barWait_congr fun _ => ?_
    iterate 4 (refine send_congr ?_ ?_ ?_ ?_ ?_ fun _ => ?_; iterate 5 (on_goal 1 => ((try dsimp only); decide +kernel +revert)))
    unfold opWeights
    refine load_congr rfl fun x => ?_
    refine load_congr rfl fun _ => ?_
    refine store_congr rfl rfl fun _ => ?_
    unfold opGemmOwn
    refine load_congr ?_ fun x => ?_
    · dsimp only; decide +kernel +revert
    refine load_congr rfl fun _ => ?_
    refine load_congr ?_ fun _ => ?_
    · dsimp only; decide +kernel +revert
    refine store_congr ?_ rfl fun _ => ?_
    · dsimp only; decide +kernel +revert
    unfold opGemm
    repeat
      first
      | refine wait_congr ?_ ?_ ?_ fun _ => ?_; iterate 3 (on_goal 1 => ((try dsimp only); decide +kernel +revert))
      | refine send_congr ?_ ?_ ?_ ?_ ?_ fun _ => ?_; iterate 5 (on_goal 1 => ((try dsimp only); decide +kernel +revert))
      | refine load_congr ?_ fun x => ?_
        · (try dsimp only); decide +kernel +revert
        refine load_congr rfl fun _ => ?_
        refine load_congr ?_ fun _ => ?_
        · (try dsimp only); decide +kernel +revert
        refine store_congr ?_ rfl fun _ => ?_
        · (try dsimp only); decide +kernel +revert
    exact rfl
  exact fun _ => rfl

set_option maxRecDepth 65536 in
set_option maxHeartbeats 4000000 in
theorem part2_eq (c : Fin 16) (v1 v2 v3 v4 v5 v6 v7 : BitVec 32) : ∃ b, ∀ G : _ → PG F, (k0_part138 xM (Memref.isWhole_whole _) wM (Memref.isWhole_whole _) oM (Memref.isWhole_whole _) bM (Memref.isWhole_whole _)
      vM (Memref.isWhole_whole _) aM (Memref.isWhole_whole _) cc0_scratch3 cc0_scratch4 cc0_scratch5 cc0_scratch6 cc0_scratch7 cc0_scratch8
      c v1 v2 v3 v4 v5 v6 v7) >>= G = run c (part2 c) (G b) := by
  refine ⟨?b, fun G => ?h⟩
  case h =>
    symm
    simp only [part1, part2, part3, script, start, hop, drain, exchange, List.flatMap_cons, List.flatMap_nil, List.map_cons, List.map_nil, List.append_assoc,
    List.cons_append, List.nil_append, Fin.isValue, Fin.reduceEq, ↓reduceIte, List.take_succ_cons, List.take_zero, List.drop_succ_cons, List.drop_zero, run, Ins.op]
    unfold opGemm
    repeat
      first
      | refine wait_congr ?_ ?_ ?_ fun _ => ?_; iterate 3 (on_goal 1 => ((try dsimp only); decide +kernel +revert))
      | refine send_congr ?_ ?_ ?_ ?_ ?_ fun _ => ?_; iterate 5 (on_goal 1 => ((try dsimp only); decide +kernel +revert))
      | refine load_congr ?_ fun x => ?_
        · (try dsimp only); decide +kernel +revert
        refine load_congr rfl fun _ => ?_
        refine load_congr ?_ fun _ => ?_
        · (try dsimp only); decide +kernel +revert
        refine store_congr ?_ rfl fun _ => ?_
        · (try dsimp only); decide +kernel +revert
    unfold opAmax
    refine load_congr rfl fun y => ?_
    refine load_congr ?_ fun _ => ?_
    · (try dsimp only); decide +kernel +revert
    refine store_congr ?_ rfl fun _ => ?_
    · (try dsimp only); decide +kernel +revert
    iterate 15 (refine amaxSend_congr ?_ ?_ ?_ ?_ ?_ fun _ => ?_; iterate 5 (on_goal 1 => ((try dsimp only); decide +kernel +revert)))
    exact rfl

end Cert.K
-- ==== Proof.K.Body.lean ====
/-
# The printed body is the script

The two stretches of `BodyParts.lean` and the last one, put together.
-/
module

public import proofs.«01_k».proof.Proof.K.BodyParts

@[expose] public section

noncomputable section

namespace Cert.K

open Cert.KernelIdeal Cert.KernelIdeal.Gen
open Idealize.ShloMosaic Idealize.ShloMosaic.TcCoe
open Idealize.SL.Sem

variable {F : FTy → Type} [FloatOps F]

attribute [local irreducible] opOwn opSignal opBarWait opSend opWeights opGemmOwn opWait opGemm opAmax opAmaxSend opAmaxWait opFinish

set_option maxRecDepth 65536 in
set_option maxHeartbeats 4000000 in
/-- The printed body on every device is the script. -/
theorem body_eq : cc0_body (F := F) xM (Memref.isWhole_whole _) wM (Memref.isWhole_whole _) oM (Memref.isWhole_whole _) bM (Memref.isWhole_whole _)
      vM (Memref.isWhole_whole _) aM (Memref.isWhole_whole _) cc0_scratch3 cc0_scratch4 cc0_scratch5 cc0_scratch6 cc0_scratch7 cc0_scratch8
    = Prog.op .deviceId fun c => run c (script c) (.ret ⟨⟩) := by
  obtain ⟨f, hf, h⟩ := part1_eq (F := F)
  refine (h _).trans (congrArg (Prog.op _) (funext fun c => ?_))
  rw [script_parts, run_append c (part1 c), run_append c (part2 c)]
  refine congrArg (run c (part1 c)) ?_
  have hd := hf c
  revert hd
  generalize f c = m
  obtain ⟨d, v1, v2, v3, v4, v5, v6, v7⟩ := m
  intro (hd : d = c)
  subst hd
  obtain ⟨b, hb⟩ := part2_eq (F := F) d v1 v2 v3 v4 v5 v6 v7
  refine (hb _).trans (congrArg (run d (part2 d)) ?_)
  generalize d = c
  symm
  conv_rhs => simp only [k0_part121_eq_skeleton, k0_part121_skel, k0_part122_eq_skeleton, k0_part122_skel, k0_part123_eq_skeleton, k0_part123_skel,
    k0_part124_eq_skeleton, k0_part124_skel, k0_part125_eq_skeleton, k0_part125_skel, k0_part126_eq_skeleton, k0_part126_skel,
    k0_part127_eq_skeleton, k0_part127_skel, k0_part128_eq_skeleton, k0_part128_skel, k0_part129_eq_skeleton, k0_part129_skel,
    k0_part130_eq_skeleton, k0_part130_skel, k0_part131_eq_skeleton, k0_part131_skel, k0_part132_eq_skeleton, k0_part132_skel,
    k0_part133_eq_skeleton, k0_part133_skel, k0_part134_eq_skeleton, k0_part134_skel, k0_part135_eq_skeleton, k0_part135_skel,
    k0_part136_eq_skeleton, k0_part136_skel,
    Prog.lift, Prog.bind_op, Prog.bind_ret, Prog.pure_eq_ret]
  conv_lhs => simp only [part1, part2, part3, script, start, hop, drain, exchange, List.flatMap_cons, List.flatMap_nil, List.map_cons, List.map_nil, List.append_assoc,
    List.cons_append, List.nil_append, Fin.isValue, Fin.reduceEq, ↓reduceIte, List.take_succ_cons, List.take_zero, List.drop_succ_cons, List.drop_zero, run, Ins.op]
  iterate 30 (refine amaxWait_congr ?_ ?_ ?_ fun _ => ?_; iterate 3 (on_goal 1 => ((try dsimp only); decide +kernel +revert)))
  unfold opFinish
  refine load_congr rfl fun a => ?_
  refine load_congr rfl fun y => ?_
  refine load_congr rfl fun _ => ?_
  refine store_congr rfl rfl fun _ => ?_
  rfl

end Cert.K
-- ==== Proof.K.Cells.lean ====
/-
# Cells, levels and debts

Every device has, for each ring `r`, chunk `o` and quarter `si`, a send cell and a receive cell; for each device a send
and a receive cell of the exchange of maxima; and its barrier cell. This file names them all by one finite type `Ck`,
reads a semaphore back as the cell it is (`dec`), gives every cell its level, and describes what a device still owes
as a LIST of cells, in the order in which the program pays them.
-/
module

public import proofs.«01_k».proof.Proof.K.Script
public import Idealize.ShloMosaic.Lib.Pipeline.Launch
public import Idealize.ShloMosaic.Lib.Pipeline.Kit
public import Idealize.ShloMosaic.Lib.Tactic

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's copy of the rounds and the kernel's own, whose duties are numbered. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells of a device -/

/-- A piece of the gather buffer: ring, chunk, quarter. -/
abbrev P3 : Type := Fin 2 × Fin 16 × Fin 2
/-- The scoped cells: send and receive cells of the pieces, send and receive cells of the maxima. -/
abbrev Ok : Type := P3 ⊕ P3 ⊕ Fin 16 ⊕ Fin 16
/-- All cells: those and the barrier cell. -/
abbrev Ck : Type := Ok ⊕ Unit

abbrev cS (p : P3) : Ck := .inl (.inl p)
abbrev cR (p : P3) : Ck := .inl (.inr (.inl p))
abbrev cT (t : Fin 16) : Ck := .inl (.inr (.inr (.inl t)))
abbrev cV (s : Fin 16) : Ck := .inl (.inr (.inr (.inr s)))
abbrev cB : Ck := .inr ()

/-- The scoped cells as semaphores. -/
def osem : Ok → SemLoc sig
  | .inl p => .dma (sndS p.1 p.2.1 p.2.2)
  | .inr (.inl p) => .dma (rcvS p.1 p.2.1 p.2.2)
  | .inr (.inr (.inl t)) => .dma (asndS t)
  | .inr (.inr (.inr s)) => .dma (arcvS s)

/-- All cells as semaphores. -/
def csem : Ck → SemLoc sig
  | .inl k => osem k
  | .inr _ => .reg barS

/-- Which cell a semaphore is. -/
def dec : SemLoc sig → Option Ck
  | .reg _ => some cB
  | .dma q =>
    let n := q.val
    if n < 3 then none
    else if n < 131 then
      let p : P3 := (⟨(n - 3) / 64 % 2, by omega⟩, ⟨(n - 3) % 32 / 2, by omega⟩, ⟨(n - 3) % 2, by omega⟩)
      if (n - 3) / 32 % 2 = 0 then some (cS p) else some (cR p)
    else if n < 147 then some (cT ⟨(n - 131) % 16, by omega⟩)
    else some (cV ⟨(n - 147) % 16, by omega⟩)

set_option synthInstance.maxSize 2000 in
/-- A cell is read back from its semaphore. -/
theorem dec_csem (k : Ck) : dec (csem k) = some k := by
  rcases k with (p | p | t | s) | u
  · revert p; decide +kernel
  · revert p; decide +kernel
  · revert t; decide +kernel
  · revert s; decide +kernel
  · rfl

theorem csem_injective : Function.Injective csem := fun a b h => by
  have := dec_csem a
  rw [h, dec_csem b] at this
  exact (Option.some.inj this).symm

/-- Cell `k` of device `c`. -/
abbrev cell (c : Fin 16) (k : Ck) : GSem nD τ sig := (((c : Dev nD) : Thread nD τ), csem k)

theorem cell_injective : Function.Injective fun ck : Fin 16 × Ck => cell ck.1 ck.2 := by
  rintro ⟨c, k⟩ ⟨c', k'⟩ h
  have h1 : c = c' := congrArg (fun g : GSem nD τ sig => g.1.1) h
  have h2 : k = k' := csem_injective (congrArg Prod.snd h)
  rw [h1, h2]

/-! ## The units -/

/-- What the transfer of a piece, and of eight rows of maxima, signals. -/
abbrev NB : ℕ := (piece 0 0 0).view.dmaCredit
abbrev NA : ℕ := (amRow 0).view.dmaCredit
theorem NB_pos : 0 < NB := View.dmaCredit_pos _ (by decide)
theorem NA_pos : 0 < NA := View.dmaCredit_pos _ (by decide)

/-- What one duty of a cell pays. -/
def amt : Ck → ℕ
  | .inl (.inl _) => NB
  | .inl (.inr (.inl _)) => NB
  | .inl (.inr (.inr _)) => NA
  | .inr _ => 1

theorem amt_pos (k : Ck) : 0 < amt k := by
  rcases k with (p | p | t | s) | u
  · exact NB_pos
  · exact NB_pos
  · exact NA_pos
  · exact NA_pos
  · exact Nat.one_pos

/-! ## The levels -/

/-- The level of cell `k` on device `c`: sends lowest, then the barrier, then the receive cells in the order of the
    hops, the receive cells of the maxima last. -/
def level (c : Fin 16) : Ck → ℕ
  | .inl (.inl _) => 0
  | .inl (.inr (.inl p)) => 1 + (dist p.1 p.2.1 c).val
  | .inl (.inr (.inr (.inl _))) => 0
  | .inl (.inr (.inr (.inr _))) => 100
  | .inr _ => 1

def L (g : GSem nD τ sig) : Finset Unit := if g.1.2 = .tc then {()} else ∅
def lv (g : GSem nD τ sig) (_ : Unit) : ℕ := match dec g.2 with
  | some k => level g.1.1 k
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Fin 16) (k : Ck) : lv (cell c k) () = level c k := by
  show (match dec (csem k) with | some k => level c k | none => 0) = _
  rw [dec_csem]

/-! ## Debts -/

/-- A debt: one duty's worth on a cell. -/
abbrev Debt : Type := Fin 16 × Ck

def due (d : Debt) : CellTallies nD τ sig Unit := tallyAt (cell d.1 d.2) () (amt d.2)

/-- A list of debts, the head the next one paid. -/
def owe : List Debt → CellTallies nD τ sig Unit
  | [] => 0
  | d :: l => owe l + due d

theorem owe_cons (d : Debt) (l : List Debt) : owe (d :: l) = owe l + due d := rfl

theorem owe_append (l l' : List Debt) : owe (l ++ l') = owe l + owe l' := by
  induction l with
  | nil => rw [List.nil_append, show owe [] = 0 from rfl, zero_add]
  | cons d l ih => rw [List.cons_append, owe_cons, owe_cons, ih, add_right_comm]

/-- What is owed is owed on the cell of one of the debts. -/
theorem owe_pos {l : List Debt} {g : GSem nD τ sig} {u : Unit} (h : 0 < owe l g u) : ∃ d ∈ l, g = cell d.1 d.2 := by
  induction l with
  | nil => exact absurd h (Nat.lt_irrefl 0)
  | cons d l ih =>
    rw [owe_cons, Pi.add_apply, Finsupp.add_apply] at h
    rcases Nat.eq_zero_or_pos (owe l g u) with h0 | h0
    · rw [h0, Nat.zero_add] at h
      exact ⟨d, List.mem_cons_self, (Pipeline.tallyAt_pos h).1⟩
    · obtain ⟨d', hd', e⟩ := ih h0
      exact ⟨d', List.mem_cons_of_mem _ hd', e⟩

omit [FloatOps F] in
/-- A device may wait on its semaphore `sm` while every debt it has lies on a higher level. -/
theorem mayWait_sem (c : Fin 16) (sm : SemLoc sig) (l : List Debt) (n : ℕ) (hn : lv (((c : Dev nD) : Thread nD τ), sm) () ≤ n)
    (hl : ∀ d ∈ l, n < level d.1 d.2) :
    (levAts L lv : sProp 𝕄) ⊢ MayWait ((c : Dev nD) : Thread nD τ) sm () (owe l) :=
  MayOwe.of_cut (L := L) (lev := lv) n (fun p hp => by rw [Finset.mem_singleton.mp hp, L_tc]; exact Finset.mem_singleton_self _)
    (fun g u hg => by
      obtain ⟨d, -, rfl⟩ := owe_pos hg
      rw [L_tc]; exact Finset.mem_singleton_self _)
    (fun p hp => by rw [Finset.mem_singleton.mp hp]; exact hn)
    (fun g u hg => by
      obtain ⟨d, hd, rfl⟩ := owe_pos hg
      rw [lv_cell]; exact hl d hd)

omit [FloatOps F] in
theorem mayWait (c : Fin 16) (k : Ck) (l : List Debt) (hl : ∀ d ∈ l, level c k < level d.1 d.2) :
    (levAts L lv : sProp 𝕄) ⊢ MayWait ((c : Dev nD) : Thread nD τ) (csem k) () (owe l) :=
  mayWait_sem c (csem k) l (level c k) (le_of_eq (lv_cell c k)) hl

/-! ## The debts of the program -/

/-- The debt of sending piece `p` of the chunk `k` devices back. -/
abbrev sendDebt (c k : Fin 16) (p : Fin 2 × Fin 2) : Debt := (nxt p.1 c, cR (p.1, org p.1 c k, p.2))
/-- The debts of hop `k`, -/
def hopDebts (c k : Fin 16) (ps : List (Fin 2 × Fin 2)) : List Debt := if k = 15 then [] else ps.map (sendDebt c k)
/-- of the exchange, -/
def amaxDebts (c : Fin 16) (js : List (Fin 16)) : List Debt := js.map fun j => (c + j, cV c)
/-- of the hops `ks`, -/
def hopsDebts (c : Fin 16) (ks : List (Fin 16)) : List Debt := ks.flatMap fun k => hopDebts c k pieces
/-- of the handshake, -/
def barDebts (c : Fin 16) : List Debt := [(prv 0 c, cB), (nxt 0 c, cB), (prv 1 c, cB), (nxt 1 c, cB)]
/-- and all of them. -/
def debts (c : Fin 16) : List Debt := barDebts c ++ (hopDebts c 0 pieces ++ (hopsDebts c steps ++ amaxDebts c steps))

/-- The debts of hop `k` lie on level `k + 2`. -/
theorem level_sendDebt : ∀ (c k : Fin 16) (p : Fin 2 × Fin 2), k ≠ 15 → level (sendDebt c k p).1 (sendDebt c k p).2 = k.val + 2 := by
  decide +kernel

theorem hopDebts_level {c k : Fin 16} {ps : List (Fin 2 × Fin 2)} {d : Debt} (h : d ∈ hopDebts c k ps) : level d.1 d.2 = k.val + 2 := by
  unfold hopDebts at h
  by_cases hk : k = 15
  · rw [if_pos hk] at h; exact absurd h List.not_mem_nil
  · rw [if_neg hk] at h
    obtain ⟨p, -, rfl⟩ := List.mem_map.mp h
    exact level_sendDebt c k p hk

theorem amaxDebts_level {c : Fin 16} {js : List (Fin 16)} {d : Debt} (h : d ∈ amaxDebts c js) : level d.1 d.2 = 100 := by
  obtain ⟨j, -, rfl⟩ := List.mem_map.mp h
  rfl

end Cert.K
-- ==== Proof.K.Contents.lean ====
/-
# What the buffers hold, and how they are cut

`gB`, `gW`, `gY`, `gA`, `gOut` are the contents the run leaves in the gather buffer, the weights' buffer, the product,
the exchange buffer and the result, as functions of the staged blocks of `x` and `w` of all devices. The rest is
geometry: which rows a piece, a half and an own chunk take, that they are disjoint, that they cover.
-/
module

public import proofs.«01_k».proof.Proof.K.Cells
public import Idealize.ShloMosaic.Lib.ValueIdxCore
public import Idealize.ShloMosaic.Lib.Pipeline.ValueKit.Geometry

@[expose] public section

noncomputable section

namespace Cert.K

open Cert.KernelIdeal Cert.KernelIdeal.Gen
open Idealize.ShloMosaic Idealize.ShloMosaic.TcCoe Idealize.ShloMosaic.ValueKit Idealize.ShloMosaic.ValueIdx

variable {F : FTy → Type} [FloatOps F]

/-! ## The rows -/

/-- A piece's rows in the gather buffer, as indices. -/
abbrev pSet (p : P3) : Finset S4096x4096.Idx := (pieceR p.2.1 p.1 p.2.2).set

theorem mem_pSet {p : P3} {i : S4096x4096.Idx} :
    i ∈ pSet p ↔ row p.2.1 p.1 p.2.2 ≤ (i 0).val ∧ (i 0).val < row p.2.1 p.1 p.2.2 + 64 := by
  refine Rect.mem_set_unit.trans (Fin.forall_fin_two.trans ⟨fun h => h.1, fun h => ⟨h, Nat.zero_le _, ?_⟩⟩)
  have := (i 1).isLt
  show (i 1).val < 0 + 4096
  simpa using this

theorem mem_ownSet {o : Fin 16} {i : S4096x4096.Idx} : i ∈ (ownR o).set ↔ 256 * o.val ≤ (i 0).val ∧ (i 0).val < 256 * o.val + 256 := by
  refine Rect.mem_set_unit.trans (Fin.forall_fin_two.trans ⟨fun h => h.1, fun h => ⟨h, Nat.zero_le _, ?_⟩⟩)
  have := (i 1).isLt
  show (i 1).val < 0 + 4096
  simpa using this

theorem mem_halfSet {o : Fin 16} {r : Fin 2} {i : S4096x4096.Idx} :
    i ∈ (halfR o r).set ↔ row o r 0 ≤ (i 0).val ∧ (i 0).val < row o r 0 + 128 := by
  refine Rect.mem_set_unit.trans (Fin.forall_fin_two.trans ⟨fun h => h.1, fun h => ⟨h, Nat.zero_le _, ?_⟩⟩)
  have := (i 1).isLt
  show (i 1).val < 0 + 4096
  simpa using this

theorem mem_oownSet {o : Fin 16} {i : S4096x128.Idx} : i ∈ (oownR o).set ↔ 256 * o.val ≤ (i 0).val ∧ (i 0).val < 256 * o.val + 256 := by
  refine Rect.mem_set_unit.trans (Fin.forall_fin_two.trans ⟨fun h => h.1, fun h => ⟨h, Nat.zero_le _, ?_⟩⟩)
  have := (i 1).isLt
  show (i 1).val < 0 + 128
  simpa using this

theorem mem_ohalfSet {o : Fin 16} {r : Fin 2} {i : S4096x128.Idx} :
    i ∈ (ohalfR o r).set ↔ row o r 0 ≤ (i 0).val ∧ (i 0).val < row o r 0 + 128 := by
  refine Rect.mem_set_unit.trans (Fin.forall_fin_two.trans ⟨fun h => h.1, fun h => ⟨h, Nat.zero_le _, ?_⟩⟩)
  have := (i 1).isLt
  show (i 1).val < 0 + 128
  simpa using this

theorem mem_amSet {o : Fin 16} {i : S128x128.Idx} : i ∈ (amR o).set ↔ 8 * o.val ≤ (i 0).val ∧ (i 0).val < 8 * o.val + 8 := by
  refine Rect.mem_set_unit.trans (Fin.forall_fin_two.trans ⟨fun h => h.1, fun h => ⟨h, Nat.zero_le _, ?_⟩⟩)
  have := (i 1).isLt
  show (i 1).val < 0 + 128
  simpa using this

/-- Two pieces have no row in common. -/
theorem pSet_disjoint (p q : P3) (h : p ≠ q) : Disjoint (pSet p) (pSet q) :=
  Finset.disjoint_left.mpr fun i hp hq => h (by
    rw [mem_pSet] at hp hq
    obtain ⟨r, o, si⟩ := p; obtain ⟨r', o', si'⟩ := q
    dsimp only [row] at hp hq
    refine Prod.ext (Fin.ext ?_) (Prod.ext (Fin.ext ?_) (Fin.ext ?_)) <;> dsimp only <;> omega)

/-- The pieces are all of the gather buffer. -/
theorem pSet_cover : (Finset.univ : Finset P3).biUnion pSet = Finset.univ :=
  Finset.eq_univ_of_forall fun i => Finset.mem_biUnion.mpr
    ⟨(⟨(i 0).val / 128 % 2, by omega⟩, ⟨(i 0).val / 256, by have : (i 0).val < 4096 := (i 0).isLt; omega⟩, ⟨(i 0).val / 64 % 2, by omega⟩),
      Finset.mem_univ _, mem_pSet.mpr (by dsimp only [row]; omega)⟩

theorem amSet_disjoint (o o' : Fin 16) (h : o ≠ o') : Disjoint (amR o).set (amR o').set :=
  Finset.disjoint_left.mpr fun i hp hq => h (by
    rw [mem_amSet] at hp hq
    exact Fin.ext (by omega))

theorem amSet_cover : (Finset.univ : Finset (Fin 16)).biUnion (fun o => (amR o).set) = Finset.univ :=
  Finset.eq_univ_of_forall fun i => Finset.mem_biUnion.mpr
    ⟨⟨(i 0).val / 8, by have : (i 0).val < 128 := (i 0).isLt; omega⟩, Finset.mem_univ _, mem_amSet.mpr (by dsimp only; omega)⟩

/-- A half chunk is its two pieces, -/
theorem half_pieces (o : Fin 16) (r : Fin 2) : (halfR o r).set = pSet (r, o, 0) ∪ pSet (r, o, 1) := by
  ext i
  rw [Finset.mem_union, mem_pSet, mem_pSet, mem_halfSet]
  dsimp only [row]
  omega

/-- a chunk its two halves. -/
theorem own_halves (o : Fin 16) : (ownR o).set = (halfR o 0).set ∪ (halfR o 1).set := by
  ext i
  rw [Finset.mem_union, mem_halfSet, mem_halfSet, mem_ownSet]
  dsimp only [row]
  omega

theorem half_disjoint (o : Fin 16) : Disjoint (halfR o 0).set (halfR o 1).set :=
  Finset.disjoint_left.mpr fun i hp hq => by
    rw [mem_halfSet] at hp hq
    dsimp only [row] at hp hq
    omega

/-! ## The contents -/

section Values

variable (xs : Fin 16 → (cc0_stg0_0 : Ref sig .tc).ty.Contents (Elt F)) (ws : Fin 16 → (cc0_stg1_0 : Ref sig .tc).ty.Contents (Elt F))

/-- The gather buffer: chunk `o` is device `o`'s block of `x`. -/
def gB : (cc0_scratch0 : Ref sig .tc).ty.Contents (Elt F) := fun i =>
  k0_pay2 (xs ⟨(i 0).val / 256, by have : (i 0).val < 4096 := (i 0).isLt; omega⟩) (ix2 ⟨(i 0).val % 256, by omega⟩ (i 1))

/-- The weights' buffer. -/
def gW (c : Fin 16) : (cc0_scratch1 : Ref sig .tc).ty.Contents (Elt F) := k0_pay3 (ws c)

/-- The product on device `c`: its own 256 rows at once, the others 128 at a time. -/
def gY (c : Fin 16) : (cc0_stg2_0 : Ref sig .tc).ty.Contents (Elt F) := fun i =>
  if (i 0).val / 256 = c.val then
    k0_pay4 ((bM.access (ownR c)).read (Elt F) (gB xs)) (gW ws c) (ix2 ⟨(i 0).val % 256, by omega⟩ (i 1))
  else
    k0_pay5 ((bM.access (halfR ⟨(i 0).val / 256, by have : (i 0).val < 4096 := (i 0).isLt; omega⟩ ⟨(i 0).val / 128 % 2, by omega⟩)).read (Elt F) (gB xs))
      (gW ws c) (ix2 ⟨(i 0).val % 128, by omega⟩ (i 1))

/-- The exchange buffer: rows `8 o … 8 o + 7` hold device `o`'s local maximum. -/
def gA : (cc0_scratch2 : Ref sig .tc).ty.Contents (Elt F) := fun i =>
  k0_pay36 (k0_pay35 (gY xs ws ⟨(i 0).val / 8, by have : (i 0).val < 128 := (i 0).isLt; omega⟩)) (ix2 ⟨(i 0).val % 8, by omega⟩ (i 1))

/-- The result on device `c`. -/
def gOut (c : Fin 16) : (cc0_stg2_0 : Ref sig .tc).ty.Contents (Elt F) :=
  k0_pay1 (k0_pay37 (gA xs ws)) (k0_pay38 (gA xs ws) (gY xs ws c))

omit [FloatOps F] in
/-- Values written through a rectangle of a whole buffer, on the rectangle: the written ones. -/
theorem write_on (b : Ref sig .tc) (r : Rect b.ty.shape) (f g : b.ty.Contents (Elt F)) (w : r.shape.Idx → Elt F b.ty.elt)
    (h : ∀ j, w j = g (r.emb j)) : ∀ i ∈ r.set, ((View.whole b).slice r).write (Elt F) f w Finset.univ i = g i := by
  intro i hi
  rw [← View.set_slice_whole b r] at hi
  obtain ⟨j, -, rfl⟩ := Finset.mem_map.mp hi
  rw [View.write_emb_of_mem _ _ (Finset.mem_univ j)]
  exact h j

omit [FloatOps F] in
/-- Off the rectangle: what was there. -/
theorem write_off (b : Ref sig .tc) (r : Rect b.ty.shape) (f : b.ty.Contents (Elt F)) (w : r.shape.Idx → Elt F b.ty.elt) :
    ∀ i ∉ r.set, ((View.whole b).slice r).write (Elt F) f w Finset.univ i = f i := by
  intro i hi
  refine View.write_of_not_mem _ _ _ ?_
  rw [View.setOn_univ, View.set_slice_whole]
  exact hi

theorem own_lands (c : Fin 16) (f : (cc0_scratch0 : Ref sig .tc).ty.Contents (Elt F)) :
    ∀ i ∈ (ownR c).set, (bM.access (ownR c)).write (Elt F) f (k0_pay2 (xs c)) Finset.univ i = gB xs i :=
  write_on cc0_scratch0 (ownR c) f _ _ fun j => by
    have h0 : (((ownR c).emb j) 0).val = 256 * c.val + (j 0).val := rect_emb_unit_val _ _ _ j 0
    have h1 : (((ownR c).emb j) 1).val = 0 + (j 1).val := rect_emb_unit_val _ _ _ j 1
    have hj : (j 0).val < 256 := (j 0).isLt
    unfold gB
    have e : (⟨(((ownR c).emb j) 0).val / 256, by omega⟩ : Fin 16) = c := Fin.ext (by dsimp only; omega)
    rw [e]
    refine congrArg _ (funext (Fin.forall_fin_two.mpr ⟨Fin.ext ?_, Fin.ext ?_⟩))
    · show (j 0).val = (((ownR c).emb j) 0).val % 256
      omega
    · show (j 1).val = (((ownR c).emb j) 1).val
      omega

theorem gemmOwn_lands (c : Fin 16) (f : (cc0_stg2_0 : Ref sig .tc).ty.Contents (Elt F)) :
    ∀ i ∈ (oownR c).set, (oM.access (oownR c)).write (Elt F) f
      (k0_pay4 ((bM.access (ownR c)).read (Elt F) (gB xs)) (gW ws c)) Finset.univ i = gY xs ws c i :=
  write_on cc0_stg2_0 (oownR c) f _ _ fun j => by
    have h0 : (((oownR c).emb j) 0).val = 256 * c.val + (j 0).val := rect_emb_unit_val _ _ _ j 0
    have h1 : (((oownR c).emb j) 1).val = 0 + (j 1).val := rect_emb_unit_val _ _ _ j 1
    have hj : (j 0).val < 256 := (j 0).isLt
    unfold gY
    rw [if_pos (by omega)]
    refine congrArg _ (funext (Fin.forall_fin_two.mpr ⟨Fin.ext ?_, Fin.ext ?_⟩))
    · show (j 0).val = (((oownR c).emb j) 0).val % 256
      omega
    · show (j 1).val = (((oownR c).emb j) 1).val
      omega

theorem gemm_lands (c o : Fin 16) (r : Fin 2) (ho : o ≠ c) (f : (cc0_stg2_0 : Ref sig .tc).ty.Contents (Elt F)) :
    ∀ i ∈ (ohalfR o r).set, (oM.access (ohalfR o r)).write (Elt F) f
      (k0_pay5 ((bM.access (halfR o r)).read (Elt F) (gB xs)) (gW ws c)) Finset.univ i = gY xs ws c i :=
  write_on cc0_stg2_0 (ohalfR o r) f _ _ fun j => by
    have h0 : (((ohalfR o r).emb j) 0).val = row o r 0 + (j 0).val := rect_emb_unit_val _ _ _ j 0
    have h1 : (((ohalfR o r).emb j) 1).val = 0 + (j 1).val := rect_emb_unit_val _ _ _ j 1
    have hj : (j 0).val < 128 := (j 0).isLt
    dsimp only [row] at h0
    have hr := r.isLt
    unfold gY
    rw [if_neg (fun h => ho (Fin.ext (by omega)))]
    have e : (⟨(((ohalfR o r).emb j) 0).val / 256, by omega⟩ : Fin 16) = o := Fin.ext (by dsimp only; omega)
    have e' : (⟨(((ohalfR o r).emb j) 0).val / 128 % 2, by omega⟩ : Fin 2) = r := Fin.ext (by dsimp only; omega)
    rw [e, e']
    refine congrArg _ (funext (Fin.forall_fin_two.mpr ⟨Fin.ext ?_, Fin.ext ?_⟩))
    · show (j 0).val = (((ohalfR o r).emb j) 0).val % 128
      omega
    · show (j 1).val = (((ohalfR o r).emb j) 1).val
      omega

theorem amax_lands (c : Fin 16) (f : (cc0_scratch2 : Ref sig .tc).ty.Contents (Elt F)) :
    ∀ i ∈ (amR c).set, (aM.access (amR c)).write (Elt F) f (k0_pay36 (k0_pay35 (gY xs ws c))) Finset.univ i = gA xs ws i :=
  write_on cc0_scratch2 (amR c) f _ _ fun j => by
    have h0 : (((amR c).emb j) 0).val = 8 * c.val + (j 0).val := rect_emb_unit_val _ _ _ j 0
    have h1 : (((amR c).emb j) 1).val = 0 + (j 1).val := rect_emb_unit_val _ _ _ j 1
    have hj : (j 0).val < 8 := (j 0).isLt
    unfold gA
    have e : (⟨(((amR c).emb j) 0).val / 8, by omega⟩ : Fin 16) = c := Fin.ext (by dsimp only; omega)
    rw [e]
    refine congrArg _ (funext (Fin.forall_fin_two.mpr ⟨Fin.ext ?_, Fin.ext ?_⟩))
    · show (j 0).val = (((amR c).emb j) 0).val % 8
      omega
    · show (j 1).val = (((amR c).emb j) 1).val
      omega

end Values

/-! ## The product as it fills up -/

/-- The half chunk row `i` of the product lies in. -/
def halfOf (i : S4096x128.Idx) : Fin 2 × Fin 16 :=
  (⟨(i 0).val / 128 % 2, by omega⟩, ⟨(i 0).val / 256, by have : (i 0).val < 4096 := (i 0).isLt; omega⟩)

theorem mem_ohalf_iff {o : Fin 16} {r : Fin 2} {i : S4096x128.Idx} : i ∈ (ohalfR o r).set ↔ halfOf i = (r, o) := by
  rw [mem_ohalfSet]
  unfold halfOf
  dsimp only [row]
  constructor
  · intro h
    exact Prod.ext (Fin.ext (by dsimp only; omega)) (Fin.ext (by dsimp only; omega))
  · intro h
    have h1 : (i 0).val / 128 % 2 = r.val := congrArg (fun x : Fin 2 × Fin 16 => x.1.val) h
    have h2 : (i 0).val / 256 = o.val := congrArg (fun x : Fin 2 × Fin 16 => x.2.val) h
    show 256 * o.val + 128 * r.val + 64 * 0 ≤ _ ∧ _ < 256 * o.val + 128 * r.val + 64 * 0 + 128
    omega

theorem mem_oown_iff {o : Fin 16} {i : S4096x128.Idx} : i ∈ (oownR o).set ↔ (halfOf i).2 = o := by
  rw [mem_oownSet]
  unfold halfOf
  constructor
  · intro h
    exact Fin.ext (by dsimp only; omega)
  · intro h
    have h2 : (i 0).val / 256 = o.val := congrArg (fun x : Fin 16 => x.val) h
    omega

end Cert.K
-- ==== Proof.K.Sched.lean ====
/-
# The schedule of the cells

Which duties every cell has, what they pay and what they hand over:

* a device's barrier cell: one unit from each of its four neighbours; the unit from the next device on a ring hands
  over that device's landing places on the ring;
* a receive cell: the piece, landed; on the carrier piece (ring 0, first quarter) of chunk `o`, besides, the rows of
  device `o`'s exchange buffer that the devices from here on round the ring will write;
* a send cell: the share of the piece lent to the transfer;
* the cells of the maxima: the eight rows, landed; the share of them lent.
-/
module

public import proofs.«01_k».proof.Proof.K.Contents

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers' parts -/

/-- Piece `p` of device `d`'s gather buffer, at share `q`, holding `f`. -/
def PB (d : Fin 16) (p : P3) (q : PosShare TreeShare) (f : (cc0_scratch0 : Ref sig .tc).ty.Contents (Elt F)) : sProp 𝕄 :=
  (piece p.2.1 p.1 p.2.2).view.loc ((d : Dev nD) : Thread nD τ) ↦[(piece p.2.1 p.1 p.2.2).view.set]{q} f

/-- Rows `o` of device `d`'s exchange buffer, at share `q`, holding `f`. -/
def PA (d o : Fin 16) (q : PosShare TreeShare) (f : (cc0_scratch2 : Ref sig .tc).ty.Contents (Elt F)) : sProp 𝕄 :=
  (amRow o).view.loc ((d : Dev nD) : Thread nD τ) ↦[(amRow o).view.set]{q} f

omit [FloatOps F] in
instance PB_storable (d p q f) : BI.Storable (upEmb : UEmb _ 𝕄) (PB (F := F) d p q f) := by unfold PB; infer_instance
omit [FloatOps F] in
instance PA_storable (d o q f) : BI.Storable (upEmb : UEmb _ 𝕄) (PA (F := F) d o q f) := by unfold PA; infer_instance

omit [FloatOps F] in
theorem PB_eq (d p q f) : PB (F := F) d p q f = (((d : Dev nD) : Thread nD τ).loc cc0_scratch0 ↦[pSet p]{q} f : sProp 𝕄) := by
  unfold PB
  rw [show (piece p.2.1 p.1 p.2.2).view.set = pSet p from View.set_slice_whole cc0_scratch0 _]
omit [FloatOps F] in
theorem PA_eq (d o q f) : PA (F := F) d o q f = (((d : Dev nD) : Thread nD τ).loc cc0_scratch2 ↦[(amR o).set]{q} f : sProp 𝕄) := by
  unfold PA
  rw [show (amRow o).view.set = (amR o).set from View.set_slice_whole cc0_scratch2 _]

/-- Contents that agree on the piece are the same to its owner; -/
theorem PB_congr (d p q f g) (h : ∀ i ∈ pSet p, f i = g i) : PB (F := F) d p q f = PB d p q g := by
  rw [PB_eq, PB_eq]; exact pointsTo_congr h
theorem PA_congr (d o q f g) (h : ∀ i ∈ (amR o).set, f i = g i) : PA (F := F) d o q f = PA d o q g := by
  rw [PA_eq, PA_eq]; exact pointsTo_congr h

/-- Piece `p` of `d`'s gather buffer, whatever it holds. -/
def anyB (d : Fin 16) (p : P3) : sProp 𝕄 := iprop(∃ f, PB (F := F) d p fullShare f)
/-- Rows `o` of `d`'s exchange buffer, whatever they hold. -/
def anyA (d o : Fin 16) : sProp 𝕄 := iprop(∃ f, PA (F := F) d o fullShare f)

omit [FloatOps F] in
instance anyB_storable (d p) : BI.Storable (upEmb : UEmb _ 𝕄) (anyB (F := F) d p) := by unfold anyB; infer_instance
omit [FloatOps F] in
instance anyA_storable (d o) : BI.Storable (upEmb : UEmb _ 𝕄) (anyA (F := F) d o) := by unfold anyA; infer_instance

/-- The landing places of ring `r` on device `d`: the pieces of every chunk but its own. -/
def landing (r : Fin 2) (d : Fin 16) : sProp 𝕄 :=
  bigSep Finset.univ fun o : Fin 16 => if o = d then iprop(emp) else bigSep Finset.univ fun si : Fin 2 => anyB (F := F) d (r, o, si)

/-- The rows of `o`'s exchange buffer of the devices at least `k` steps after it. -/
def rowsFrom (o : Fin 16) (k : ℕ) : sProp 𝕄 :=
  bigSep Finset.univ fun d : Fin 16 => if k ≤ (dist 0 o d).val then anyA (F := F) o d else iprop(emp)

/-- What travels with the piece `p` of chunk `o` arriving `k` steps after `o`. -/
def luggage (p : Fin 2 × Fin 2) (o : Fin 16) (k : ℕ) : sProp 𝕄 := if p = (0, 0) then rowsFrom (F := F) o k else iprop(emp)

omit [FloatOps F] in
instance ite_storable (P : Prop) [Decidable P] (A B : sProp 𝕄) [BI.Storable (upEmb : UEmb _ 𝕄) A] [BI.Storable (upEmb : UEmb _ 𝕄) B] :
    BI.Storable (upEmb : UEmb _ 𝕄) (if P then A else B) := by split <;> infer_instance
omit [FloatOps F] in
instance landing_storable (r d) : BI.Storable (upEmb : UEmb _ 𝕄) (landing (F := F) r d) := by unfold landing; infer_instance
omit [FloatOps F] in
instance rowsFrom_storable (o k) : BI.Storable (upEmb : UEmb _ 𝕄) (rowsFrom (F := F) o k) := by unfold rowsFrom; infer_instance
omit [FloatOps F] in
instance luggage_storable (p o k) : BI.Storable (upEmb : UEmb _ 𝕄) (luggage (F := F) p o k) := by unfold luggage; infer_instance

/-! ## The schedule -/

variable (xs : Fin 16 → (cc0_stg0_0 : Ref sig .tc).ty.Contents (Elt F)) (ws : Fin 16 → (cc0_stg1_0 : Ref sig .tc).ty.Contents (Elt F))

/-- The share of its own rows a device lends to the transfer to `t`. -/
abbrev tokOf (c t : Fin 16) : PosShare TreeShare := Transfers.shareTok fullShare 16 (t - c)

/-- The duties of cell `k` of device `c`. -/
def dutiesOf (c : Fin 16) : Ck → Finset (Fin 4)
  | .inl (.inl p) => if p.2.1 = nxt p.1 c then ∅ else {0}
  | .inl (.inr (.inl p)) => if p.2.1 = c then ∅ else {0}
  | .inl (.inr (.inr (.inl t))) => if t = c then ∅ else {0}
  | .inl (.inr (.inr (.inr s))) => if s = c then ∅ else {0}
  | .inr _ => Finset.univ

/-- What duty `d` of cell `k` of device `c` hands over. -/
def payOf (c : Fin 16) : Ck → Fin 4 → sProp 𝕄
  | .inl (.inl p), _ => PB c p fullShare.left (gB xs)
  | .inl (.inr (.inl p)), _ => iprop(PB c p fullShare (gB xs) ∗ luggage (F := F) (p.1, p.2.2) p.2.1 (dist p.1 p.2.1 c).val)
  | .inl (.inr (.inr (.inl t))), _ => PA c c (tokOf c t) (gA xs ws)
  | .inl (.inr (.inr (.inr s))), _ => PA c s fullShare (gA xs ws)
  | .inr _, d => if d = 0 then landing (F := F) 0 (nxt 0 c) else if d = 2 then landing (F := F) 1 (nxt 1 c) else iprop(emp)

instance payOf_storable (c k d) : BI.Storable (upEmb : UEmb _ 𝕄) (payOf xs ws c k d) := by
  rcases k with (p | p | t | s) | u <;> unfold payOf <;> infer_instance

/-- One round on every cell. -/
def Rd : Rounds.Schedule (GSem nD τ sig) (Fin 4) 𝕄 where
  duties g r := if r = 0 ∧ g.1.2 = .tc then (match dec g.2 with | some k => dutiesOf g.1.1 k | none => ∅) else ∅
  unitless _ := False
  amount g _ _ := match dec g.2 with | some k => amt k | none => 1
  payload g _ d := match dec g.2 with | some k => payOf xs ws g.1.1 k d | none => iprop(emp)
  amount_pos g _ _ _ := by
    split
    · exact amt_pos _
    · exact Nat.one_pos

instance Rd_payload_storable (g : GSem nD τ sig) (r : ℕ) (d : Fin 4) :
    BI.Storable (upEmb : UEmb _ 𝕄) ((Rd xs ws).payload g r d) := by
  show BI.Storable upEmb (match dec g.2 with | some k => payOf xs ws g.1.1 k d | none => iprop(emp))
  split <;> infer_instance

theorem duties_cell (c : Fin 16) (k : Ck) : (Rd xs ws).duties (cell c k) 0 = dutiesOf c k := by
  dsimp only [Rd]
  rw [if_pos ⟨rfl, rfl⟩, dec_csem]
theorem duties_later (g : GSem nD τ sig) : ∀ r, 1 ≤ r → (Rd xs ws).duties g r = ∅ :=
  fun r hr => if_neg fun h => by omega
theorem duties_none (c : Fin 16) (k : Ck) (h : dutiesOf c k = ∅) : ∀ r, 0 ≤ r → (Rd xs ws).duties (cell c k) r = ∅ := fun r _ => by
  rcases Nat.eq_zero_or_pos r with rfl | hr
  · rw [duties_cell, h]
  · exact duties_later xs ws _ r hr
theorem amount_cell (c : Fin 16) (k : Ck) (r : ℕ) (d : Fin 4) : (Rd xs ws).amount (cell c k) r d = amt k := by
  show (match dec (csem k) with | some k => amt k | none => 1) = _
  rw [dec_csem]
theorem payload_cell (c : Fin 16) (k : Ck) (r : ℕ) (d : Fin 4) : (Rd xs ws).payload (cell c k) r d = payOf xs ws c k d := by
  show (match dec (csem k) with | some k => payOf xs ws c k d | none => iprop(emp)) = _
  rw [dec_csem]

/-- A cell of one duty expects that duty's units, -/
theorem expect_one {c : Fin 16} {k : Ck} (h : dutiesOf c k = {0}) : (Rd xs ws).expect (cell c k) 0 = amt k := by
  unfold Schedule.expect Schedule.amountOf
  rw [duties_cell, h, Finset.sum_singleton, amount_cell]
/-- the barrier cell four. -/
theorem expect_bar (c : Fin 16) : (Rd xs ws).expect (cell c cB) 0 = 4 := by
  unfold Schedule.expect Schedule.amountOf
  rw [duties_cell, Finset.sum_congr rfl fun d _ => amount_cell xs ws c cB 0 d, Finset.sum_const, show dutiesOf c cB = Finset.univ from rfl,
    Finset.card_univ, Fintype.card_fin, smul_eq_mul]
  rfl

/-- All a cell of one duty hands over is that duty's. -/
theorem rest_one {c : Fin 16} {k : Ck} (h : dutiesOf c k = {0}) :
    bigSep ((Rd xs ws).duties (cell c k) 0 \ ∅) (fun d => (Rd xs ws).payload (cell c k) 0 d) = payOf xs ws c k 0 := by
  rw [Finset.sdiff_empty, duties_cell, h, bigSep_singleton, payload_cell]

/-- The barrier cell hands over the landing places of the next device on either ring. -/
theorem rest_bar (c : Fin 16) :
    bigSep ((Rd xs ws).duties (cell c cB) 0 \ ∅) (fun d => (Rd xs ws).payload (cell c cB) 0 d)
      ⊢ iprop(landing (F := F) 0 (nxt 0 c) ∗ landing (F := F) 1 (nxt 1 c)) := by
  rw [Finset.sdiff_empty, duties_cell, show dutiesOf c cB = Finset.univ from rfl,
    bigSep_univ_eq_bigSepL [0, 1, 2, 3] (by decide) (by decide), bigSepL_cons_cons, bigSepL_cons_cons, bigSepL_cons_cons, bigSepL_singleton]
  simp only [payload_cell]
  show iprop(payOf xs ws c cB 0 ∗ payOf xs ws c cB 1 ∗ payOf xs ws c cB 2 ∗ payOf xs ws c cB 3) ⊢ _
  rw [show payOf xs ws c cB 0 = landing 0 (nxt 0 c) from rfl, show payOf xs ws c cB 2 = landing 1 (nxt 1 c) from rfl]
  iintro ⟨H0, -, H2, -⟩
  isplitl [H0]; · iexact H0
  iexact H2

end Cert.K
-- ==== Proof.K.Rules.lean ====
/-
# One instruction at a time

The library's rules at the kernel's cells: a signal, a wait, a transfer of a piece or of eight rows, and the three
products' loads and stores. All are stated over any continuation and any list of debts still open.
-/
module

public import proofs.«01_k».proof.Proof.K.Sched

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

set_option synthInstance.maxSize 2000 in
instance : DecidableEq Ck := inferInstance

variable (xs : Fin 16 → (cc0_stg0_0 : Ref sig .tc).ty.Contents (Elt F)) (ws : Fin 16 → (cc0_stg1_0 : Ref sig .tc).ty.Contents (Elt F))
variable (K : Fin 16 × Ck → ℕ)

/-! ## What every device knows -/

/-- Every cell's invariant, that every cell's round 0 is reached, and the levels. -/
def records : sProp 𝕄 :=
  iprop((bigSep Finset.univ fun ck : Fin 16 × Ck => cellInv ER (Rd xs ws) (K ck) (cell ck.1 ck.2))
    ∗ (bigSep Finset.univ fun ck : Fin 16 × Ck => reached ER (cell ck.1 ck.2) 0) ∗ (levAts L lv : sProp 𝕄))

instance records_persistent : BI.Persistent (records xs ws K) := by unfold records; infer_instance

theorem inv_at (c : Fin 16) (k : Ck) : records xs ws K ⊢ cellInv ER (Rd xs ws) (K (c, k)) (cell c k) := by
  unfold records
  iintro ⟨H, -, -⟩
  iapply (show (bigSep Finset.univ fun ck : Fin 16 × Ck => (cellInv ER (Rd xs ws) (K ck) (cell ck.1 ck.2) : sProp 𝕄))
    ⊢ cellInv ER (Rd xs ws) (K (c, k)) (cell c k) from bigSep_elim (Finset.mem_univ (c, k)))
  iexact H
theorem reached_at (c : Fin 16) (k : Ck) : records xs ws K ⊢ reached ER (cell c k) 0 := by
  unfold records
  iintro ⟨-, H, -⟩
  iapply (show (bigSep Finset.univ fun ck : Fin 16 × Ck => (reached ER (cell ck.1 ck.2) 0 : sProp 𝕄))
    ⊢ reached ER (cell c k) 0 from bigSep_elim (Finset.mem_univ (c, k)))
  iexact H
/-- A device may wait on a cell while all it owes lies on higher levels. -/
theorem mayWait_at {c : Fin 16} {k : Ck} {l : List Debt} (hl : ∀ d ∈ l, level c k < level d.1 d.2) :
    records xs ws K ⊢ (MayWait ((c : Dev nD) : Thread nD τ) (csem k) () (owe l) : sProp 𝕄) := by
  unfold records
  iintro ⟨-, -, H⟩
  iapply (mayWait c k l hl)
  iexact H

/-- Program `P` on device `c` runs to `Q`. -/
abbrev WP (c : Fin 16) (P : PG F) (Q : PUnit → sProp 𝕄) : sProp 𝕄 :=
  wp frame (wpE (defs₀ (F := F)) 𝒱₀ ((c : Dev nD) : Thread nD τ) none) Set.univ P Q

/-- Device `c` owes the debts `l`. -/
def owed (c : Fin 16) (l : List Debt) : sProp 𝕄 := iprop(∃ W, owes ((c : Dev nD) : Thread nD τ) (owe l) W)

/-- Round `r` of cell `k` of device `c`. -/
abbrev at_ (c : Fin 16) (k : Ck) (r : ℕ) : sProp 𝕄 := atPos ER (cell c k) r ∅ 0
/-- The right to pay duty `d` of cell `k` of device `c`. -/
abbrev tok (c : Fin 16) (k : Ck) (d : Fin 4) : sProp 𝕄 := dutyTok ER (cell c k) 0 d
/-- The right to wait for one duty's units on the cell. -/
abbrev crd (c : Fin 16) (k : Ck) : sProp 𝕄 := cred (tallyAt (cell c k) () (amt k))

/-! ## Signals and waits -/

theorem signal_step {c n : Fin 16} {d : Fin 4} {l : List Debt} {P : PG F} {Q : PUnit → sProp 𝕄} :
    iprop(records xs ws K ∗ owed c ((n, cB) :: l) ∗ tok n cB d ∗ payOf xs ws n cB d)
      ⊢ iprop((owed c l -∗ WP c P Q) -∗ WP c (opSignal n P) Q) := by
  unfold owed
  iintro ⟨#HR, ⟨%W, HO⟩, Ht, Hp⟩ Hk
  unfold opSignal
  iapply (Rounds.wp_signal 𝒱₀ ER (Rd xs ws) ((c : Dev nD) : Thread nD τ) none (dst := ((n : Dev nD) : Thread nD τ)) (κ := K (n, cB)) (r := 0)
      (d := d) (by rw [show (((n : Dev nD) : Thread nD τ), SemLoc.reg barS) = cell n cB from rfl, duties_cell]; exact Finset.mem_univ _)
      (amount_cell xs ws n cB 0 d) () (owe l) rfl) $$ [HO Ht Hp]
  · isplitr; · iapply (inv_at xs ws K n cB); iexact HR
    isplitl [HO]; · iexact HO
    isplitl [Ht]; · iexact Ht
    isplitl [Hp]
    · rw [show (((n : Dev nD) : Thread nD τ), SemLoc.reg barS) = cell n cB from rfl, payload_cell]; iexact Hp
    · iapply (reached_at xs ws K n cB); iexact HR
  iintro HO
  iapply Hk
  iexists W
  iexact HO

theorem barWait_step {c : Fin 16} {l : List Debt} (hl : ∀ d ∈ l, 1 < level d.1 d.2) {P : PG F} {Q : PUnit → sProp 𝕄} :
    iprop(records xs ws K ∗ cred (tallyAt (cell c cB) () 4) ∗ owed c l ∗ at_ c cB 0)
      ⊢ iprop(((owed c l ∗ at_ c cB 1 ∗ landing (F := F) 0 (nxt 0 c) ∗ landing (F := F) 1 (nxt 1 c)) -∗ WP c P Q) -∗ WP c (opBarWait P) Q) := by
  unfold owed
  iintro ⟨#HR, Hc, ⟨%W, HO⟩, Ha⟩ Hk
  unfold opBarWait
  iapply (Rounds.wp_wait_rest_token 𝒱₀ ER (Rd xs ws) ((c : Dev nD) : Thread nD τ) none (κ := K (c, cB)) (sm := csem cB)
      (wpE_semWait_eq 𝒱₀ ((c : Dev nD) : Thread nD τ) none Set.univ) (Set.mem_univ _) () (O := owe l) (W := W) (R := 0) (m := 0) (T := ∅)
      (by rw [expect_bar])) $$ [Hc HO Ha]
  · isplitr; · iapply (inv_at xs ws K c cB); iexact HR
    isplitl [Hc]; · iexact Hc
    isplitl [HO]; · iexact HO
    isplitr
    · iapply (mayWait_at xs ws K (c := c) (k := cB) (l := l) hl); iexact HR
    iexact Ha
  iintro ⟨HO, Ha, -, Hp⟩
  iapply Hk
  isplitl [HO]
  · iexists _; iexact HO
  isplitl [Ha]; · iexact Ha
  iapply (rest_bar xs ws c)
  iexact Hp

/-- A wait on a DMA cell of one duty: the cell's payload comes in. -/
theorem wait_step {c : Fin 16} {k : Ck} {l : List Debt} (hl : ∀ d ∈ l, level c k < level d.1 d.2) (hd : dutiesOf c k = {0})
    {s : DmaSem sig} (hs : csem k = .dma s)
    {sp sp' : Space} {sh sh' : Shape} {e e' : EltTy} {src : Memref sig .tc sp' sh' e'} {dst : Memref sig .tc sp sh e}
    {hsrc : src.view.WordExact} {hdst : dst.view.WordExact} (hN : dst.view.dmaCredit = amt k) {P : PG F} {Q : PUnit → sProp 𝕄} :
    iprop(records xs ws K ∗ crd c k ∗ owed c l ∗ at_ c k 0)
      ⊢ iprop(((owed c l ∗ at_ c k 1 ∗ payOf xs ws c k 0) -∗ WP c P Q) -∗ WP c (.op (.waitDma2 s src dst hsrc hdst) fun _ => P) Q) := by
  unfold owed
  iintro ⟨#HR, Hc, ⟨%W, HO⟩, Ha⟩ Hk
  iapply (Rounds.wp_wait_rest_token 𝒱₀ ER (Rd xs ws) ((c : Dev nD) : Thread nD τ) none (κ := K (c, k)) (sm := csem k) (k' := amt k)
      (by rw [← hN, hs]; exact wpE_waitDma2_eq 𝒱₀ ((c : Dev nD) : Thread nD τ) none Set.univ) (Set.mem_univ _) () (O := owe l) (W := W) (R := 0) (m := 0) (T := ∅)
      (by rw [Nat.zero_add, expect_one xs ws hd])) $$ [Hc HO Ha]
  · isplitr; · iapply (inv_at xs ws K c k); iexact HR
    isplitl [Hc]; · iexact Hc
    isplitl [HO]; · iexact HO
    isplitr
    · iapply (mayWait_at xs ws K (l := l) hl); iexact HR
    iexact Ha
  iintro ⟨HO, Ha, -, Hp⟩
  iapply Hk
  isplitl [HO]
  · iexists _; iexact HO
  isplitl [Ha]; · iexact Ha
  iapply (Entails.of_eq (rest_one xs ws hd))
  iexact Hp

/-! ## Transfers -/

/-- Piece `p` of chunk `o = p.2.1`, held whole, to the next device: half of it is lent, the landing place and the
    luggage go over. -/
theorem send_step {c : Fin 16} {p : P3} (hs : p.2.1 ≠ nxt p.1 c) {l : List Debt} {P : PG F} {Q : PUnit → sProp 𝕄} :
    iprop(records xs ws K ∗ PB c p fullShare (gB xs) ∗ anyB (F := F) (nxt p.1 c) p
        ∗ luggage (F := F) (p.1, p.2.2) p.2.1 (dist p.1 p.2.1 (nxt p.1 c)).val
        ∗ owed c ((nxt p.1 c, cR p) :: l) ∗ tok c (cS p) 0 ∗ tok (nxt p.1 c) (cR p) 0)
      ⊢ iprop(((PB c p fullShare.right (gB xs) ∗ crd c (cS p) ∗ owed c l) -∗ WP c P Q)
          -∗ WP c (opSend p.1 p.2.1 p.2.2 (nxt p.1 c) P) Q) := by
  unfold owed anyB
  iintro ⟨#HR, HB, ⟨%fd, Hd⟩, Hlug, ⟨%W, HO⟩, Ht, Htn⟩ Hk
  have hsh : PB (F := F) c p fullShare (gB xs) ⊢ iprop(PB c p fullShare.left (gB xs) ∗ PB c p fullShare.right (gB xs)) := by
    unfold PB; exact (pointsTo_share (PosShare.mem_left_op_right _)).1
  ihave HB' := hsh $$ HB
  icases HB' with ⟨Hl, Hr⟩
  unfold opSend
  iapply (Rounds.wp_send_pointsTo_with 𝒱₀ ER (Rd xs ws) ((c : Dev nD) : Thread nD τ) none (κ₁ := K (c, cS p)) (κ₂ := K (nxt p.1 c, cR p))
      (c' := Dev.tc (nxt p.1 c : Dev nD)) (src := piece p.2.1 p.1 p.2.2) (dst := piece p.2.1 p.1 p.2.2)
      (sS := .dma (sndS p.1 p.2.1 p.2.2)) (sem := .dma (rcvS p.1 p.2.1 p.2.2))
      (q := fullShare.left) (fs := gB xs) (fd := fd) (F := luggage (F := F) (p.1, p.2.2) p.2.1 (dist p.1 p.2.1 (nxt p.1 c)).val)
      (r₁ := 0) (r₂ := 0) (d₁ := 0) (d₂ := 0)
      (by rw [show (((c : Dev nD) : Thread nD τ), SemLoc.dma (sndS p.1 p.2.1 p.2.2)) = cell c (cS p) from rfl, duties_cell]
          show 0 ∈ (if p.2.1 = nxt p.1 c then (∅ : Finset (Fin 4)) else {0})
          rw [if_neg hs]; exact Finset.mem_singleton_self _)
      (by rw [show (Dev.tc (nxt p.1 c : Dev nD), SemLoc.dma (rcvS p.1 p.2.1 p.2.2)) = cell (nxt p.1 c) (cR p) from rfl, duties_cell]
          show 0 ∈ (if p.2.1 = nxt p.1 c then (∅ : Finset (Fin 4)) else {0})
          rw [if_neg hs]; exact Finset.mem_singleton_self _)
      () () NB rfl (amount_cell xs ws c (cS p) 0 0) (amount_cell xs ws (nxt p.1 c) (cR p) 0 0) (owe l) rfl (W := W)
      (by rw [show (((c : Dev nD) : Thread nD τ), SemLoc.dma (sndS p.1 p.2.1 p.2.2)) = cell c (cS p) from rfl, payload_cell]
          exact BI.Entails.refl _)
      (by rw [show (Dev.tc (nxt p.1 c : Dev nD), SemLoc.dma (rcvS p.1 p.2.1 p.2.2)) = cell (nxt p.1 c) (cR p) from rfl, payload_cell]
          show _ ⊢ iprop(PB (nxt p.1 c) p fullShare (gB xs) ∗ luggage (F := F) (p.1, p.2.2) p.2.1 (dist p.1 p.2.1 (nxt p.1 c)).val)
          refine sep_mono_left (Entails.of_eq ?_)
          unfold PB
          refine pointsTo_congr fun i hi => ?_
          rw [View.write_read_eq_piecewise, View.setOn_univ]
          exact Finset.piecewise_eq_of_mem _ _ _ hi)) $$ [Hl Hd Hlug HO Ht Htn]
  · isplitr; · iapply (inv_at xs ws K c (cS p)); iexact HR
    isplitr; · iapply (inv_at xs ws K (nxt p.1 c) (cR p)); iexact HR
    isplitl [Hl]; · unfold PB; iexact Hl
    isplitl [Hd Hlug]
    · isplitl [Hd]
      · unfold PB; iexact Hd
      · iexact Hlug
    isplitl [HO]; · iexact HO
    isplitl [Ht]; · iexact Ht
    isplitr; · iapply (reached_at xs ws K c (cS p)); iexact HR
    isplitl [Htn]; · iexact Htn
    iapply (reached_at xs ws K (nxt p.1 c) (cR p)); iexact HR
  iintro ⟨Hc, HO⟩
  iapply Hk
  isplitl [Hr]; · iexact Hr
  isplitl [Hc]; · iexact Hc
  iexists W; iexact HO

/-- The own eight rows to device `t`. -/
theorem amaxSend_step {c t : Fin 16} (ht : t ≠ c) {l : List Debt} {P : PG F} {Q : PUnit → sProp 𝕄} :
    iprop(records xs ws K ∗ PA c c (tokOf c t) (gA xs ws) ∗ anyA (F := F) t c
        ∗ owed c ((t, cV c) :: l) ∗ tok c (cT t) 0 ∗ tok t (cV c) 0)
      ⊢ iprop(((crd c (cT t) ∗ owed c l) -∗ WP c P Q) -∗ WP c (opAmaxSend c t P) Q) := by
  unfold owed anyA
  iintro ⟨#HR, HA, ⟨%fd, Hd⟩, ⟨%W, HO⟩, Ht, Htn⟩ Hk
  unfold opAmaxSend
  iapply (Rounds.wp_send_pointsTo_with 𝒱₀ ER (Rd xs ws) ((c : Dev nD) : Thread nD τ) none (κ₁ := K (c, cT t)) (κ₂ := K (t, cV c))
      (c' := Dev.tc (t : Dev nD)) (src := amRow c) (dst := amRow c)
      (sS := .dma (asndS t)) (sem := .dma (arcvS c))
      (q := tokOf c t) (fs := gA xs ws) (fd := fd) (F := iprop(emp))
      (r₁ := 0) (r₂ := 0) (d₁ := 0) (d₂ := 0)
      (by rw [show (((c : Dev nD) : Thread nD τ), SemLoc.dma (asndS t)) = cell c (cT t) from rfl, duties_cell]
          show 0 ∈ (if t = c then (∅ : Finset (Fin 4)) else {0})
          rw [if_neg ht]; exact Finset.mem_singleton_self _)
      (by rw [show (Dev.tc (t : Dev nD), SemLoc.dma (arcvS c)) = cell t (cV c) from rfl, duties_cell]
          show 0 ∈ (if c = t then (∅ : Finset (Fin 4)) else {0})
          rw [if_neg ht.symm]; exact Finset.mem_singleton_self _)
      () () NA rfl (amount_cell xs ws c (cT t) 0 0) (amount_cell xs ws t (cV c) 0 0) (owe l) rfl (W := W)
      (by rw [show (((c : Dev nD) : Thread nD τ), SemLoc.dma (asndS t)) = cell c (cT t) from rfl, payload_cell]
          exact BI.Entails.refl _)
      (by rw [show (Dev.tc (t : Dev nD), SemLoc.dma (arcvS c)) = cell t (cV c) from rfl, payload_cell]
          show _ ⊢ PA t c fullShare (gA xs ws)
          iintro ⟨H, -⟩
          iapply (Entails.of_eq (show _ = PA t c fullShare (gA xs ws) from ?_)) $$ H
          unfold PA
          refine pointsTo_congr fun i hi => ?_
          rw [View.write_read_eq_piecewise, View.setOn_univ]
          exact Finset.piecewise_eq_of_mem _ _ _ hi)) $$ [HA Hd HO Ht Htn]
  · isplitr; · iapply (inv_at xs ws K c (cT t)); iexact HR
    isplitr; · iapply (inv_at xs ws K t (cV c)); iexact HR
    isplitl [HA]; · unfold PA; iexact HA
    isplitl [Hd]
    · isplitl [Hd]
      · unfold PA; iexact Hd
      · iempintro
    isplitl [HO]; · iexact HO
    isplitl [Ht]; · iexact Ht
    isplitr; · iapply (reached_at xs ws K c (cT t)); iexact HR
    isplitl [Htn]; · iexact Htn
    iapply (reached_at xs ws K t (cV c)); iexact HR
  iintro ⟨Hc, HO⟩
  iapply Hk
  isplitl [Hc]; · iexact Hc
  iexists W; iexact HO

end Cert.K
-- ==== Proof.K.Steps.lean ====
/-
# The loads and the stores

The own chunk, the weights, the two kinds of products, the local maximum and the result, each from the contents the
operation reads to those it leaves.
-/
module

public import proofs.«01_k».proof.Proof.K.Rules

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Fin 16 → (cc0_stg0_0 : Ref sig .tc).ty.Contents (Elt F)) (ws : Fin 16 → (cc0_stg1_0 : Ref sig .tc).ty.Contents (Elt F))

/-- Buffer `b` of device `c`, whole, at share `q`, holding `f`. -/
abbrev buf (c : Fin 16) (b : Ref sig .tc) (q : PosShare TreeShare) (f : b.ty.Contents (Elt F)) : sProp 𝕄 :=
  ((c : Dev nD) : Thread nD τ).loc b ↦[Finset.univ]{q} f

/-- The product's buffer on device `c`, right on the half chunks `P`. -/
def prodY (c : Fin 16) (P : Fin 2 × Fin 16 → Prop) : sProp 𝕄 :=
  iprop(∃ f, buf c cc0_stg2_0 fullShare f ∗ ⌜∀ i, P (halfOf i) → f i = gY xs ws c i⌝)

theorem prodY_mono {c : Fin 16} {P P' : Fin 2 × Fin 16 → Prop} (h : ∀ x, P' x → P x) : prodY xs ws c P ⊢ prodY xs ws c P' := by
  unfold prodY
  iintro ⟨%f, H, %hf⟩
  iexists f
  isplitl [H]; · iexact H
  ipureintro
  exact fun i hi => hf i (h _ hi)

/-- Right everywhere, it is the product. -/
theorem prodY_all {c : Fin 16} {P : Fin 2 × Fin 16 → Prop} (h : ∀ x, P x) : prodY xs ws c P ⊢ buf c cc0_stg2_0 fullShare (gY xs ws c) := by
  unfold prodY
  iintro ⟨%f, H, %hf⟩
  have e : f = gY xs ws c := funext fun i => hf i (h _)
  subst e
  iexact H

theorem zero2 : (![0, 0] : Fin 2 → ℕ) = fun _ => 0 := funext fun a => by fin_cases a <;> rfl

/-- The two pieces of a half chunk are its rows. -/
theorem half_eq (c o : Fin 16) (r : Fin 2) (q : PosShare TreeShare) (f : (cc0_scratch0 : Ref sig .tc).ty.Contents (Elt F)) :
    (((c : Dev nD) : Thread nD τ).loc cc0_scratch0 ↦[(halfR o r).set]{q} f : sProp 𝕄) ⊣⊢ iprop(PB c (r, o, 0) q f ∗ PB c (r, o, 1) q f) := by
  rw [PB_eq, PB_eq, half_pieces]
  exact pointsTo_union (pSet_disjoint _ _ (by simp))

/-- The four pieces of a chunk are its rows. -/
theorem own_eq (c o : Fin 16) (q : PosShare TreeShare) (f : (cc0_scratch0 : Ref sig .tc).ty.Contents (Elt F)) :
    (((c : Dev nD) : Thread nD τ).loc cc0_scratch0 ↦[(ownR o).set]{q} f : sProp 𝕄)
      ⊣⊢ iprop((PB c (0, o, 0) q f ∗ PB c (0, o, 1) q f) ∗ (PB c (1, o, 0) q f ∗ PB c (1, o, 1) q f)) := by
  rw [own_halves]
  refine (pointsTo_union (half_disjoint o)).trans ⟨BIClass.sep_mono (half_eq c o 0 q f).1 (half_eq c o 1 q f).1, BIClass.sep_mono (half_eq c o 0 q f).2 (half_eq c o 1 q f).2⟩

theorem own_step {c : Fin 16} {q : PosShare TreeShare} {P : PG F} {Q : PUnit → sProp 𝕄} :
    iprop(buf c cc0_stg0_0 q (xs c) ∗ ∃ f, buf (F := F) c cc0_scratch0 fullShare f)
      ⊢ iprop(((buf c cc0_stg0_0 q (xs c) ∗ ∃ f, buf c cc0_scratch0 fullShare f ∗ ⌜∀ i ∈ (ownR c).set, f i = gB xs i⌝) -∗ WP c P Q)
          -∗ WP c (opOwn c P) Q) := by
  iintro ⟨Hx, %f, Hb⟩ Hk
  unfold opOwn
  iapply (wp_load 𝒱₀ ((c : Dev nD) : Thread nD τ) none Set.univ (m := xM) (Finset.subset_univ _)) $$ Hx
  iintro Hx
  rw [show xM.view.readAt (Elt F) xR.toLoadRect (xs c) = xs c from Memref.readAt_unit_zero (Elt F) cc0_stg0_0 zero2 _ _]
  iapply (wp_load 𝒱₀ ((c : Dev nD) : Thread nD τ) none Set.univ (m := bM) (Finset.subset_univ _)) $$ Hb
  iintro Hb
  iapply (wp_store 𝒱₀ ((c : Dev nD) : Thread nD τ) none Set.univ (m := bM) (r := ownR c) (Mk := Finset.univ) (Finset.subset_univ _)) $$ Hb
  iintro Hb
  iapply Hk
  isplitl [Hx]; · iexact Hx
  iexists _
  isplitl [Hb]; · iexact Hb
  ipureintro
  exact own_lands xs c f

theorem weights_step {c : Fin 16} {q : PosShare TreeShare} {P : PG F} {Q : PUnit → sProp 𝕄} :
    iprop(buf c cc0_stg1_0 q (ws c) ∗ ∃ f, buf (F := F) c cc0_scratch1 fullShare f)
      ⊢ iprop(((buf c cc0_stg1_0 q (ws c) ∗ buf c cc0_scratch1 fullShare (gW ws c)) -∗ WP c P Q) -∗ WP c (opWeights P) Q) := by
  iintro ⟨Hx, %f, Hb⟩ Hk
  unfold opWeights
  iapply (wp_load 𝒱₀ ((c : Dev nD) : Thread nD τ) none Set.univ (m := wM) (Finset.subset_univ _)) $$ Hx
  iintro Hx
  rw [show wM.view.readAt (Elt F) wR.toLoadRect (ws c) = ws c from Memref.readAt_unit_zero (Elt F) cc0_stg1_0 zero2 _ _]
  iapply (wp_load 𝒱₀ ((c : Dev nD) : Thread nD τ) none Set.univ (m := vM) (Finset.subset_univ _)) $$ Hb
  iintro Hb
  iapply (wp_store 𝒱₀ ((c : Dev nD) : Thread nD τ) none Set.univ (m := vM) (r := wR) (Mk := Finset.univ) (Finset.subset_univ _)) $$ Hb
  rw [show (vM.access wR).write (Elt F) f (k0_pay3 (ws c)) Finset.univ = gW ws c from
    Memref.write_access_unit_zero_univ (Elt F) cc0_scratch1 zero2 _ f _]
  iintro Hb
  iapply Hk
  isplitl [Hx]; · iexact Hx
  iexact Hb

/-- Rows of the product written with the right values. -/
theorem prodY_write {c : Fin 16} {P P' : Fin 2 × Fin 16 → Prop} {r : Rect S4096x128} {w : r.shape.Idx → Elt F .f32}
    {f : (cc0_stg2_0 : Ref sig .tc).ty.Contents (Elt F)} (hf : ∀ i, P (halfOf i) → f i = gY xs ws c i)
    (hw : ∀ i ∈ r.set, (oM.access r).write (Elt F) f w Finset.univ i = gY xs ws c i) (hP : ∀ i, P' (halfOf i) → i ∈ r.set ∨ P (halfOf i)) :
    ∀ i, P' (halfOf i) → (oM.access r).write (Elt F) f w Finset.univ i = gY xs ws c i := by
  intro i hi
  by_cases h : i ∈ r.set
  · exact hw i h
  · rw [show (oM.access r).write (Elt F) f w Finset.univ i = f i from write_off cc0_stg2_0 r f w i h]
    exact hf i ((hP i hi).resolve_left h)

theorem gemmOwn_step {c : Fin 16} {q : PosShare TreeShare} {P : PG F} {Q : PUnit → sProp 𝕄} :
    iprop((((c : Dev nD) : Thread nD τ).loc cc0_scratch0 ↦[(ownR c).set]{q} gB xs) ∗ buf c cc0_scratch1 fullShare (gW ws c)
        ∗ ∃ f, buf (F := F) c cc0_stg2_0 fullShare f)
      ⊢ iprop((((((c : Dev nD) : Thread nD τ).loc cc0_scratch0 ↦[(ownR c).set]{q} gB xs) ∗ buf c cc0_scratch1 fullShare (gW ws c)
          ∗ prodY xs ws c (fun x => x.2 = c)) -∗ WP c P Q) -∗ WP c (opGemmOwn c P) Q) := by
  iintro ⟨Hb, Hw, %f, Ho⟩ Hk
  unfold opGemmOwn
  iapply (wp_load_rect 𝒱₀ ((c : Dev nD) : Thread nD τ) none Set.univ (m := bM) (r := ownR c)
    (by rw [show (bM.access (ownR c)).set = (ownR c).set from View.set_slice_whole cc0_scratch0 _])) $$ Hb
  iintro Hb
  iapply (wp_load 𝒱₀ ((c : Dev nD) : Thread nD τ) none Set.univ (m := vM) (Finset.subset_univ _)) $$ Hw
  iintro Hw
  rw [show vM.view.readAt (Elt F) wR.toLoadRect (gW ws c) = gW ws c from Memref.readAt_unit_zero (Elt F) cc0_scratch1 zero2 _ _]
  iapply (wp_load 𝒱₀ ((c : Dev nD) : Thread nD τ) none Set.univ (m := oM) (Finset.subset_univ _)) $$ Ho
  iintro Ho
  iapply (wp_store 𝒱₀ ((c : Dev nD) : Thread nD τ) none Set.univ (m := oM) (r := oownR c) (Mk := Finset.univ) (Finset.subset_univ _)) $$ Ho
  iintro Ho
  iapply Hk
  isplitl [Hb]; · iexact Hb
  isplitl [Hw]; · iexact Hw
  unfold prodY
  iexists _
  isplitl [Ho]; · iexact Ho
  ipureintro
  exact prodY_write xs ws (P := fun _ => False) (P' := fun x => x.2 = c) (fun i h => h.elim) (gemmOwn_lands xs ws c f) fun i hi => .inl (mem_oown_iff.mpr hi)

theorem gemm_step {c o : Fin 16} {r : Fin 2} (ho : o ≠ c) {q : PosShare TreeShare} {R R' : Fin 2 × Fin 16 → Prop}
    (hR : ∀ x, R' x → x = (r, o) ∨ R x) {P : PG F} {Q : PUnit → sProp 𝕄} :
    iprop((PB c (r, o, 0) q (gB xs) ∗ PB c (r, o, 1) q (gB xs)) ∗ buf c cc0_scratch1 fullShare (gW ws c) ∗ prodY xs ws c R)
      ⊢ iprop((((PB c (r, o, 0) q (gB xs) ∗ PB c (r, o, 1) q (gB xs)) ∗ buf c cc0_scratch1 fullShare (gW ws c) ∗ prodY xs ws c R') -∗ WP c P Q)
          -∗ WP c (opGemm r o P) Q) := by
  unfold prodY
  iintro ⟨Hp, Hw, %f, Ho, %hf⟩ Hk
  ihave Hb := (half_eq c o r q (gB xs)).2 $$ Hp
  unfold opGemm
  iapply (wp_load_rect 𝒱₀ ((c : Dev nD) : Thread nD τ) none Set.univ (m := bM) (r := halfR o r)
    (by rw [show (bM.access (halfR o r)).set = (halfR o r).set from View.set_slice_whole cc0_scratch0 _])) $$ Hb
  iintro Hb
  iapply (wp_load 𝒱₀ ((c : Dev nD) : Thread nD τ) none Set.univ (m := vM) (Finset.subset_univ _)) $$ Hw
  iintro Hw
  rw [show vM.view.readAt (Elt F) wR.toLoadRect (gW ws c) = gW ws c from Memref.readAt_unit_zero (Elt F) cc0_scratch1 zero2 _ _]
  iapply (wp_load 𝒱₀ ((c : Dev nD) : Thread nD τ) none Set.univ (m := oM) (Finset.subset_univ _)) $$ Ho
  iintro Ho
  iapply (wp_store 𝒱₀ ((c : Dev nD) : Thread nD τ) none Set.univ (m := oM) (r := ohalfR o r) (Mk := Finset.univ) (Finset.subset_univ _)) $$ Ho
  iintro Ho
  iapply Hk
  isplitl [Hb]; · iapply (half_eq c o r q (gB xs)).1; iexact Hb
  isplitl [Hw]; · iexact Hw
  iexists _
  isplitl [Ho]; · iexact Ho
  ipureintro
  exact prodY_write xs ws hf (gemm_lands xs ws c o r ho f) fun i hi => (hR _ hi).imp (fun h => mem_ohalf_iff.mpr h) id

theorem amax_step {c : Fin 16} {P : PG F} {Q : PUnit → sProp 𝕄} :
    iprop(buf c cc0_stg2_0 fullShare (gY xs ws c) ∗ anyA (F := F) c c)
      ⊢ iprop(((buf c cc0_stg2_0 fullShare (gY xs ws c) ∗ PA c c fullShare (gA xs ws)) -∗ WP c P Q) -∗ WP c (opAmax c P) Q) := by
  unfold anyA
  iintro ⟨Ho, %f, Ha⟩ Hk
  ihave Ha := (Entails.of_eq (PA_eq c c fullShare f)) $$ Ha
  unfold opAmax
  iapply (wp_load 𝒱₀ ((c : Dev nD) : Thread nD τ) none Set.univ (m := oM) (Finset.subset_univ _)) $$ Ho
  iintro Ho
  rw [show oM.view.readAt (Elt F) wR.toLoadRect (gY xs ws c) = gY xs ws c from Memref.readAt_unit_zero (Elt F) cc0_stg2_0 zero2 _ _]
  iapply (wp_load_rect 𝒱₀ ((c : Dev nD) : Thread nD τ) none Set.univ (m := aM) (r := amR c)
    (by rw [show (aM.access (amR c)).set = (amR c).set from View.set_slice_whole cc0_scratch2 _])) $$ Ha
  iintro Ha
  iapply (wp_store 𝒱₀ ((c : Dev nD) : Thread nD τ) none Set.univ (m := aM) (r := amR c) (Mk := Finset.univ)
    (by rw [View.setOn_univ, show (aM.access (amR c)).set = (amR c).set from View.set_slice_whole cc0_scratch2 _])) $$ Ha
  iintro Ha
  iapply Hk
  isplitl [Ho]; · iexact Ho
  iapply (Entails.of_eq (PA_eq c c fullShare (gA xs ws)).symm)
  iapply (Entails.of_eq (pointsTo_congr (amax_lands xs ws c f)))
  iexact Ha

theorem finish_step {c : Fin 16} {P : PG F} {Q : PUnit → sProp 𝕄} :
    iprop(buf c cc0_stg2_0 fullShare (gY xs ws c) ∗ buf c cc0_scratch2 fullShare (gA xs ws))
      ⊢ iprop(((buf c cc0_stg2_0 fullShare (gOut xs ws c) ∗ buf c cc0_scratch2 fullShare (gA xs ws)) -∗ WP c P Q) -∗ WP c (opFinish P) Q) := by
  iintro ⟨Ho, Ha⟩ Hk
  unfold opFinish
  iapply (wp_load 𝒱₀ ((c : Dev nD) : Thread nD τ) none Set.univ (m := aM) (Finset.subset_univ _)) $$ Ha
  iintro Ha
  rw [show aM.view.readAt (Elt F) aR.toLoadRect (gA xs ws) = gA xs ws from Memref.readAt_unit_zero (Elt F) cc0_scratch2 zero2 _ _]
  iapply (wp_load 𝒱₀ ((c : Dev nD) : Thread nD τ) none Set.univ (m := oM) (Finset.subset_univ _)) $$ Ho
  iintro Ho
  rw [show oM.view.readAt (Elt F) wR.toLoadRect (gY xs ws c) = gY xs ws c from Memref.readAt_unit_zero (Elt F) cc0_stg2_0 zero2 _ _]
  iapply (wp_load 𝒱₀ ((c : Dev nD) : Thread nD τ) none Set.univ (m := oM) (Finset.subset_univ _)) $$ Ho
  iintro Ho
  iapply (wp_store 𝒱₀ ((c : Dev nD) : Thread nD τ) none Set.univ (m := oM) (r := wR) (Mk := Finset.univ) (Finset.subset_univ _)) $$ Ho
  rw [show (oM.access wR).write (Elt F) (gY xs ws c) (k0_pay1 (k0_pay37 (gA xs ws)) (k0_pay38 (gA xs ws) (gY xs ws c))) Finset.univ = gOut xs ws c from
    Memref.write_access_unit_zero_univ (Elt F) cc0_stg2_0 zero2 _ _ _]
  iintro Ho
  iapply Hk
  isplitl [Ho]; · iexact Ho
  iexact Ha

end Cert.K
-- ==== Proof.K.Loop.lean ====
/-
# Lists of assertions, and loops

`each l Φ` is `Φ` of every entry of the list, at once. A stretch of the script that does the same for every entry of
a list is run by one step, given for each entry (`loop`). And everything indexed by the pieces, or by the devices, is
read in the order in which a device handles it (`by_hops`, `by_steps`).
-/
module

public import proofs.«01_k».proof.Proof.K.Rules

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Lists

variable {I J : Type} {M : Type} [URA M]

/-- `Φ` of every entry of the list. -/
abbrev each (l : List I) (Φ : I → sProp M) : sProp M := bigSepM (l : Multiset I) Φ

theorem each_nil (Φ : I → sProp M) : each [] Φ = iprop(emp) := rfl
theorem each_cons (a : I) (l : List I) (Φ : I → sProp M) : each (a :: l) Φ = iprop(Φ a ∗ each l Φ) :=
  bigSepM_cons a (l : Multiset I) Φ

theorem each_mono {l : List I} {Φ Ψ : I → sProp M} (h : ∀ i ∈ l, Φ i ⊢ Ψ i) : each l Φ ⊢ each l Ψ := by
  induction l with
  | nil => exact BI.Entails.refl _
  | cons a l ih =>
    rw [each_cons, each_cons]
    exact BIClass.sep_mono (h a List.mem_cons_self) (ih fun i hi => h i (List.mem_cons_of_mem a hi))

theorem each_sep (l : List I) (Φ Ψ : I → sProp M) : each l (fun i => iprop(Φ i ∗ Ψ i)) ⊣⊢ iprop(each l Φ ∗ each l Ψ) := by
  induction l with
  | nil =>
    rw [each_nil, each_nil, each_nil]
    constructor
    · iintro -; isplitl [] <;> iempintro
    · iintro ⟨-, -⟩; iempintro
  | cons a l ih =>
    rw [each_cons, each_cons, each_cons]
    constructor
    · iintro ⟨⟨H1, H2⟩, H⟩
      ihave H := ih.1 $$ H
      icases H with ⟨Ha, Hb⟩
      isplitl [H1 Ha]
      · isplitl [H1]; · iexact H1
        iexact Ha
      · isplitl [H2]; · iexact H2
        iexact Hb
    · iintro ⟨⟨H1, Ha⟩, H2, Hb⟩
      isplitl [H1 H2]
      · isplitl [H1]; · iexact H1
        iexact H2
      iapply ih.2
      isplitl [Ha]; · iexact Ha
      iexact Hb

theorem each_append (l l' : List I) (Φ : I → sProp M) : each (l ++ l') Φ = iprop(each l Φ ∗ each l' Φ) :=
  (congrArg (bigSepM · Φ) (Multiset.coe_add l l').symm).trans (bigSepM_add _ _ Φ)
theorem each_map (f : I → J) (l : List I) (Φ : J → sProp M) : each (l.map f) Φ = each l fun i => Φ (f i) := by
  induction l with
  | nil => rfl
  | cons a l ih => rw [List.map_cons, each_cons, ih, each_cons]
theorem each_flatMap (f : J → List I) (l : List J) (Φ : I → sProp M) : each (l.flatMap f) Φ = each l fun j => each (f j) Φ := by
  induction l with
  | nil => rfl
  | cons a l ih => rw [List.flatMap_cons, each_append, ih, each_cons]
theorem each_perm {l l' : List I} (h : l.Perm l') (Φ : I → sProp M) : each l Φ = each l' Φ :=
  congrArg (bigSepM · Φ) (Multiset.coe_eq_coe.mpr h)
/-- A list without repetitions, as long as the type is large, lists the type. -/
theorem each_univ [Fintype I] [DecidableEq I] {l : List I} (hn : l.Nodup) (hu : l.length = Fintype.card I) (Φ : I → sProp M) :
    bigSep Finset.univ Φ = each l Φ := by
  rw [← Finset.eq_univ_of_card l.toFinset ((List.toFinset_card_of_nodup hn).trans hu)]
  show bigSepM l.toFinset.val Φ = _
  rw [List.toFinset_val, hn.dedup]

end Lists

/-! ## Loops -/

/-- A stretch of the script, entry by entry of a list: `S` is what is known of the entries still to come, `Inv` what is
    held between entries, `Pre` and `Post` what an entry takes and leaves. -/
theorem loop {α : Type} {c : Fin 16} (g : α → List Ins) (S : List α → Prop) (hS : ∀ a l, S (a :: l) → S l)
    (R : sProp 𝕄) [BI.Persistent R] (Inv : List α → sProp 𝕄) (Pre Post : α → sProp 𝕄)
    (step : ∀ a l, S (a :: l) → ∀ (P : PG F) (Q : PUnit → sProp 𝕄),
      iprop(R ∗ Inv (a :: l) ∗ Pre a) ⊢ iprop(((Inv l ∗ Post a) -∗ WP c P Q) -∗ WP c (run c (g a) P) Q)) :
    ∀ (l : List α) (_ : S l) (P : PG F) (Q : PUnit → sProp 𝕄),
      iprop(R ∗ Inv l ∗ each l Pre) ⊢ iprop(((Inv [] ∗ each l Post) -∗ WP c P Q) -∗ WP c (run c (l.flatMap g) P) Q) := by
  intro l
  induction l with
  | nil =>
    intro _ P Q
    iintro ⟨-, HI, -⟩ Hk
    iapply Hk
    isplitl [HI]; · iexact HI
    rw [each_nil]; iempintro
  | cons a l ih =>
    intro hs P Q
    rw [List.flatMap_cons, run_append, each_cons, each_cons]
    iintro ⟨#HR, HI, Ha, Hl⟩ Hk
    iapply (step a l hs _ Q) $$ [HI Ha]
    · isplitr; · iexact HR
      isplitl [HI]; · iexact HI
      iexact Ha
    iintro ⟨HI, Ha⟩
    iapply (ih (hS a l hs) P Q) $$ [HI Hl]
    · isplitr; · iexact HR
      isplitl [HI]; · iexact HI
      iexact Hl
    iintro ⟨HI, Hl⟩
    iapply Hk
    isplitl [HI]; · iexact HI
    isplitl [Ha]; · iexact Ha
    iexact Hl

theorem map_eq_flatMap {α β : Type} (f : α → β) (l : List α) : l.map f = l.flatMap fun a => [f a] := by
  induction l with
  | nil => rfl
  | cons a l ih => rw [List.map_cons, List.flatMap_cons, ih]; rfl

/-! ## The order of the script -/

/-- The piece of rings and quarters `p` of the chunk `k` devices back. -/
abbrev at_hop (c k : Fin 16) (p : Fin 2 × Fin 2) : P3 := (p.1, org p.1 c k, p.2)

theorem hops_nodup : ∀ c : Fin 16, ((0 :: steps).flatMap fun k => pieces.map (at_hop c k)).Nodup := by decide +kernel

/-- All pieces, hop by hop. -/
theorem by_hops (c : Fin 16) (Φ : P3 → sProp 𝕄) :
    bigSep Finset.univ Φ = each (0 :: steps) fun k => each pieces fun p => Φ (at_hop c k p) := by
  rw [each_univ (hops_nodup c) rfl Φ, each_flatMap]
  exact congrArg (each (0 :: steps)) (funext fun k => each_map _ _ _)

/-- All pieces, the hop after theirs counted. -/
theorem by_drain (c : Fin 16) (Φ : Fin 16 → sProp 𝕄) :
    each (0 :: steps) Φ = iprop(each steps (fun k => Φ (k - 1)) ∗ Φ 15) := by
  rw [show (0 :: steps : List (Fin 16)) = steps.map (· - 1) ++ [15] from by decide, each_append, each_map]
  exact congrArg (BI.sep _) (bigSepM_singleton (15 : Fin 16) Φ)

theorem steps_nodup : ∀ c : Fin 16, ((0 :: steps).map (c + ·)).Nodup := by decide +kernel

/-- All devices, counted from `c`. -/
theorem by_steps (c : Fin 16) (Φ : Fin 16 → sProp 𝕄) :
    bigSep Finset.univ Φ = iprop(Φ c ∗ each steps fun j => Φ (c + j)) := by
  rw [each_univ (steps_nodup c) rfl Φ, each_map, each_cons, show c + 0 = c from by revert c; decide]

theorem org_perm : ∀ c : Fin 16, (steps.map (org 0 c)).Perm (steps.map (c + ·)) := by decide +kernel

/-- The devices along ring 0 before `c` are all the others. -/
theorem by_org (c : Fin 16) (Φ : Fin 16 → sProp 𝕄) : (each steps fun k => Φ (org 0 c k)) = each steps fun j => Φ (c + j) := by
  rw [← each_map (org 0 c) steps Φ, each_perm (org_perm c), each_map]

end Cert.K
-- ==== Proof.K.Hop.lean ====
/-
# One hop of the rings

What a device takes into a hop for each piece (`Todo`), what it has after it (`Done`), and the run of hop `k`: the four
pieces received and sent on, then the two products.
-/
module

public import proofs.«01_k».proof.Proof.K.Steps
public import proofs.«01_k».proof.Proof.K.Loop

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Fin 16 → (cc0_stg0_0 : Ref sig .tc).ty.Contents (Elt F)) (ws : Fin 16 → (cc0_stg1_0 : Ref sig .tc).ty.Contents (Elt F))
variable (K : Fin 16 × Ck → ℕ)

/-! ## The luggage, unpacked -/

theorem dist_inj : ∀ o d c : Fin 16, dist 0 o d = dist 0 o c → d = c := by decide +kernel

/-- Device `c` keeps its own rows of `o`'s exchange buffer and passes on those of the devices after it. -/
theorem rowsFrom_split (o c : Fin 16) : rowsFrom (F := F) o (dist 0 o c).val ⊢ iprop(anyA (F := F) o c ∗ rowsFrom (F := F) o ((dist 0 o c).val + 1)) := by
  unfold rowsFrom
  rw [bigSep_univ_at _ c, bigSep_univ_at (fun d => if (dist 0 o c).val + 1 ≤ (dist 0 o d).val then anyA (F := F) o d else iprop(emp)) c,
    if_pos (le_refl _), if_neg (Nat.not_succ_le_self _)]
  have e : (bigSep (Finset.univ.erase c) fun d => if (dist 0 o c).val + 1 ≤ (dist 0 o d).val then anyA (F := F) o d else iprop(emp))
      = bigSep (Finset.univ.erase c) fun d => if (dist 0 o c).val ≤ (dist 0 o d).val then anyA (F := F) o d else iprop(emp) :=
    bigSep_congr fun d hd => by
      have hne : (dist 0 o c).val ≠ (dist 0 o d).val := fun h => (Finset.mem_erase.mp hd).1 (dist_inj o d c (Fin.ext h.symm))
      by_cases h : (dist 0 o c).val ≤ (dist 0 o d).val
      · rw [if_pos h, if_pos (by omega)]
      · rw [if_neg h, if_neg (by omega)]
  rw [e]
  iintro ⟨H1, H2⟩
  isplitl [H1]; · iexact H1
  isplitr; · iempintro
  iexact H2

/-- The device's own rows, on the carrier piece. -/
def ownRows (p : Fin 2 × Fin 2) (o c : Fin 16) : sProp 𝕄 := if p = (0, 0) then anyA (F := F) o c else iprop(emp)

theorem luggage_split (p : Fin 2 × Fin 2) (o c : Fin 16) :
    luggage (F := F) p o (dist p.1 o c).val ⊢ iprop(ownRows (F := F) p o c ∗ luggage (F := F) p o ((dist p.1 o c).val + 1)) := by
  unfold luggage ownRows
  by_cases h : p = (0, 0)
  · subst h
    rw [if_pos rfl, if_pos rfl, if_pos rfl]
    exact rowsFrom_split o c
  · rw [if_neg h, if_neg h, if_neg h]
    iintro -
    isplitl [] <;> iempintro

/-! ## Pieces -/

/-- The cell is at the end of its rounds. -/
def fin (c : Fin 16) (k : Ck) : sProp 𝕄 := iprop(∃ R, ⌜∀ r, R ≤ r → (Rd xs ws).duties (cell c k) r = ∅⌝ ∗ at_ (F := F) c k R)

theorem fin_one (c : Fin 16) (k : Ck) : at_ (F := F) c k 1 ⊢ fin xs ws c k := by
  unfold fin
  iintro H
  iexists 1
  isplitr
  · ipureintro; exact duties_later xs ws _
  iexact H
theorem fin_zero (c : Fin 16) (k : Ck) (h : dutiesOf c k = ∅) : at_ (F := F) c k 0 ⊢ fin xs ws c k := by
  unfold fin
  iintro H
  iexists 0
  isplitr
  · ipureintro; exact duties_none xs ws c k h
  iexact H

/-- What sending a piece on needs besides the piece and its luggage. -/
def passes (c : Fin 16) (q : P3) : sProp 𝕄 := iprop(anyB (F := F) (nxt q.1 c) q ∗ tok c (cS q) 0 ∗ tok (nxt q.1 c) (cR q) 0)

/-- What hop `k` takes in for piece `p`. -/
def Todo (c k : Fin 16) (p : Fin 2 × Fin 2) : sProp 𝕄 :=
  iprop(crd c (cR (at_hop c k p)) ∗ at_ c (cR (at_hop c k p)) 0 ∗ (if k = 15 then iprop(emp) else passes (F := F) c (at_hop c k p)))

/-- What is held of a piece handled: half of it; the other half, or the right to wait for its return; and the own rows. -/
def Done (c k : Fin 16) (p : Fin 2 × Fin 2) : sProp 𝕄 :=
  iprop(PB c (at_hop c k p) fullShare.right (gB xs)
    ∗ (if k = 15 then PB c (at_hop c k p) fullShare.left (gB xs) else crd (F := F) c (cS (at_hop c k p)))
    ∗ fin xs ws c (cR (at_hop c k p)) ∗ ownRows (F := F) p (org p.1 c k) c)

theorem org_ne_nxt : ∀ (r : Fin 2) (c k : Fin 16), k ≠ 15 → org r c k ≠ nxt r c := by decide +kernel
theorem org_ne_self : ∀ (r : Fin 2) (c k : Fin 16), k ≠ 0 → org r c k ≠ c := by decide +kernel
theorem dist_org_nxt : ∀ (r : Fin 2) (c k : Fin 16), k ≠ 15 → (dist r (org r c k) (nxt r c)).val = k.val + 1 := by decide +kernel
theorem org_last : ∀ (r : Fin 2) (c : Fin 16), org r c 15 = nxt r c := by decide +kernel

/-- Piece `p` of the chunk `k` back, sent on. -/
theorem pass_step {c k : Fin 16} (hk : k ≠ 15) {p : Fin 2 × Fin 2} {l : List Debt} {P : PG F} {Q : PUnit → sProp 𝕄} :
    iprop(records xs ws K ∗ PB c (at_hop c k p) fullShare (gB xs) ∗ luggage (F := F) p (org p.1 c k) (k.val + 1) ∗ passes c (at_hop c k p)
        ∗ owed c (sendDebt c k p :: l))
      ⊢ iprop(((PB c (at_hop c k p) fullShare.right (gB xs) ∗ crd c (cS (at_hop c k p)) ∗ owed c l) -∗ WP c P Q)
          -∗ WP c (opSend p.1 (org p.1 c k) p.2 (nxt p.1 c) P) Q) := by
  unfold passes
  iintro ⟨#HR, HB, Hl, ⟨Hd, Ht, Htn⟩, HO⟩ Hk
  iapply (send_step xs ws K (c := c) (p := at_hop c k p) (org_ne_nxt p.1 c k hk)) $$ [HB Hl Hd Ht Htn HO]
  · isplitr; · iexact HR
    isplitl [HB]; · iexact HB
    isplitl [Hd]; · iexact Hd
    isplitl [Hl]
    · rw [dist_org_nxt p.1 c k hk]; iexact Hl
    isplitl [HO]; · iexact HO
    isplitl [Ht]; · iexact Ht
    iexact Htn
  iexact Hk

/-- Nothing owed while hop `k` is under way lies below level `k + 2`. -/
theorem rest_level {c k : Fin 16} {ps : List (Fin 2 × Fin 2)} {ks : List (Fin 16)} (hks : ∀ k' ∈ ks, k.val < k'.val) {d : Debt}
    (hd : d ∈ hopDebts c k ps ++ (hopsDebts c ks ++ amaxDebts c steps)) : k.val + 1 < level d.1 d.2 := by
  rcases List.mem_append.mp hd with h | h
  · rw [hopDebts_level h]; omega
  rcases List.mem_append.mp h with h | h
  · obtain ⟨k', hk', h⟩ := List.mem_flatMap.mp h
    rw [hopDebts_level h]
    have := hks k' hk'
    omega
  · rw [amaxDebts_level h]
    have := k.isLt
    omega

/-- Piece `p` of the chunk `k` back, received. -/
theorem recv_step {c k : Fin 16} (hk : k ≠ 0) {p : Fin 2 × Fin 2} {l : List Debt} (hl : ∀ d ∈ l, k.val + 1 < level d.1 d.2)
    {P : PG F} {Q : PUnit → sProp 𝕄} :
    iprop(records xs ws K ∗ owed (F := F) c l ∗ crd c (cR (at_hop c k p)) ∗ at_ c (cR (at_hop c k p)) 0)
      ⊢ iprop(((owed c l ∗ fin xs ws c (cR (at_hop c k p)) ∗ PB c (at_hop c k p) fullShare (gB xs)
            ∗ ownRows (F := F) p (org p.1 c k) c ∗ luggage (F := F) p (org p.1 c k) (k.val + 1)) -∗ WP c P Q)
          -∗ WP c (opWait (rcvS p.1 (org p.1 c k) p.2) p.1 (org p.1 c k) p.2 P) Q) := by
  iintro ⟨#HR, HO, Hc, Ha⟩ Hk
  unfold opWait
  iapply (wait_step xs ws K (c := c) (k := cR (at_hop c k p)) (l := l)
    (fun d hd => by
      show 1 + (dist p.1 (org p.1 c k) c).val < _
      rw [dist_org]
      have := hl d hd
      omega)
    (by show (if org p.1 c k = c then (∅ : Finset (Fin 4)) else {0}) = {0}
        rw [if_neg (org_ne_self p.1 c k hk)])
    (s := rcvS p.1 (org p.1 c k) p.2) rfl (src := piece (org p.1 c k) p.1 p.2) (dst := piece (org p.1 c k) p.1 p.2) rfl) $$ [HO Hc Ha]
  · isplitr; · iexact HR
    isplitl [Hc]; · iexact Hc
    isplitl [HO]; · iexact HO
    iexact Ha
  rw [show payOf xs ws c (cR (at_hop c k p)) 0
    = iprop(PB c (at_hop c k p) fullShare (gB xs) ∗ luggage (F := F) p (org p.1 c k) (dist p.1 (org p.1 c k) c).val) from rfl]
  iintro ⟨HO, Ha, HB, Hl⟩
  ihave Hl := (luggage_split p (org p.1 c k) c) $$ Hl
  icases Hl with ⟨Hrow, Hl⟩
  rw [dist_org]
  iapply Hk
  isplitl [HO]; · iexact HO
  isplitl [Ha]; · iapply (fin_one xs ws c (cR (at_hop c k p))); iexact Ha
  isplitl [HB]; · iexact HB
  isplitl [Hrow]; · iexact Hrow
  iexact Hl

theorem PB_halves (c : Fin 16) (q : P3) (f) :
    PB (F := F) c q fullShare f ⊣⊢ iprop(PB c q fullShare.left f ∗ PB c q fullShare.right f) := by
  unfold PB; exact pointsTo_share (PosShare.mem_left_op_right _)

/-- One piece in a hop. -/
theorem piece_step {c k : Fin 16} (hk : k ≠ 0) {ks : List (Fin 16)} (hks : ∀ k' ∈ ks, k.val < k'.val) (p : Fin 2 × Fin 2)
    (ps : List (Fin 2 × Fin 2)) (P : PG F) (Q : PUnit → sProp 𝕄) :
    iprop(records xs ws K ∗ owed (F := F) c (hopDebts c k (p :: ps) ++ (hopsDebts c ks ++ amaxDebts c steps)) ∗ Todo c k p)
      ⊢ iprop(((owed c (hopDebts c k ps ++ (hopsDebts c ks ++ amaxDebts c steps)) ∗ Done xs ws c k p) -∗ WP c P Q)
          -∗ WP c (run c (.recv p.1 (org p.1 c k) p.2 :: (if k = 15 then [] else [.send p.1 (org p.1 c k) p.2 (nxt p.1 c)])) P) Q) := by
  have hl : ∀ d ∈ hopDebts c k (p :: ps) ++ (hopsDebts c ks ++ amaxDebts c steps), k.val + 1 < level d.1 d.2 := fun d hd => rest_level hks hd
  unfold Todo Done
  by_cases h15 : k = 15
  · have e1 : hopDebts c k (p :: ps) = [] := by unfold hopDebts; rw [if_pos h15]
    have e2 : hopDebts c k ps = [] := by unfold hopDebts; rw [if_pos h15]
    rw [e1, List.nil_append] at hl ⊢
    rw [e2, List.nil_append, if_pos h15, if_pos h15, if_pos h15]
    rw [show run c [.recv p.1 (org p.1 c k) p.2] P = opWait (rcvS p.1 (org p.1 c k) p.2) p.1 (org p.1 c k) p.2 P from rfl]
    iintro ⟨#HR, HO, Hc, Ha, -⟩ Hk
    iapply (recv_step xs ws K hk (p := p) hl) $$ [HO Hc Ha]
    · isplitr; · iexact HR
      isplitl [HO]; · iexact HO
      isplitl [Hc]; · iexact Hc
      iexact Ha
    iintro ⟨HO, Ha, HB, Hrow, -⟩
    ihave HB := (PB_halves c (at_hop c k p) (gB xs)).1 $$ HB
    icases HB with ⟨HBl, HBr⟩
    iapply Hk
    isplitl [HO]; · iexact HO
    isplitl [HBr]; · iexact HBr
    isplitl [HBl]; · iexact HBl
    isplitl [Ha]; · iexact Ha
    iexact Hrow
  · have e1 : hopDebts c k (p :: ps) = sendDebt c k p :: hopDebts c k ps := by unfold hopDebts; rw [if_neg h15, if_neg h15]; rfl
    rw [e1, List.cons_append] at hl ⊢
    rw [if_neg h15, if_neg h15, if_neg h15]
    rw [show run c [.recv p.1 (org p.1 c k) p.2, .send p.1 (org p.1 c k) p.2 (nxt p.1 c)] P
      = opWait (rcvS p.1 (org p.1 c k) p.2) p.1 (org p.1 c k) p.2 (opSend p.1 (org p.1 c k) p.2 (nxt p.1 c) P) from rfl]
    iintro ⟨#HR, HO, Hc, Ha, Hp⟩ Hk
    iapply (recv_step xs ws K hk (p := p) hl) $$ [HO Hc Ha]
    · isplitr; · iexact HR
      isplitl [HO]; · iexact HO
      isplitl [Hc]; · iexact Hc
      iexact Ha
    iintro ⟨HO, Ha, HB, Hrow, Hl⟩
    iapply (pass_step xs ws K h15 (p := p)) $$ [HO HB Hl Hp]
    · isplitr; · iexact HR
      isplitl [HB]; · iexact HB
      isplitl [Hl]; · iexact Hl
      isplitl [Hp]; · iexact Hp
      iexact HO
    iintro ⟨HB, Hc, HO⟩
    iapply Hk
    isplitl [HO]; · iexact HO
    isplitl [HB]; · iexact HB
    isplitl [Hc]; · iexact Hc
    isplitl [Ha]; · iexact Ha
    iexact Hrow

/-! ## The hop -/

/-- The parts of a hop's pieces the products read, and the rest. -/
theorem done_open (c k : Fin 16) : each pieces (Done xs ws c k) ⊢ iprop(
    (PB c (0, org 0 c k, 0) fullShare.right (gB xs) ∗ PB c (0, org 0 c k, 1) fullShare.right (gB xs))
    ∗ (PB c (1, org 1 c k, 0) fullShare.right (gB xs) ∗ PB c (1, org 1 c k, 1) fullShare.right (gB xs))
    ∗ (((PB c (0, org 0 c k, 0) fullShare.right (gB xs) ∗ PB c (0, org 0 c k, 1) fullShare.right (gB xs))
      ∗ (PB c (1, org 1 c k, 0) fullShare.right (gB xs) ∗ PB c (1, org 1 c k, 1) fullShare.right (gB xs))) -∗ each pieces (Done xs ws c k))) := by
  simp only [each_cons, each_nil]
  unfold Done
  iintro ⟨⟨A1, A2⟩, ⟨B1, B2⟩, ⟨C1, C2⟩, ⟨D1, D2⟩, -⟩
  isplitl [A1 C1]
  · isplitl [A1]; · iexact A1
    iexact C1
  isplitl [B1 D1]
  · isplitl [B1]; · iexact B1
    iexact D1
  iintro ⟨⟨A1, C1⟩, B1, D1⟩
  isplitl [A1 A2]
  · isplitl [A1]; · iexact A1
    iexact A2
  isplitl [B1 B2]
  · isplitl [B1]; · iexact B1
    iexact B2
  isplitl [C1 C2]
  · isplitl [C1]; · iexact C1
    iexact C2
  isplitl [D1 D2]
  · isplitl [D1]; · iexact D1
    iexact D2
  iempintro

/-- What is held between the hops, `ks` still to come. -/
def Between (c : Fin 16) (ks : List (Fin 16)) : sProp 𝕄 :=
  iprop(owed (F := F) c (hopsDebts c ks ++ amaxDebts c steps) ∗ buf c cc0_scratch1 fullShare (gW ws c)
    ∗ prodY xs ws c (fun x => dist x.1 x.2 c ∉ ks))

theorem hop_step {c k : Fin 16} {ks : List (Fin 16)} (hks : (0 :: k :: ks).Pairwise (· < ·)) (P : PG F) (Q : PUnit → sProp 𝕄) :
    iprop(records xs ws K ∗ Between xs ws c (k :: ks) ∗ each pieces (Todo (F := F) c k))
      ⊢ iprop(((Between xs ws c ks ∗ each pieces (Done xs ws c k)) -∗ WP c P Q) -∗ WP c (run c (hop c k) P) Q) := by
  have h0 : (0 : Fin 16) < k := (List.pairwise_cons.mp hks).1 k List.mem_cons_self
  have hk : k ≠ 0 := fun h => absurd h0 (by rw [h]; decide)
  have hlt : ∀ k' ∈ ks, k.val < k'.val := (List.pairwise_cons.mp (List.pairwise_cons.mp hks).2).1
  unfold Between
  rw [show hopsDebts c (k :: ks) ++ amaxDebts c steps = hopDebts c k pieces ++ (hopsDebts c ks ++ amaxDebts c steps) from
    List.append_assoc _ _ _]
  iintro ⟨#HR, ⟨HO, Hw, Hy⟩, Ht⟩ Hk
  unfold hop
  rw [run_append, show run c [.gemm 0 (org 0 c k), .gemm 1 (org 1 c k)] P = opGemm 0 (org 0 c k) (opGemm 1 (org 1 c k) P) from rfl]
  iapply (loop (c := c) _ (fun _ => True) (fun _ _ _ => trivial) (records xs ws K)
    (fun ps => owed (F := F) c (hopDebts c k ps ++ (hopsDebts c ks ++ amaxDebts c steps))) (Todo (F := F) c k) (Done xs ws c k)
    (fun p ps _ P Q => piece_step xs ws K hk hlt p ps P Q) pieces trivial _ Q) $$ [HO Ht]
  · isplitr; · iexact HR
    isplitl [HO]; · iexact HO
    iexact Ht
  rw [show hopDebts c k [] = [] from by unfold hopDebts; split <;> rfl, List.nil_append]
  iintro ⟨HO, Hd⟩
  ihave Hd := (done_open xs ws c k) $$ Hd
  icases Hd with ⟨H0, H1, Hd⟩
  iapply (gemm_step xs ws (org_ne_self 0 c k hk) (r := 0) (R := fun x => dist x.1 x.2 c ∉ k :: ks)
    (R' := fun x => x = (0, org 0 c k) ∨ dist x.1 x.2 c ∉ k :: ks) (fun x h => h)) $$ [H0 Hw Hy]
  · isplitl [H0]; · iexact H0
    isplitl [Hw]; · iexact Hw
    iexact Hy
  iintro ⟨H0, Hw, Hy⟩
  iapply (gemm_step xs ws (org_ne_self 1 c k hk) (r := 1) (R := fun x => x = (0, org 0 c k) ∨ dist x.1 x.2 c ∉ k :: ks)
    (R' := fun x => dist x.1 x.2 c ∉ ks) (fun x h => by
      by_cases e : dist x.1 x.2 c = k
      · have e' : x.2 = org x.1 c k := by rw [← e, org_dist]
        obtain ⟨r, o⟩ := x
        dsimp only at e'
        subst e'
        rcases (by decide : ∀ r : Fin 2, r = 0 ∨ r = 1) r with rfl | rfl
        · exact .inr (.inl rfl)
        · exact .inl rfl
      · exact .inr (.inr fun hm => (List.mem_cons.mp hm).elim e h))) $$ [H1 Hw Hy]
  · isplitl [H1]; · iexact H1
    isplitl [Hw]; · iexact Hw
    iexact Hy
  iintro ⟨H1, Hw, Hy⟩
  iapply Hk
  isplitl [HO Hw Hy]
  · isplitl [HO]; · iexact HO
    isplitl [Hw]; · iexact Hw
    iexact Hy
  iapply Hd
  isplitl [H0]; · iexact H0
  iexact H1

/-- All hops. -/
theorem hops_run (c : Fin 16) (P : PG F) (Q : PUnit → sProp 𝕄) :
    iprop(records xs ws K ∗ Between xs ws c steps ∗ each steps fun k => each pieces (Todo (F := F) c k))
      ⊢ iprop(((Between xs ws c [] ∗ each steps fun k => each pieces (Done xs ws c k)) -∗ WP c P Q) -∗ WP c (run c (steps.flatMap (hop c)) P) Q) :=
  loop (c := c) (hop c) (fun ks => (0 :: ks).Pairwise (· < ·))
    (fun a l h => List.pairwise_cons.mpr
      ⟨fun b hb => (List.pairwise_cons.mp h).1 b (List.mem_cons_of_mem a hb), (List.pairwise_cons.mp (List.pairwise_cons.mp h).2).2⟩)
    (records xs ws K) (Between xs ws c) (fun k => each pieces (Todo (F := F) c k)) (fun k => each pieces (Done xs ws c k))
    (fun k ks h P Q => hop_step xs ws K h P Q) steps (by decide) P Q

end Cert.K
-- ==== Proof.K.Start.lean ====
/-
# The handshake and the first sends

The own chunk is stored and the gather buffer cut into its pieces: the own ones stay, all others go to the neighbours
that will write them. After the barrier the own chunk leaves both ways, and its product is taken.
-/
module

public import proofs.«01_k».proof.Proof.K.Hop

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Fin 16 → (cc0_stg0_0 : Ref sig .tc).ty.Contents (Elt F)) (ws : Fin 16 → (cc0_stg1_0 : Ref sig .tc).ty.Contents (Elt F))
variable (K : Fin 16 × Ck → ℕ)

theorem all_mono {I : Type} [Fintype I] {Φ Ψ : I → sProp 𝕄} (h : ∀ i, Φ i ⊢ Ψ i) : bigSep Finset.univ Φ ⊢ bigSep Finset.univ Ψ :=
  bigSep_mono fun i _ => h i

/-! ## The gather buffer, cut -/

/-- The pieces of all chunks but `d r`'s, on devices `d r`, are the landing places of the two rings. -/
theorem land_all (d : Fin 2 → Fin 16) :
    (bigSep Finset.univ fun q : P3 => if q.2.1 = d q.1 then iprop(emp) else anyB (F := F) (d q.1) q)
      = iprop(landing (F := F) 0 (d 0) ∗ landing (F := F) 1 (d 1)) := by
  rw [bigSep_univ_prod]
  have e : ∀ r : Fin 2, (bigSep Finset.univ fun b : Fin 16 × Fin 2 => if (r, b).2.1 = d (r, b).1 then iprop(emp) else anyB (F := F) (d (r, b).1) (r, b))
      = landing (F := F) r (d r) := fun r => by
    rw [bigSep_univ_prod]
    unfold landing
    refine bigSep_congr fun o _ => ?_
    by_cases h : o = d r
    · rw [if_pos h]
      exact (bigSep_congr fun si _ => if_pos h).trans (bigSep_emp_const _)
    · rw [if_neg h]
      exact bigSep_congr fun si _ => if_neg h
  rw [bigSep_congr fun r _ => e r, bigSep_univ_two]

/-- The whole gather buffer is its pieces. -/
theorem pieces_all (c : Fin 16) (q : PosShare TreeShare) (f : (cc0_scratch0 : Ref sig .tc).ty.Contents (Elt F)) :
    buf (F := F) c cc0_scratch0 q f = bigSep Finset.univ fun p : P3 => PB c p q f := by
  refine Eq.trans ?_ (bigSep_congr fun p _ => (PB_eq c p q f).symm)
  refine Eq.trans ?_ (pointsTo_biUnion (ℓ := ((c : Dev nD) : Thread nD τ).loc cc0_scratch0) Finset.univ pSet fun p _ p' _ h => pSet_disjoint p p' h)
  rw [pSet_cover]

/-- The whole exchange buffer is its devices' rows. -/
theorem rows_all (c : Fin 16) (q : PosShare TreeShare) (f : (cc0_scratch2 : Ref sig .tc).ty.Contents (Elt F)) :
    buf (F := F) c cc0_scratch2 q f = bigSep Finset.univ fun o : Fin 16 => PA c o q f := by
  refine Eq.trans ?_ (bigSep_congr fun o _ => (PA_eq c o q f).symm)
  refine Eq.trans ?_ (pointsTo_biUnion (ℓ := ((c : Dev nD) : Thread nD τ).loc cc0_scratch2) Finset.univ (fun o => (amR o).set)
    fun o _ o' _ h => amSet_disjoint o o' h)
  rw [amSet_cover]

/-- Once the own chunk is stored: the own pieces, and the landing places of both rings. -/
theorem gather_cut (c : Fin 16) (f : (cc0_scratch0 : Ref sig .tc).ty.Contents (Elt F)) (hf : ∀ i ∈ (ownR c).set, f i = gB xs i) :
    buf c cc0_scratch0 fullShare f ⊢ iprop((bigSep Finset.univ fun q : P3 => if q.2.1 = c then PB c q fullShare (gB xs) else iprop(emp))
      ∗ landing (F := F) 0 c ∗ landing (F := F) 1 c) := by
  rw [pieces_all, ← land_all (fun _ => c), ← bigSep_sep']
  refine all_mono fun q => ?_
  by_cases h : q.2.1 = c
  · rw [if_pos h, if_pos h, PB_congr c q fullShare f (gB xs) fun i hi => hf i (mem_ownSet.mpr (by
      rw [mem_pSet] at hi
      dsimp only [row] at hi
      rw [h] at hi
      have := q.1.isLt
      have := q.2.2.isLt
      omega))]
    iintro H
    isplitl [H]; · iexact H
    iempintro
  · rw [if_neg h, if_neg h]
    unfold anyB
    iintro H
    isplitr; · iempintro
    iexists f
    iexact H

/-- The whole exchange buffer, given away by the rows from the own on. -/
theorem rows_cut (c : Fin 16) : iprop(∃ f, buf (F := F) c cc0_scratch2 fullShare f) ⊢ rowsFrom (F := F) c 0 := by
  iintro ⟨%f, H⟩
  iapply (show buf (F := F) c cc0_scratch2 fullShare f ⊢ rowsFrom (F := F) c 0 by
    rw [rows_all]
    unfold rowsFrom
    refine all_mono fun d => ?_
    rw [if_pos (Nat.zero_le _)]
    unfold anyA
    iintro H
    iexists f
    iexact H)
  iexact H

/-! ## What is known of each piece at the outset -/

/-- For piece `q`: the right to wait for its arrival, its receive cell, and the rights to pay for its passing on. -/
def Ghost (c : Fin 16) (q : P3) : sProp 𝕄 :=
  iprop((if q.2.1 = c then iprop(emp) else crd (F := F) c (cR q)) ∗ at_ (F := F) c (cR q) 0 ∗ tok (F := F) c (cS q) 0 ∗ tok (F := F) (nxt q.1 c) (cR q) 0)

/-- Hop 0 takes in the own piece. -/
def Todo0 (c : Fin 16) (p : Fin 2 × Fin 2) : sProp 𝕄 :=
  iprop(PB c (at_hop c 0 p) fullShare (gB xs) ∗ luggage (F := F) p (org p.1 c 0) 0 ∗ at_ c (cR (at_hop c 0 p)) 0 ∗ passes c (at_hop c 0 p))

/-- Everything about piece `q` after the barrier. -/
def After (c : Fin 16) (q : P3) : sProp 𝕄 :=
  iprop(Ghost (F := F) c q ∗ (if q.2.1 = nxt q.1 c then iprop(emp) else anyB (F := F) (nxt q.1 c) q)
    ∗ (if q.2.1 = c then PB c q fullShare (gB xs) else iprop(emp)))

theorem after_own (c : Fin 16) (p : Fin 2 × Fin 2) :
    iprop(luggage (F := F) p (org p.1 c 0) 0 ∗ After xs c (at_hop c 0 p)) ⊢ Todo0 xs c p := by
  unfold After Todo0 Ghost passes
  rw [if_pos (org_zero p.1 c), if_pos (org_zero p.1 c), if_neg (org_ne_nxt p.1 c 0 (by decide))]
  iintro ⟨Hl, ⟨-, Ha, H1, H2⟩, H3, HB⟩
  isplitl [HB]; · iexact HB
  isplitl [Hl]; · iexact Hl
  isplitl [Ha]; · iexact Ha
  isplitl [H3]; · iexact H3
  isplitl [H1]; · iexact H1
  iexact H2

theorem after_hop (c k : Fin 16) (hk : k ≠ 0) (p : Fin 2 × Fin 2) : After xs c (at_hop c k p) ⊢ Todo (F := F) c k p := by
  unfold After Todo Ghost passes
  rw [if_neg (org_ne_self p.1 c k hk)]
  by_cases h : k = 15
  · rw [if_pos h]
    iintro ⟨⟨Hc, Ha, -, -⟩, -⟩
    isplitl [Hc]; · iexact Hc
    isplitl [Ha]; · iexact Ha
    iempintro
  · rw [if_neg h, if_neg (org_ne_nxt p.1 c k h)]
    iintro ⟨⟨Hc, Ha, H1, H2⟩, H3, -⟩
    isplitl [Hc]; · iexact Hc
    isplitl [Ha]; · iexact Ha
    isplitl [H3]; · iexact H3
    isplitl [H1]; · iexact H1
    iexact H2

/-- All pieces, in the order of the hops. -/
theorem after_all (c : Fin 16) :
    iprop(rowsFrom (F := F) c 0 ∗ bigSep Finset.univ (After xs c))
      ⊢ iprop(each pieces (Todo0 xs c) ∗ each steps fun k => each pieces (Todo (F := F) c k)) := by
  rw [by_hops c, each_cons]
  iintro ⟨Hr, H0, Hs⟩
  isplitl [Hr H0]
  · iapply (show iprop(rowsFrom (F := F) c 0 ∗ each pieces fun p => After xs c (at_hop c 0 p)) ⊢ each pieces (Todo0 xs c) from by
      have hl : rowsFrom (F := F) c 0 ⊢ each pieces fun p => luggage (F := F) p (org p.1 c 0) 0 := by
        simp only [each_cons, each_nil, org_zero]
        unfold luggage
        rw [if_pos rfl, if_neg (by decide), if_neg (by decide), if_neg (by decide)]
        iintro H
        isplitl [H]; · iexact H
        isplitr; · iempintro
        isplitr; · iempintro
        isplitr; · iempintro
        iempintro
      iintro ⟨Hr, H0⟩
      ihave Hl := hl $$ Hr
      iapply (each_mono fun p _ => after_own xs c p)
      iapply (each_sep pieces _ _).2
      isplitl [Hl]; · iexact Hl
      iexact H0)
    isplitl [Hr]; · iexact Hr
    iexact H0
  · iapply (each_mono (l := steps) fun k hk => each_mono fun p _ => after_hop xs c k (by rintro rfl; revert hk; decide) p)
    iexact Hs

/-- One of the own pieces, sent. -/
theorem first_step {c : Fin 16} {l : List Debt} (p : Fin 2 × Fin 2) (ps : List (Fin 2 × Fin 2)) (P : PG F) (Q : PUnit → sProp 𝕄) :
    iprop(records xs ws K ∗ owed (F := F) c (hopDebts c 0 (p :: ps) ++ l) ∗ Todo0 xs c p)
      ⊢ iprop(((owed c (hopDebts c 0 ps ++ l) ∗ Done xs ws c 0 p) -∗ WP c P Q)
          -∗ WP c (run c [.send p.1 (org p.1 c 0) p.2 (nxt p.1 c)] P) Q) := by
  have h15 : (0 : Fin 16) ≠ 15 := by decide
  have hd : (dist p.1 (org p.1 c 0) c).val = 0 := by rw [dist_org]; rfl
  have e1 : hopDebts c 0 (p :: ps) = sendDebt c 0 p :: hopDebts c 0 ps := by unfold hopDebts; rw [if_neg h15, if_neg h15]; rfl
  have hsplit := luggage_split (F := F) p (org p.1 c 0) c
  rw [hd] at hsplit
  rw [e1, List.cons_append]
  rw [show run c [.send p.1 (org p.1 c 0) p.2 (nxt p.1 c)] P = opSend p.1 (org p.1 c 0) p.2 (nxt p.1 c) P from rfl]
  unfold Todo0 Done
  rw [if_neg h15]
  iintro ⟨#HR, HO, HB, Hl, Ha, Hp⟩ Hk
  ihave Hl := hsplit $$ Hl
  icases Hl with ⟨Hrow, Hl⟩
  iapply (pass_step xs ws K h15 (p := p)) $$ [HO HB Hl Hp]
  · isplitr; · iexact HR
    isplitl [HB]; · iexact HB
    isplitl [Hl]; · iexact Hl
    isplitl [Hp]; · iexact Hp
    iexact HO
  iintro ⟨HB, Hc, HO⟩
  iapply Hk
  isplitl [HO]; · iexact HO
  isplitl [HB]; · iexact HB
  isplitl [Hc]; · iexact Hc
  isplitl [Ha]
  · iapply (fin_zero xs ws c (cR (at_hop c 0 p)) (by
      show (if org p.1 c 0 = c then (∅ : Finset (Fin 4)) else {0}) = ∅
      rw [if_pos (org_zero p.1 c)]))
    iexact Ha
  iexact Hrow

/-- The rights to pay the four neighbours' barrier cells. -/
def barToks (c : Fin 16) : sProp 𝕄 :=
  iprop(tok (F := F) (prv 0 c) cB 0 ∗ tok (F := F) (nxt 0 c) cB 1 ∗ tok (F := F) (prv 1 c) cB 2 ∗ tok (F := F) (nxt 1 c) cB 3)

/-- The handshake: the four signals and the wait. -/
theorem handshake {c : Fin 16} {l : List Debt} (hl : ∀ d ∈ l, 1 < level d.1 d.2) (P : PG F) (Q : PUnit → sProp 𝕄) :
    iprop(records xs ws K ∗ owed (F := F) c (barDebts c ++ l) ∗ barToks c ∗ (landing (F := F) 0 c ∗ landing (F := F) 1 c)
        ∗ cred (tallyAt (cell c cB) () 4) ∗ at_ c cB 0)
      ⊢ iprop(((owed c l ∗ fin xs ws c cB ∗ landing (F := F) 0 (nxt 0 c) ∗ landing (F := F) 1 (nxt 1 c)) -∗ WP c P Q)
          -∗ WP c (run c [.signal (prv 0 c), .signal (nxt 0 c), .signal (prv 1 c), .signal (nxt 1 c), .barWait] P) Q) := by
  rw [show run c [.signal (prv 0 c), .signal (nxt 0 c), .signal (prv 1 c), .signal (nxt 1 c), .barWait] P
      = opSignal (prv 0 c) (opSignal (nxt 0 c) (opSignal (prv 1 c) (opSignal (nxt 1 c) (opBarWait P)))) from rfl,
    show barDebts c ++ l = (prv 0 c, cB) :: (nxt 0 c, cB) :: (prv 1 c, cB) :: (nxt 1 c, cB) :: l from rfl]
  have p0 : landing (F := F) 0 c ⊢ payOf xs ws (prv 0 c) cB 0 := by
    show _ ⊢ landing (F := F) 0 (nxt 0 (prv 0 c)); rw [nxt_prv]
  have p2 : landing (F := F) 1 c ⊢ payOf xs ws (prv 1 c) cB 2 := by
    show _ ⊢ landing (F := F) 1 (nxt 1 (prv 1 c)); rw [nxt_prv]
  have p1 : (iprop(emp) : sProp 𝕄) ⊢ payOf xs ws (nxt 0 c) cB 1 := BI.Entails.refl _
  have p3 : (iprop(emp) : sProp 𝕄) ⊢ payOf xs ws (nxt 1 c) cB 3 := BI.Entails.refl _
  unfold barToks
  iintro ⟨#HR, HO, ⟨T0, T1, T2, T3⟩, ⟨L0, L1⟩, Hc, Ha⟩ Hk
  iapply (signal_step xs ws K (c := c) (n := prv 0 c) (d := 0)) $$ [HO T0 L0]
  · isplitr; · iexact HR
    isplitl [HO]; · iexact HO
    isplitl [T0]; · iexact T0
    iapply p0; iexact L0
  iintro HO
  iapply (signal_step xs ws K (c := c) (n := nxt 0 c) (d := 1)) $$ [HO T1]
  · isplitr; · iexact HR
    isplitl [HO]; · iexact HO
    isplitl [T1]; · iexact T1
    iapply p1; iempintro
  iintro HO
  iapply (signal_step xs ws K (c := c) (n := prv 1 c) (d := 2)) $$ [HO T2 L1]
  · isplitr; · iexact HR
    isplitl [HO]; · iexact HO
    isplitl [T2]; · iexact T2
    iapply p2; iexact L1
  iintro HO
  iapply (signal_step xs ws K (c := c) (n := nxt 1 c) (d := 3)) $$ [HO T3]
  · isplitr; · iexact HR
    isplitl [HO]; · iexact HO
    isplitl [T3]; · iexact T3
    iapply p3; iempintro
  iintro HO
  iapply (barWait_step xs ws K hl) $$ [HO Hc Ha]
  · isplitr; · iexact HR
    isplitl [Hc]; · iexact Hc
    isplitl [HO]; · iexact HO
    iexact Ha
  iintro ⟨HO, Ha, L0, L1⟩
  iapply Hk
  isplitl [HO]; · iexact HO
  isplitl [Ha]; · iapply (fin_one xs ws c cB); iexact Ha
  isplitl [L0]; · iexact L0
  iexact L1

theorem notin_steps : ∀ k : Fin 16, k ∉ steps → k = 0 := by decide

theorem start_eq (c : Fin 16) : start c = .own :: ([.signal (prv 0 c), .signal (nxt 0 c), .signal (prv 1 c), .signal (nxt 1 c), .barWait]
    ++ (pieces.flatMap (fun p => [.send p.1 (org p.1 c 0) p.2 (nxt p.1 c)]) ++ [.weights, .gemmOwn])) := by
  unfold start
  simp [org_zero]

/-- What a device has as it sets out. -/
def Outset (c : Fin 16) : sProp 𝕄 :=
  iprop(owed (F := F) c (debts c) ∗ barToks (F := F) c ∗ cred (tallyAt (cell c cB) () 4) ∗ at_ (F := F) c cB 0 ∗ bigSep Finset.univ (Ghost (F := F) c))

theorem start_run (c : Fin 16) (qx qw : PosShare TreeShare) (P : PG F) (Q : PUnit → sProp 𝕄) :
    iprop(records xs ws K ∗ Outset (F := F) c ∗ buf c cc0_stg0_0 qx (xs c) ∗ buf c cc0_stg1_0 qw (ws c)
        ∗ (∃ f, buf (F := F) c cc0_scratch0 fullShare f) ∗ (∃ f, buf (F := F) c cc0_scratch1 fullShare f)
        ∗ (∃ f, buf (F := F) c cc0_scratch2 fullShare f) ∗ (∃ f, buf (F := F) c cc0_stg2_0 fullShare f))
      ⊢ iprop(((Between xs ws c steps ∗ fin xs ws c cB ∗ buf c cc0_stg0_0 qx (xs c) ∗ buf c cc0_stg1_0 qw (ws c)
            ∗ each pieces (Done xs ws c 0) ∗ each steps fun k => each pieces (Todo (F := F) c k)) -∗ WP c P Q)
          -∗ WP c (run c (start c) P) Q) := by
  have hl : ∀ d ∈ hopDebts c 0 pieces ++ (hopsDebts c steps ++ amaxDebts c steps), 1 < level d.1 d.2 := fun d hd =>
    rest_level (k := 0) (ks := steps) (by decide) hd
  have hopen := done_open xs ws c 0
  rw [org_zero, org_zero] at hopen
  rw [start_eq, show ∀ l, run c (.own :: l) P = opOwn c (run c l P) from fun _ => rfl, run_append, run_append,
    show run c [.weights, .gemmOwn] P = opWeights (opGemmOwn c P) from rfl]
  unfold Outset debts
  iintro ⟨#HR, ⟨HO, HT, Hc, Ha, HG⟩, Hx, Hw, Hb, Hv, Ham, Ho⟩ Hk
  iapply (own_step xs) $$ [Hx Hb]
  · isplitl [Hx]; · iexact Hx
    iexact Hb
  iintro ⟨Hx, %f, Hb, %hf⟩
  ihave Hb := (gather_cut xs c f hf) $$ Hb
  icases Hb with ⟨Hown, HL⟩
  iapply (handshake xs ws K hl) $$ [HO HT HL Hc Ha]
  · isplitr; · iexact HR
    isplitl [HO]; · iexact HO
    isplitl [HT]; · iexact HT
    isplitl [HL]; · iexact HL
    isplitl [Hc]; · iexact Hc
    iexact Ha
  iintro ⟨HO, Hfin, HL⟩
  ihave HL := (Entails.of_eq (land_all (F := F) (fun r => nxt r c)).symm) $$ HL
  ihave Hr := (rows_cut c) $$ Ham
  have hall : iprop(bigSep Finset.univ (Ghost (F := F) c)
      ∗ (bigSep Finset.univ fun q : P3 => if q.2.1 = nxt q.1 c then iprop(emp) else anyB (F := F) (nxt q.1 c) q)
      ∗ bigSep Finset.univ fun q : P3 => if q.2.1 = c then PB c q fullShare (gB xs) else iprop(emp)) ⊢ bigSep Finset.univ (After xs c) := by
    rw [← bigSep_sep', ← bigSep_sep']
    exact BI.Entails.refl _
  ihave HA := hall $$ [HG HL Hown]
  · isplitl [HG]; · iexact HG
    isplitl [HL]; · iexact HL
    iexact Hown
  ihave HA := (after_all xs c) $$ [Hr HA]
  · isplitl [Hr]; · iexact Hr
    iexact HA
  icases HA with ⟨H0, Hs⟩
  iapply (loop (c := c) (fun p : Fin 2 × Fin 2 => [Ins.send p.1 (org p.1 c 0) p.2 (nxt p.1 c)]) (fun _ => True) (fun _ _ _ => trivial) (records xs ws K)
    (fun ps => owed (F := F) c (hopDebts c 0 ps ++ (hopsDebts c steps ++ amaxDebts c steps))) (Todo0 xs c) (Done xs ws c 0)
    (fun p ps _ P Q => first_step xs ws K p ps P Q) pieces trivial _ Q) $$ [HO H0]
  · isplitr; · iexact HR
    isplitl [HO]; · iexact HO
    iexact H0
  rw [show hopDebts c 0 [] = [] from rfl, List.nil_append]
  iintro ⟨HO, Hd⟩
  iapply (weights_step ws) $$ [Hw Hv]
  · isplitl [Hw]; · iexact Hw
    iexact Hv
  iintro ⟨Hw, Hv⟩
  ihave Hd := hopen $$ Hd
  icases Hd with ⟨D0, D1, Hd⟩
  ihave Hb := (own_eq c c fullShare.right (gB xs)).2 $$ [D0 D1]
  · isplitl [D0]; · iexact D0
    iexact D1
  iapply (gemmOwn_step xs ws) $$ [Hb Hv Ho]
  · isplitl [Hb]; · iexact Hb
    isplitl [Hv]; · iexact Hv
    iexact Ho
  iintro ⟨Hb, Hv, Hy⟩
  ihave Hb := (own_eq c c fullShare.right (gB xs)).1 $$ Hb
  ihave Hd := Hd $$ Hb
  iapply Hk
  unfold Between
  isplitl [HO Hv Hy]
  · isplitl [HO]; · iexact HO
    isplitl [Hv]; · iexact Hv
    iapply (prodY_mono xs ws (P := fun x => x.2 = c) (P' := fun x => dist x.1 x.2 c ∉ steps)
      (fun x hx => dist_eq_zero x.1 x.2 c (notin_steps _ hx)))
    iexact Hy
  isplitl [Hfin]; · iexact Hfin
  isplitl [Hx]; · iexact Hx
  isplitl [Hw]; · iexact Hw
  isplitl [Hd]; · iexact Hd
  iexact Hs

end Cert.K
-- ==== Proof.K.Exchange.lean ====
/-
# The drain and the exchange of the maxima

The waits until every piece sent has left, then the local maximum sent to every other device, theirs received, and the
quantised result.
-/
module

public import proofs.«01_k».proof.Proof.K.Start

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Fin 16 → (cc0_stg0_0 : Ref sig .tc).ty.Contents (Elt F)) (ws : Fin 16 → (cc0_stg1_0 : Ref sig .tc).ty.Contents (Elt F))
variable (K : Fin 16 × Ck → ℕ)

/-! ## The drain -/

/-- Before the wait for piece `p` of the chunk `k` back, -/
def Sent (c k : Fin 16) (p : Fin 2 × Fin 2) : sProp 𝕄 := iprop(crd (F := F) c (cS (at_hop c k p)) ∗ at_ (F := F) c (cS (at_hop c k p)) 0)
/-- and after it. -/
def Left (c k : Fin 16) (p : Fin 2 × Fin 2) : sProp 𝕄 :=
  iprop(fin xs ws c (cS (at_hop c k p)) ∗ PB c (at_hop c k p) fullShare.left (gB xs))

theorem sent_step {c k : Fin 16} (hk : k ≠ 15) {l : List Debt} (hl : ∀ d ∈ l, 0 < level d.1 d.2) (p : Fin 2 × Fin 2) (P : PG F) (Q : PUnit → sProp 𝕄) :
    iprop(records xs ws K ∗ owed (F := F) c l ∗ Sent c k p)
      ⊢ iprop(((owed c l ∗ Left xs ws c k p) -∗ WP c P Q) -∗ WP c (run c [.sent p.1 (org p.1 c k) p.2] P) Q) := by
  rw [show run c [.sent p.1 (org p.1 c k) p.2] P = opWait (sndS p.1 (org p.1 c k) p.2) p.1 (org p.1 c k) p.2 P from rfl]
  unfold Sent Left opWait
  iintro ⟨#HR, HO, Hc, Ha⟩ Hk
  iapply (wait_step xs ws K (c := c) (k := cS (at_hop c k p)) (l := l) hl
    (by show (if org p.1 c k = nxt p.1 c then (∅ : Finset (Fin 4)) else {0}) = {0}
        rw [if_neg (org_ne_nxt p.1 c k hk)])
    (s := sndS p.1 (org p.1 c k) p.2) rfl (src := piece (org p.1 c k) p.1 p.2) (dst := piece (org p.1 c k) p.1 p.2) rfl) $$ [HO Hc Ha]
  · isplitr; · iexact HR
    isplitl [Hc]; · iexact Hc
    isplitl [HO]; · iexact HO
    iexact Ha
  rw [show payOf xs ws c (cS (at_hop c k p)) 0 = PB c (at_hop c k p) fullShare.left (gB xs) from rfl]
  iintro ⟨HO, Ha, HB⟩
  iapply Hk
  isplitl [HO]; · iexact HO
  isplitl [Ha]; · iapply (fin_one xs ws c (cS (at_hop c k p))); iexact Ha
  iexact HB

theorem asc_tail (a : Fin 16) (l : List (Fin 16)) (h : (0 :: a :: l).Pairwise (· < ·)) : (0 :: l).Pairwise (· < ·) :=
  List.pairwise_cons.mpr
    ⟨fun b hb => (List.pairwise_cons.mp h).1 b (List.mem_cons_of_mem a hb), (List.pairwise_cons.mp (List.pairwise_cons.mp h).2).2⟩
theorem asc_head (a : Fin 16) (l : List (Fin 16)) (h : (0 :: a :: l).Pairwise (· < ·)) : a ≠ 0 := fun e =>
  absurd ((List.pairwise_cons.mp h).1 a List.mem_cons_self) (by rw [e]; decide)
theorem pred_ne : ∀ k : Fin 16, k ≠ 0 → k - 1 ≠ 15 := by decide

theorem drain_run (c : Fin 16) {l : List Debt} (hl : ∀ d ∈ l, 0 < level d.1 d.2) (P : PG F) (Q : PUnit → sProp 𝕄) :
    iprop(records xs ws K ∗ owed (F := F) c l ∗ each steps fun k => each pieces (Sent (F := F) c (k - 1)))
      ⊢ iprop(((owed c l ∗ each steps fun k => each pieces (Left xs ws c (k - 1))) -∗ WP c P Q) -∗ WP c (run c (drain c) P) Q) :=
  loop (c := c) _ (fun ks => (0 :: ks).Pairwise (· < ·)) asc_tail (records xs ws K) (fun _ => owed (F := F) c l)
    (fun k => each pieces (Sent (F := F) c (k - 1))) (fun k => each pieces (Left xs ws c (k - 1)))
    (fun k ks h P Q => by
      rw [map_eq_flatMap]
      exact loop (c := c) _ (fun _ => True) (fun _ _ _ => trivial) (records xs ws K) (fun _ => owed (F := F) c l)
        (Sent (F := F) c (k - 1)) (Left xs ws c (k - 1)) (fun p ps _ P Q => sent_step xs ws K (pred_ne k (asc_head k ks h)) hl p P Q) pieces trivial P Q)
    steps (by decide) P Q

/-! ## The exchange -/

/-- What the exchange with device `t` needs. -/
def GhostA (c t : Fin 16) : sProp 𝕄 :=
  iprop((if t = c then iprop(emp) else crd (F := F) c (cV t)) ∗ at_ (F := F) c (cV t) 0 ∗ at_ (F := F) c (cT t) 0 ∗ tok (F := F) c (cT t) 0 ∗ tok (F := F) t (cV c) 0)

theorem add_ne : ∀ c j : Fin 16, j ≠ 0 → c + j ≠ c := by decide
theorem ne_add : ∀ c j : Fin 16, j ≠ 0 → ¬ c = c + j := by decide
theorem add_sub : ∀ c j : Fin 16, c + j - c = j := by decide

theorem tokOf_add (c j : Fin 16) : tokOf c (c + j) = Transfers.shareTok fullShare 16 j := congrArg (Transfers.shareTok fullShare 16) (add_sub c j)

/-- Own rows held whole: a share for every other device, and what stays. -/
theorem toks_eq (c : Fin 16) (f : (cc0_scratch2 : Ref sig .tc).ty.Contents (Elt F)) :
    PA (F := F) c c fullShare f ⊣⊢ iprop((PA c c (Transfers.shareDrop fullShare 16) f ∗ PA c c (Transfers.shareTok fullShare 16 0) f)
      ∗ each steps fun j => PA (F := F) c c (tokOf c (c + j)) f) := by
  have e : (bigSep Finset.univ fun i : Fin 16 => PA (F := F) c c (Transfers.shareTok fullShare 16 i) f)
      = iprop(PA c c (Transfers.shareTok fullShare 16 0) f ∗ each steps fun j => PA (F := F) c c (tokOf c (c + j)) f) := by
    rw [by_steps 0]
    have e0 : ∀ j : Fin 16, 0 + j = j := by decide
    simp only [e0, tokOf_add]
  have h : PA (F := F) c c fullShare f
      ⊣⊢ iprop(PA c c (Transfers.shareDrop fullShare 16) f ∗ bigSep Finset.univ fun i : Fin 16 => PA (F := F) c c (Transfers.shareTok fullShare 16 i) f) := by
    unfold PA
    exact Transfers.pointsTo_toks fullShare 16
  rw [e] at h
  exact ⟨h.1.trans sep_assoc.2, sep_assoc.1.trans h.2⟩

theorem amax_run (c : Fin 16) (P : PG F) (Q : PUnit → sProp 𝕄) :
    iprop(records xs ws K ∗ owed (F := F) c (amaxDebts c steps)
        ∗ each steps fun j => iprop(PA c c (tokOf c (c + j)) (gA xs ws) ∗ anyA (F := F) (c + j) c ∗ tok c (cT (c + j)) 0 ∗ tok (c + j) (cV c) 0))
      ⊢ iprop(((owed c [] ∗ each steps fun j => crd (F := F) c (cT (c + j))) -∗ WP c P Q)
          -∗ WP c (run c (steps.map fun j => .amaxSend (c + j)) P) Q) := by
  rw [map_eq_flatMap]
  exact loop (c := c) _ (fun ks => (0 :: ks).Pairwise (· < ·)) asc_tail (records xs ws K) (fun js => owed (F := F) c (amaxDebts c js))
    (fun j => iprop(PA c c (tokOf c (c + j)) (gA xs ws) ∗ anyA (F := F) (c + j) c ∗ tok c (cT (c + j)) 0 ∗ tok (c + j) (cV c) 0))
    (fun j => crd (F := F) c (cT (c + j)))
    (fun j js h P Q => by
      rw [show run c [.amaxSend (c + j)] P = opAmaxSend c (c + j) P from rfl,
        show amaxDebts c (j :: js) = (c + j, cV c) :: amaxDebts c js from rfl]
      iintro ⟨#HR, HO, H1, H2, H3, H4⟩ Hk
      iapply (amaxSend_step xs ws K (add_ne c j (asc_head j js h))) $$ [HO H1 H2 H3 H4]
      · isplitr; · iexact HR
        isplitl [H1]; · iexact H1
        isplitl [H2]; · iexact H2
        isplitl [HO]; · iexact HO
        isplitl [H3]; · iexact H3
        iexact H4
      iintro ⟨Hc, HO⟩
      iapply Hk
      isplitl [HO]; · iexact HO
      iexact Hc)
    steps (by decide) P Q

/-- A wait on one of the cells of the maxima, nothing owed. -/
theorem amaxWait_step {c s : Fin 16} {k : Ck} {q : DmaSem sig} (hs : csem k = .dma q) (hd : dutiesOf c k = {0}) (hN : amt k = NA)
    (P : PG F) (Q : PUnit → sProp 𝕄) :
    iprop(records xs ws K ∗ owed (F := F) c [] ∗ crd c k ∗ at_ c k 0)
      ⊢ iprop(((owed c [] ∗ fin xs ws c k ∗ payOf xs ws c k 0) -∗ WP c P Q) -∗ WP c (opAmaxWait q c s P) Q) := by
  unfold opAmaxWait
  iintro ⟨#HR, HO, Hc, Ha⟩ Hk
  iapply (wait_step xs ws K (c := c) (k := k) (l := []) (fun d hd => absurd hd List.not_mem_nil) hd (s := q) hs
    (src := amRow c) (dst := amRow s) (hN.symm ▸ rfl)) $$ [HO Hc Ha]
  · isplitr; · iexact HR
    isplitl [Hc]; · iexact Hc
    isplitl [HO]; · iexact HO
    iexact Ha
  iintro ⟨HO, Ha, HB⟩
  iapply Hk
  isplitl [HO]; · iexact HO
  isplitl [Ha]; · iapply (fin_one xs ws c k); iexact Ha
  iexact HB

theorem arecv_run (c : Fin 16) (P : PG F) (Q : PUnit → sProp 𝕄) :
    iprop(records xs ws K ∗ owed (F := F) c [] ∗ each steps fun j => iprop(crd (F := F) c (cV (c + j)) ∗ at_ (F := F) c (cV (c + j)) 0))
      ⊢ iprop(((owed c [] ∗ each steps fun j => iprop(fin xs ws c (cV (c + j)) ∗ PA c (c + j) fullShare (gA xs ws))) -∗ WP c P Q)
          -∗ WP c (run c (steps.map fun j => .amaxRecv (c + j)) P) Q) := by
  rw [map_eq_flatMap]
  exact loop (c := c) _ (fun ks => (0 :: ks).Pairwise (· < ·)) asc_tail (records xs ws K) (fun _ => owed (F := F) c [])
    (fun j => iprop(crd (F := F) c (cV (c + j)) ∗ at_ (F := F) c (cV (c + j)) 0))
    (fun j => iprop(fin xs ws c (cV (c + j)) ∗ PA c (c + j) fullShare (gA xs ws)))
    (fun j js h P Q => amaxWait_step xs ws K (k := cV (c + j)) rfl
      (by show (if c + j = c then (∅ : Finset (Fin 4)) else {0}) = {0}
          rw [if_neg (add_ne c j (asc_head j js h))]) rfl P Q)
    steps (by decide) P Q

theorem asent_run (c : Fin 16) (P : PG F) (Q : PUnit → sProp 𝕄) :
    iprop(records xs ws K ∗ owed (F := F) c [] ∗ each steps fun j => iprop(crd (F := F) c (cT (c + j)) ∗ at_ (F := F) c (cT (c + j)) 0))
      ⊢ iprop(((owed c [] ∗ each steps fun j => iprop(fin xs ws c (cT (c + j)) ∗ PA c c (tokOf c (c + j)) (gA xs ws))) -∗ WP c P Q)
          -∗ WP c (run c (steps.map fun j => .amaxSent (c + j)) P) Q) := by
  rw [map_eq_flatMap]
  exact loop (c := c) _ (fun ks => (0 :: ks).Pairwise (· < ·)) asc_tail (records xs ws K) (fun _ => owed (F := F) c [])
    (fun j => iprop(crd (F := F) c (cT (c + j)) ∗ at_ (F := F) c (cT (c + j)) 0))
    (fun j => iprop(fin xs ws c (cT (c + j)) ∗ PA c c (tokOf c (c + j)) (gA xs ws)))
    (fun j js h P Q => amaxWait_step xs ws K (k := cT (c + j)) rfl
      (by show (if c + j = c then (∅ : Finset (Fin 4)) else {0}) = {0}
          rw [if_neg (add_ne c j (asc_head j js h))]) rfl P Q)
    steps (by decide) P Q

/-- What the exchange needs, by what uses it. -/
theorem ghostA_open (c : Fin 16) : bigSep Finset.univ (GhostA (F := F) c) ⊢ iprop(
    (at_ (F := F) c (cV c) 0 ∗ at_ (F := F) c (cT c) 0)
    ∗ (each steps fun j => iprop(crd (F := F) c (cV (c + j)) ∗ at_ (F := F) c (cV (c + j)) 0))
    ∗ (each steps fun j => at_ (F := F) c (cT (c + j)) 0)
    ∗ each steps fun j => iprop(tok (F := F) c (cT (c + j)) 0 ∗ tok (F := F) (c + j) (cV c) 0)) := by
  have h : (each steps fun j => GhostA (F := F) c (c + j)) ⊢ each steps fun j => iprop((crd (F := F) c (cV (c + j)) ∗ at_ (F := F) c (cV (c + j)) 0)
      ∗ at_ (F := F) c (cT (c + j)) 0 ∗ tok (F := F) c (cT (c + j)) 0 ∗ tok (F := F) (c + j) (cV c) 0) :=
    each_mono fun j hj => by
      unfold GhostA
      rw [if_neg (add_ne c j (by rintro rfl; revert hj; decide))]
      iintro ⟨H1, H2, H3⟩
      isplitl [H1 H2]
      · isplitl [H1]; · iexact H1
        iexact H2
      iexact H3
  rw [by_steps c]
  iintro ⟨H0, Hs⟩
  isplitl [H0]
  · iapply (show GhostA (F := F) c c ⊢ iprop(at_ (F := F) c (cV c) 0 ∗ at_ (F := F) c (cT c) 0) by
      unfold GhostA
      iintro ⟨-, H1, H2, -⟩
      isplitl [H1]; · iexact H1
      iexact H2)
    iexact H0
  ihave Hs := h $$ Hs
  ihave Hs := (each_sep steps _ _).1 $$ Hs
  icases Hs with ⟨H1, Hs⟩
  ihave Hs := (each_sep steps _ _).1 $$ Hs
  icases Hs with ⟨H2, H3⟩
  isplitl [H1]; · iexact H1
  isplitl [H2]; · iexact H2
  iexact H3

/-- The exchange: the result, all rows, and the cells at their end. -/
theorem exchange_run (c : Fin 16) (P : PG F) (Q : PUnit → sProp 𝕄) :
    iprop(records xs ws K ∗ owed (F := F) c (amaxDebts c steps) ∗ buf c cc0_stg2_0 fullShare (gY xs ws c)
        ∗ anyA (F := F) c c ∗ (each steps fun j => anyA (F := F) (c + j) c) ∗ bigSep Finset.univ (GhostA (F := F) c))
      ⊢ iprop(((owed c [] ∗ buf c cc0_stg2_0 fullShare (gOut xs ws c) ∗ buf c cc0_scratch2 fullShare (gA xs ws)
            ∗ (bigSep Finset.univ fun t => fin xs ws c (cT t)) ∗ bigSep Finset.univ fun t => fin xs ws c (cV t)) -∗ WP c P Q)
          -∗ WP c (run c (exchange c) P) Q) := by
  unfold exchange
  rw [show ∀ l, run c (.amax :: l) P = opAmax c (run c l P) from fun _ => rfl, run_append, run_append, run_append,
    show run c [.finish] P = opFinish P from rfl]
  iintro ⟨#HR, HO, Hy, Ha, Hrows, HG⟩ Hk
  ihave HG := (ghostA_open c) $$ HG
  icases HG with ⟨⟨Hv0, Ht0⟩, HV, HT, Htok⟩
  iapply (amax_step xs ws) $$ [Hy Ha]
  · isplitl [Hy]; · iexact Hy
    iexact Ha
  iintro ⟨Hy, Ha⟩
  ihave Ha := (toks_eq c (gA xs ws)).1 $$ Ha
  icases Ha with ⟨Hstay, Htoks⟩
  iapply (amax_run xs ws K c) $$ [HO Htoks Hrows Htok]
  · isplitr; · iexact HR
    isplitl [HO]; · iexact HO
    iapply (each_sep steps _ _).2
    isplitl [Htoks]; · iexact Htoks
    iapply (each_sep steps _ _).2
    isplitl [Hrows]; · iexact Hrows
    iexact Htok
  iintro ⟨HO, Hc⟩
  iapply (arecv_run xs ws K c) $$ [HO HV]
  · isplitr; · iexact HR
    isplitl [HO]; · iexact HO
    iexact HV
  iintro ⟨HO, HV⟩
  ihave HV := (each_sep steps _ _).1 $$ HV
  icases HV with ⟨HV, Hrows⟩
  iapply (asent_run xs ws K c) $$ [HO Hc HT]
  · isplitr; · iexact HR
    isplitl [HO]; · iexact HO
    iapply (each_sep steps _ _).2
    isplitl [Hc]; · iexact Hc
    iexact HT
  iintro ⟨HO, HT⟩
  ihave HT := (each_sep steps _ _).1 $$ HT
  icases HT with ⟨HT, Htoks⟩
  ihave Ha := (toks_eq c (gA xs ws)).2 $$ [Hstay Htoks]
  · isplitl [Hstay]; · iexact Hstay
    iexact Htoks
  have hrows : iprop(PA c c fullShare (gA xs ws) ∗ each steps fun j => PA c (c + j) fullShare (gA xs ws)) ⊢ buf c cc0_scratch2 fullShare (gA xs ws) := by
    rw [rows_all, by_steps c]
  ihave Hr := hrows $$ [Ha Hrows]
  · isplitl [Ha]; · iexact Ha
    iexact Hrows
  iapply (finish_step xs ws) $$ [Hy Hr]
  · isplitl [Hy]; · iexact Hy
    iexact Hr
  iintro ⟨Hy, Hr⟩
  have hT : iprop(at_ (F := F) c (cT c) 0 ∗ each steps fun j => fin xs ws c (cT (c + j))) ⊢ bigSep Finset.univ fun t => fin xs ws c (cT t) := by
    rw [by_steps c]
    iintro ⟨H, Hs⟩
    isplitl [H]; · iapply (fin_zero xs ws c (cT c) (if_pos rfl)); iexact H
    iexact Hs
  have hV : iprop(at_ (F := F) c (cV c) 0 ∗ each steps fun j => fin xs ws c (cV (c + j))) ⊢ bigSep Finset.univ fun t => fin xs ws c (cV t) := by
    rw [by_steps c]
    iintro ⟨H, Hs⟩
    isplitl [H]; · iapply (fin_zero xs ws c (cV c) (if_pos rfl)); iexact H
    iexact Hs
  iapply Hk
  isplitl [HO]; · iexact HO
  isplitl [Hy]; · iexact Hy
  isplitl [Hr]; · iexact Hr
  isplitl [Ht0 HT]
  · iapply hT
    isplitl [Ht0]; · iexact Ht0
    iexact HT
  iapply hV
  isplitl [Hv0]; · iexact Hv0
  iexact HV

end Cert.K
-- ==== Proof.K.Finish.lean ====
/-
# The whole body

From what a device sets out with to what it holds at the end: the buffers at their computed contents and every cell of
its own closed, its counter at zero.
-/
module

public import proofs.«01_k».proof.Proof.K.Exchange
public import proofs.«01_k».proof.Proof.K.Body

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Fin 16 → (cc0_stg0_0 : Ref sig .tc).ty.Contents (Elt F)) (ws : Fin 16 → (cc0_stg1_0 : Ref sig .tc).ty.Contents (Elt F))
variable (K : Fin 16 × Ck → ℕ)

/-! ## From the hops to the drain -/

/-- The returning half of a piece: at home for the last chunk, else the right to wait for it; and its send cell. -/
def Lent (c k : Fin 16) (p : Fin 2 × Fin 2) : sProp 𝕄 :=
  iprop((if k = 15 then PB c (at_hop c k p) fullShare.left (gB xs) else crd (F := F) c (cS (at_hop c k p))) ∗ at_ (F := F) c (cS (at_hop c k p)) 0)

/-- What the hops leave, sorted. -/
theorem done_sort (c : Fin 16) :
    iprop((each (0 :: steps) fun k => each pieces (Done xs ws c k)) ∗ bigSep Finset.univ fun q : P3 => at_ (F := F) c (cS q) 0)
      ⊢ iprop((bigSep Finset.univ fun q : P3 => PB c q fullShare.right (gB xs)) ∗ (bigSep Finset.univ fun q : P3 => fin xs ws c (cR q))
        ∗ (each (0 :: steps) fun k => each pieces (Lent xs c k)) ∗ each (0 :: steps) fun k => each pieces fun p => ownRows (F := F) p (org p.1 c k) c) := by
  rw [by_hops c, by_hops c, by_hops c]
  have h : iprop((each (0 :: steps) fun k => each pieces (Done xs ws c k)) ∗ each (0 :: steps) fun k => each pieces fun p => at_ (F := F) c (cS (at_hop c k p)) 0)
      ⊢ each (0 :: steps) fun k => iprop((each pieces fun p => PB c (at_hop c k p) fullShare.right (gB xs)) ∗ (each pieces fun p => fin xs ws c (cR (at_hop c k p)))
        ∗ each pieces (Lent xs c k) ∗ each pieces fun p => ownRows (F := F) p (org p.1 c k) c) := by
    refine (each_sep (0 :: steps) _ _).2.trans (each_mono fun k _ => ?_)
    refine (each_sep pieces _ _).2.trans ?_
    have h1 : (each pieces fun p => iprop(Done xs ws c k p ∗ at_ (F := F) c (cS (at_hop c k p)) 0))
        ⊢ each pieces fun p => iprop(PB c (at_hop c k p) fullShare.right (gB xs) ∗ fin xs ws c (cR (at_hop c k p))
          ∗ Lent xs c k p ∗ ownRows (F := F) p (org p.1 c k) c) := each_mono fun p _ => by
      unfold Done Lent
      iintro ⟨⟨H1, H2, H3, H4⟩, H5⟩
      isplitl [H1]; · iexact H1
      isplitl [H3]; · iexact H3
      isplitl [H2 H5]
      · isplitl [H2]; · iexact H2
        iexact H5
      iexact H4
    iintro H
    ihave H := h1 $$ H
    ihave H := (each_sep pieces _ _).1 $$ H
    icases H with ⟨H1, H⟩
    ihave H := (each_sep pieces _ _).1 $$ H
    icases H with ⟨H2, H⟩
    ihave H := (each_sep pieces _ _).1 $$ H
    icases H with ⟨H3, H4⟩
    isplitl [H1]; · iexact H1
    isplitl [H2]; · iexact H2
    isplitl [H3]; · iexact H3
    iexact H4
  iintro H
  ihave H := h $$ H
  ihave H := (each_sep (0 :: steps) _ _).1 $$ H
  icases H with ⟨H1, H⟩
  ihave H := (each_sep (0 :: steps) _ _).1 $$ H
  icases H with ⟨H2, H⟩
  ihave H := (each_sep (0 :: steps) _ _).1 $$ H
  icases H with ⟨H3, H4⟩
  isplitl [H1]; · iexact H1
  isplitl [H2]; · iexact H2
  isplitl [H3]; · iexact H3
  iexact H4

/-- What is lent is waited for, but for the last chunk, which is at home. -/
theorem lent_split (c : Fin 16) : (each (0 :: steps) fun k => each pieces (Lent xs c k))
    ⊢ iprop((each steps fun k => each pieces (Sent (F := F) c (k - 1))) ∗ each pieces (Left xs ws c 15)) := by
  rw [by_drain c]
  iintro ⟨H1, H2⟩
  isplitl [H1]
  · iapply (each_mono (l := steps) fun k hk => each_mono fun p _ => show Lent xs c (k - 1) p ⊢ Sent (F := F) c (k - 1) p from by
      unfold Lent Sent
      rw [if_neg (pred_ne k (by rintro rfl; revert hk; decide))])
    iexact H1
  · iapply (each_mono (l := pieces) fun p _ => show Lent xs c 15 p ⊢ Left xs ws c 15 p from by
      unfold Lent Left
      rw [if_pos rfl]
      iintro ⟨H1, H2⟩
      isplitl [H2]
      · iapply (fin_zero xs ws c (cS (at_hop c 15 p)) (if_pos (org_last p.1 c))); iexact H2
      iexact H1)
    iexact H2

/-- After the drain: all send cells at their end, and every half returned. -/
theorem left_all (c : Fin 16) : iprop((each steps fun k => each pieces (Left xs ws c (k - 1))) ∗ each pieces (Left xs ws c 15))
    ⊢ iprop((bigSep Finset.univ fun q : P3 => fin xs ws c (cS q)) ∗ bigSep Finset.univ fun q : P3 => PB c q fullShare.left (gB xs)) := by
  rw [← bigSep_sep', by_hops c, by_drain c]
  exact BI.Entails.refl _

/-- The own rows that came with the chunks. -/
theorem own_rows (c : Fin 16) : (each (0 :: steps) fun k => each pieces fun p => ownRows (F := F) p (org p.1 c k) c)
    ⊢ iprop(anyA (F := F) c c ∗ each steps fun j => anyA (F := F) (c + j) c) := by
  have h : ∀ k, (each pieces fun p => ownRows (F := F) p (org p.1 c k) c) ⊢ anyA (F := F) (org 0 c k) c := fun k => by
    simp only [each_cons, each_nil]
    unfold ownRows
    rw [if_pos rfl]
    iintro ⟨H, -⟩
    iexact H
  rw [← by_org c (fun o => anyA (F := F) o c)]
  rw [each_cons]
  have h0 := h 0
  rw [org_zero 0 c] at h0
  iintro ⟨H0, Hs⟩
  isplitl [H0]
  · iapply h0; iexact H0
  iapply (each_mono (l := steps) fun k _ => h k)
  iexact Hs

/-! ## The body -/

/-- All a device knows and owes as it sets out. -/
def Ghost0 (c : Fin 16) : sProp 𝕄 :=
  iprop(Outset (F := F) c ∗ (bigSep Finset.univ fun q : P3 => at_ (F := F) c (cS q) 0) ∗ bigSep Finset.univ (GhostA (F := F) c))

/-- All buffers but the staged operands and result, at the end. -/
def Scratch (c : Fin 16) : sProp 𝕄 :=
  iprop(buf c cc0_scratch0 fullShare (gB xs) ∗ buf c cc0_scratch1 fullShare (gW ws c) ∗ buf c cc0_scratch2 fullShare (gA xs ws))

theorem gather_join (c : Fin 16) :
    iprop((bigSep Finset.univ fun q : P3 => PB c q fullShare.left (gB xs)) ∗ bigSep Finset.univ fun q : P3 => PB c q fullShare.right (gB xs))
      ⊢ buf (F := F) c cc0_scratch0 fullShare (gB xs) := by
  rw [pieces_all, ← bigSep_sep']
  exact all_mono fun q => (PB_halves c q (gB xs)).2

/-- All cells of a device. -/
theorem cells_all (Φ : Ck → sProp 𝕄) : bigSep Finset.univ Φ = iprop(((bigSep Finset.univ fun q => Φ (cS q)) ∗ (bigSep Finset.univ fun q => Φ (cR q))
    ∗ (bigSep Finset.univ fun t => Φ (cT t)) ∗ bigSep Finset.univ fun s => Φ (cV s)) ∗ Φ cB) := by
  rw [bigSep_univ_sum, bigSep_univ_sum, bigSep_univ_sum, bigSep_univ_sum]
  congr 1
  exact bigSep_univ_eq_bigSepL [()] (by decide) (by decide) _

theorem body_run (c : Fin 16) (qx qw : PosShare TreeShare) (P : PG F) (Q : PUnit → sProp 𝕄) :
    iprop(records xs ws K ∗ Ghost0 (F := F) c ∗ buf c cc0_stg0_0 qx (xs c) ∗ buf c cc0_stg1_0 qw (ws c)
        ∗ (∃ f, buf (F := F) c cc0_scratch0 fullShare f) ∗ (∃ f, buf (F := F) c cc0_scratch1 fullShare f)
        ∗ (∃ f, buf (F := F) c cc0_scratch2 fullShare f) ∗ (∃ f, buf (F := F) c cc0_stg2_0 fullShare f))
      ⊢ iprop(((owed c [] ∗ buf c cc0_stg0_0 qx (xs c) ∗ buf c cc0_stg1_0 qw (ws c) ∗ buf c cc0_stg2_0 fullShare (gOut xs ws c)
            ∗ Scratch xs ws c ∗ bigSep Finset.univ fun k : Ck => fin xs ws c k) -∗ WP c P Q)
          -∗ WP c (run c (script c) P) Q) := by
  unfold script
  rw [run_append, run_append, run_append]
  unfold Ghost0
  iintro ⟨#HR, ⟨HG, HatS, HGA⟩, Hx, Hw, Hb, Hv, Ham, Ho⟩ Hk
  iapply (start_run xs ws K c qx qw) $$ [HG Hx Hw Hb Hv Ham Ho]
  · isplitr; · iexact HR
    isplitl [HG]; · iexact HG
    isplitl [Hx]; · iexact Hx
    isplitl [Hw]; · iexact Hw
    isplitl [Hb]; · iexact Hb
    isplitl [Hv]; · iexact Hv
    isplitl [Ham]; · iexact Ham
    iexact Ho
  iintro ⟨HB, HfB, Hx, Hw, Hd0, Ht⟩
  iapply (hops_run xs ws K c) $$ [HB Ht]
  · isplitr; · iexact HR
    isplitl [HB]; · iexact HB
    iexact Ht
  iintro ⟨HB, Hd⟩
  ihave Hd := (show iprop(each pieces (Done xs ws c 0) ∗ each steps fun k => each pieces (Done xs ws c k))
      ⊢ each (0 :: steps) fun k => each pieces (Done xs ws c k) from by rw [each_cons 0 steps]) $$ [Hd0 Hd]
  · isplitl [Hd0]; · iexact Hd0
    iexact Hd
  ihave Hs := (done_sort xs ws c) $$ [Hd HatS]
  · isplitl [Hd]; · iexact Hd
    iexact HatS
  icases Hs with ⟨Hright, HfR, Hlent, Hrows⟩
  ihave Hl := (lent_split xs ws c) $$ Hlent
  icases Hl with ⟨Hsent, Hlast⟩
  unfold Between
  rw [show hopsDebts c [] ++ amaxDebts c steps = amaxDebts c steps from rfl]
  icases HB with ⟨HO, Hv, Hy⟩
  iapply (drain_run xs ws K c (l := amaxDebts c steps) (fun d hd => by rw [amaxDebts_level hd]; decide)) $$ [HO Hsent]
  · isplitr; · iexact HR
    isplitl [HO]; · iexact HO
    iexact Hsent
  iintro ⟨HO, Hleft⟩
  ihave Hl := (left_all xs ws c) $$ [Hleft Hlast]
  · isplitl [Hleft]; · iexact Hleft
    iexact Hlast
  icases Hl with ⟨HfS, Hleft⟩
  ihave Hb := (gather_join xs c) $$ [Hleft Hright]
  · isplitl [Hleft]; · iexact Hleft
    iexact Hright
  ihave Hy := (prodY_all xs ws (c := c) (P := fun x => dist x.1 x.2 c ∉ []) (fun x => List.not_mem_nil)) $$ Hy
  ihave Hrows := (own_rows c) $$ Hrows
  icases Hrows with ⟨Hown, Hrows⟩
  iapply (exchange_run xs ws K c) $$ [HO Hy Hown Hrows HGA]
  · isplitr; · iexact HR
    isplitl [HO]; · iexact HO
    isplitl [Hy]; · iexact Hy
    isplitl [Hown]; · iexact Hown
    isplitl [Hrows]; · iexact Hrows
    iexact HGA
  iintro ⟨HO, Hy, Ham, HfT, HfV⟩
  iapply Hk
  isplitl [HO]; · iexact HO
  isplitl [Hx]; · iexact Hx
  isplitl [Hw]; · iexact Hw
  isplitl [Hy]; · iexact Hy
  unfold Scratch
  isplitl [Hb Hv Ham]
  · isplitl [Hb]; · iexact Hb
    isplitl [Hv]; · iexact Hv
    iexact Ham
  rw [cells_all]
  isplitl [HfS HfR HfT HfV]
  · isplitl [HfS]; · iexact HfS
    isplitl [HfR]; · iexact HfR
    isplitl [HfT]; · iexact HfT
    iexact HfV
  iexact HfB

/-- The cells at their end are closed: their counters are zero. -/
theorem close_one (c : Fin 16) (k : Ck) : iprop(records xs ws K ∗ fin xs ws c k) ⊢ |={Set.univ}=> (semVal (cell c k) 0 : sProp 𝕄) := by
  unfold fin
  iintro ⟨#HR, %R, %hR, Ha⟩
  iapply (Rounds.cell_close ER (Rd xs ws) (Set.mem_univ (K (c, k))) (fun h => h) (R := R) hR)
  isplitr; · iapply (inv_at xs ws K c k); iexact HR
  iexact Ha

theorem close_all (c : Fin 16) : iprop(records xs ws K ∗ bigSep Finset.univ fun k : Ck => fin xs ws c k)
    ⊢ |={Set.univ}=> (bigSep Finset.univ fun k : Ck => semVal (cell c k) 0 : sProp 𝕄) :=
  (bigSep_with_persistent (R := records xs ws K) fun k _ => close_one xs ws K c k).trans (bigSep_fupd _ _)

end Cert.K
-- ==== Proof.K.Credit.lean ====
/-
# The launch credit

What all devices owe at launch, counted by who owes it, is what all devices' own cells are owed: each device starts with
the right to wait for four units on its barrier cell, for a piece on every receive cell but its own chunk's, and for
eight rows on the receive cells of the other devices' maxima.
-/
module

public import proofs.«01_k».proof.Proof.K.Finish

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝕋" => CellTallies nD τ sig Unit

/-! ## Lists of debts as sums -/

theorem owe_sum (l : List Debt) : owe l = (l.map due).sum := by
  induction l with
  | nil => rfl
  | cons d l ih => rw [owe_cons, ih, List.map_cons, List.sum_cons, add_comm]

theorem sum_univ_list {I : Type} [Fintype I] [DecidableEq I] {l : List I} (hl : l.Nodup) (hc : l.length = Fintype.card I) (f : I → 𝕋) :
    ∑ i, f i = (l.map f).sum := by
  rw [← List.sum_toFinset f hl, show l.toFinset = Finset.univ from
    Finset.eq_univ_of_card _ ((List.toFinset_card_of_nodup hl).trans hc)]

theorem sum_flatMap {α β : Type} (l : List α) (g : α → List β) (f : β → 𝕋) : ((l.flatMap g).map f).sum = (l.map fun a => ((g a).map f).sum).sum := by
  induction l with
  | nil => rfl
  | cons a l ih => rw [List.flatMap_cons, List.map_append, List.sum_append, ih, List.map_cons, List.sum_cons]

/-- The next device along ring `r`, as a bijection. -/
def around (r : Fin 2) : Fin 16 ≃ Fin 16 := ⟨nxt r, prv r, prv_nxt r, nxt_prv r⟩

/-! ## What is owed to a device -/

/-- For piece `q`: its credit, but for the own chunk. -/
def dueB (c : Fin 16) (q : P3) : 𝕋 := if q.2.1 = c then 0 else due (c, cR q)
/-- For device `s`'s maximum. -/
def dueA (c s : Fin 16) : 𝕋 := if s = c then 0 else due (c, cV s)
/-- All of it. -/
def dueAll (c : Fin 16) : 𝕋 := tallyAt (cell c cB) () 4 + ((∑ q, dueB c q) + ∑ s, dueA c s)

theorem bar_sum : ∑ d, owe (barDebts d) = ∑ c, (tallyAt (cell c cB) () 4 : 𝕋) := by
  have e : ∀ g : Fin 16 ≃ Fin 16, ∑ d, due (g d, cB) = ∑ c, due (c, cB) := fun g => Equiv.sum_comp g fun c => due (c, cB)
  have h : ∀ d, owe (barDebts d) = due (prv 0 d, cB) + (due (nxt 0 d, cB) + (due (prv 1 d, cB) + due (nxt 1 d, cB))) := fun d => by
    rw [owe_sum]
    simp only [barDebts, List.map_cons, List.map_nil, List.sum_cons, List.sum_nil, add_zero]
  simp only [h, Finset.sum_add_distrib]
  rw [show (∑ d, due (prv 0 d, cB)) = ∑ c, due (c, cB) from e (around 0).symm, show (∑ d, due (nxt 0 d, cB)) = ∑ c, due (c, cB) from e (around 0),
    show (∑ d, due (prv 1 d, cB)) = ∑ c, due (c, cB) from e (around 1).symm, show (∑ d, due (nxt 1 d, cB)) = ∑ c, due (c, cB) from e (around 1)]
  simp only [← Finset.sum_add_distrib]
  refine Finset.sum_congr rfl fun c _ => ?_
  unfold due
  simp only [tallyAt_add]
  rfl

theorem hop_sum : ∑ d, owe (hopDebts d 0 pieces ++ hopsDebts d steps) = ∑ c, ∑ q, dueB c q := by
  have h : ∀ d, owe (hopDebts d 0 pieces ++ hopsDebts d steps) = ∑ q : P3, dueB (nxt q.1 d) q := fun d => by
    rw [owe_sum, show hopDebts d 0 pieces ++ hopsDebts d steps = (0 :: steps).flatMap fun k => hopDebts d k pieces from rfl, sum_flatMap,
      sum_univ_list (hops_nodup d) rfl, sum_flatMap]
    refine congrArg List.sum (List.map_congr_left fun k _ => ?_)
    rw [List.map_map]
    unfold hopDebts
    by_cases hk : k = 15
    · subst hk
      rw [if_pos rfl, List.map_nil, List.sum_nil]
      symm
      refine List.sum_eq_zero fun x hx => ?_
      obtain ⟨p, -, rfl⟩ := List.mem_map.mp hx
      exact if_pos (org_last p.1 d)
    · rw [if_neg hk, List.map_map]
      refine congrArg List.sum (List.map_congr_left fun p _ => ?_)
      exact (if_neg (org_ne_nxt p.1 d k hk)).symm
  rw [Finset.sum_congr rfl fun d _ => h d, Finset.sum_comm,
    Finset.sum_congr rfl fun (q : P3) _ => show ∑ d, dueB (nxt q.1 d) q = ∑ c, dueB c q from Equiv.sum_comp (around q.1) fun c => dueB c q, Finset.sum_comm]

theorem amax_sum : ∑ d, owe (amaxDebts d steps) = ∑ c, ∑ s, dueA c s := by
  have h : ∀ d, owe (amaxDebts d steps) = ∑ t, dueA t d := fun d => by
    rw [owe_sum, sum_univ_list (steps_nodup d) rfl, List.map_map, List.map_cons, List.sum_cons]
    rw [show ((fun t => dueA t d) ∘ (d + ·)) 0 = 0 from if_pos (by revert d; decide), zero_add]
    unfold amaxDebts
    rw [List.map_map]
    refine congrArg List.sum (List.map_congr_left fun j hj => ?_)
    exact (if_neg (ne_add d j (by rintro rfl; revert hj; decide))).symm
  rw [Finset.sum_congr rfl fun d _ => h d, Finset.sum_comm]

/-- Owed by all is owed to all. -/
theorem debts_sum : ∑ d, owe (debts d) = ∑ c, dueAll c := by
  have e : ∀ d, owe (debts d) = owe (barDebts d) + (owe (hopDebts d 0 pieces ++ hopsDebts d steps) + owe (amaxDebts d steps)) := fun d => by
    unfold debts
    rw [owe_append, ← List.append_assoc, owe_append]
  unfold dueAll
  rw [Finset.sum_congr rfl fun d _ => e d]
  simp only [Finset.sum_add_distrib]
  rw [bar_sum, hop_sum, amax_sum]

theorem due_core {c : Fin 16} {k : Ck} {g : GSem nD τ sig} (h : due (c, k) g ≠ 0) : g.1 = ((c : Dev nD) : Thread nD τ) := by
  obtain ⟨u, hu⟩ := DFunLike.ne_iff.mp h
  rw [(Pipeline.tallyAt_pos (Nat.pos_of_ne_zero hu)).1]

theorem dueAll_core (c : Fin 16) (g : GSem nD τ sig) (h : dueAll c g ≠ 0) : g.1 = ((c : Dev nD) : Thread nD τ) := by
  by_contra hne
  refine h ?_
  have h0 : ∀ k, due (c, k) g = 0 := fun k => by
    by_contra h
    exact hne (due_core h)
  have hB : ∀ q, dueB c q g = 0 := fun q => by
    unfold dueB; split
    · rfl
    · exact h0 _
  have hA : ∀ q, dueA c q g = 0 := fun q => by
    unfold dueA; split
    · rfl
    · exact h0 _
  have h4 : (tallyAt (cell c cB) () 4 : 𝕋) g = 0 := by
    by_contra h
    obtain ⟨u, hu⟩ := DFunLike.ne_iff.mp h
    exact hne (by rw [(Pipeline.tallyAt_pos (Nat.pos_of_ne_zero hu)).1])
  unfold dueAll
  rw [Pi.add_apply, Pi.add_apply, Finset.sum_apply, Finset.sum_apply, Finset.sum_eq_zero fun q _ => hB q, Finset.sum_eq_zero fun q _ => hA q, h4,
    zero_add, zero_add]

/-- The rights to wait device `c` starts with. -/
def creds (c : Fin 16) : sProp 𝕄 :=
  iprop(cred (tallyAt (cell c cB) () 4) ∗ (bigSep Finset.univ fun q : P3 => if q.2.1 = c then iprop(emp) else crd (F := F) c (cR q))
    ∗ bigSep Finset.univ fun s : Fin 16 => if s = c then iprop(emp) else crd (F := F) c (cV s))

theorem creds_intro (c : Fin 16) : (Pipeline.launchCred (fun d : Dev nD => owe (debts d)) c : sProp 𝕄) ⊢ creds (F := F) c := by
  rw [Pipeline.launchCred_of_sum _ dueAll debts_sum dueAll_core c]
  unfold dueAll creds
  have hB : ∀ q, (cred (dueB c q) : sProp 𝕄) = if q.2.1 = c then iprop(emp) else crd (F := F) c (cR q) := fun q => by
    unfold dueB; split
    · exact cred_zero
    · rfl
  have hA : ∀ s, (cred (dueA c s) : sProp 𝕄) = if s = c then iprop(emp) else crd (F := F) c (cV s) := fun q => by
    unfold dueA; split
    · exact cred_zero
    · rfl
  simp only [← hB, ← hA]
  iintro H
  ihave H := (cred_add _ _).1 $$ H
  icases H with ⟨H1, H⟩
  ihave H := (cred_add _ _).1 $$ H
  icases H with ⟨H2, H3⟩
  isplitl [H1]; · iexact H1
  isplitl [H2]
  · iapply (Entails.of_eq (Pipeline.cred_finsetSum Finset.univ (dueB c))); iexact H2
  · iapply (Entails.of_eq (Pipeline.cred_finsetSum Finset.univ (dueA c))); iexact H3

end Cert.K
-- ==== Proof.K.Deal.lean ====
/-
# The ghost state, dealt

Every cell's round, positions and duty tokens are made at launch; the tokens go to the devices that pay the duties, the
cells' invariants are allocated and known to all.
-/
module

public import proofs.«01_k».proof.Proof.K.Credit

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Fin 16 → (cc0_stg0_0 : Ref sig .tc).ty.Contents (Elt F)) (ws : Fin 16 → (cc0_stg1_0 : Ref sig .tc).ty.Contents (Elt F))
variable (K : Fin 16 × Ck → ℕ)

/-! ## Tokens -/

/-- The tokens of a device's own cells. -/
def ownToks (c : Fin 16) : sProp 𝕄 := bigSep Finset.univ fun k : Ck => bigSep Finset.univ fun d : Fin 4 => tok (F := F) c k d

/-- The tokens of the duties a device pays. -/
def payToks (c : Fin 16) : sProp 𝕄 :=
  iprop(barToks (F := F) c ∗ (bigSep Finset.univ fun q : P3 => tok (F := F) c (cS q) 0) ∗ (bigSep Finset.univ fun q : P3 => tok (F := F) (nxt q.1 c) (cR q) 0)
    ∗ (bigSep Finset.univ fun t : Fin 16 => tok (F := F) c (cT t) 0) ∗ bigSep Finset.univ fun t : Fin 16 => tok (F := F) t (cV c) 0)

theorem duties_open (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem toks_around : (bigSep Finset.univ fun c : Fin 16 => ownToks (F := F) c) ⊢ bigSep Finset.univ fun c : Fin 16 => payToks (F := F) c := by
  have first : ∀ {I : Type} [Fintype I] (Φ : I → Fin 4 → sProp 𝕄), (bigSep Finset.univ fun i => bigSep Finset.univ (Φ i)) ⊢ bigSep Finset.univ fun i => Φ i 0 :=
    fun Φ => all_mono fun i => by
      rw [duties_open]
      iintro ⟨H, -⟩
      iexact H
  have h1 : ∀ c : Fin 16, ownToks (F := F) c ⊢ iprop((tok (F := F) c cB 0 ∗ tok (F := F) c cB 1 ∗ tok (F := F) c cB 2 ∗ tok (F := F) c cB 3)
      ∗ (bigSep Finset.univ fun q : P3 => tok (F := F) c (cS q) 0) ∗ (bigSep Finset.univ fun q : P3 => tok (F := F) c (cR q) 0)
      ∗ (bigSep Finset.univ fun t : Fin 16 => tok (F := F) c (cT t) 0) ∗ bigSep Finset.univ fun s : Fin 16 => tok (F := F) c (cV s) 0) := fun c => by
    unfold ownToks
    rw [cells_all, duties_open]
    iintro ⟨⟨H1, H2, H3, H4⟩, H5⟩
    isplitl [H5]; · iexact H5
    isplitl [H1]; · iapply (first fun (q : P3) d => tok (F := F) c (cS q) d); iexact H1
    isplitl [H2]; · iapply (first fun (q : P3) d => tok (F := F) c (cR q) d); iexact H2
    isplitl [H3]; · iapply (first fun (t : Fin 16) d => tok (F := F) c (cT t) d); iexact H3
    iapply (first fun (t : Fin 16) d => tok (F := F) c (cV t) d); iexact H4
  refine (all_mono h1).trans ?_
  unfold payToks barToks
  simp only [bigSep_sep']
  rw [bigSep_univ_equiv (around 0).symm (fun c => (tok (F := F) c cB 0 : sProp 𝕄)), bigSep_univ_equiv (around 0) (fun c => (tok (F := F) c cB 1 : sProp 𝕄)),
    bigSep_univ_equiv (around 1).symm (fun c => (tok (F := F) c cB 2 : sProp 𝕄)), bigSep_univ_equiv (around 1) (fun c => (tok (F := F) c cB 3 : sProp 𝕄))]
  have hR : (bigSep Finset.univ fun c : Fin 16 => bigSep Finset.univ fun q : P3 => tok (F := F) c (cR q) 0)
      ⊢ bigSep Finset.univ fun c : Fin 16 => bigSep Finset.univ fun q : P3 => tok (F := F) (nxt q.1 c) (cR q) 0 := by
    rw [bigSep_univ_comm, bigSep_univ_comm (fun (c : Fin 16) (q : P3) => tok (F := F) (nxt q.1 c) (cR q) 0)]
    exact all_mono fun q => Entails.of_eq (bigSep_univ_equiv (around q.1) fun c => (tok (F := F) c (cR q) 0 : sProp 𝕄))
  have hV : (bigSep Finset.univ fun c : Fin 16 => bigSep Finset.univ fun s : Fin 16 => tok (F := F) c (cV s) 0)
      ⊢ bigSep Finset.univ fun c : Fin 16 => bigSep Finset.univ fun t : Fin 16 => tok (F := F) t (cV c) 0 :=
    Entails.of_eq (bigSep_univ_comm _)
  iintro ⟨H1, H2, H3, H4, H5⟩
  isplitl [H1]; · iexact H1
  isplitl [H2]; · iexact H2
  isplitl [H3]; · iapply hR; iexact H3
  isplitl [H4]; · iexact H4
  iapply hV; iexact H5

/-! ## The launch element -/

def allCells : Finset (GSem nD τ sig) := Finset.univ.map ⟨fun ck : Fin 16 × Ck => cell ck.1 ck.2, cell_injective⟩

theorem tok_injective : Function.Injective fun x : (Fin 16 × Ck) × Fin 4 => ((cell x.1.1 x.1.2, 0, x.2) : GSem nD τ sig × ℕ × Fin 4) := fun x y h =>
  Prod.ext (cell_injective (congrArg Prod.fst h)) (congrArg (fun z : GSem nD τ sig × ℕ × Fin 4 => z.2.2) h)
def allToks : Finset (GSem nD τ sig × ℕ × Fin 4) := Finset.univ.map ⟨_, tok_injective⟩

/-- What the launch element deals device `c`. -/
def Dealt (c : Fin 16) : sProp 𝕄 :=
  iprop((bigSep Finset.univ fun k : Ck => roundState ER (Rd xs ws) (cell c k) 0)
    ∗ ((bigSep Finset.univ fun k : Ck => at_ (F := F) c k 0) ∗ bigSep Finset.univ fun k : Ck => reached ER (cell c k) 0) ∗ ownToks (F := F) c)

theorem deal : BI.own (ER (initOf allCells allToks)) ⊢ (|==> bigSep Finset.univ (Dealt (F := F) xs ws) : sProp 𝕄) := by
  have hX (Φ : GSem nD τ sig → sProp 𝕄) : bigSep allCells Φ = bigSep Finset.univ fun c : Fin 16 => bigSep Finset.univ fun k : Ck => Φ (cell c k) := by
    unfold allCells; rw [bigSep_map, bigSep_univ_prod]; rfl
  have hT : bigSep allToks (fun x => (dutyTok ER x.1 x.2.1 x.2.2 : sProp 𝕄)) = bigSep Finset.univ fun c : Fin 16 => ownToks (F := F) c := by
    unfold allToks; rw [bigSep_map, bigSep_univ_prod, bigSep_univ_prod]; rfl
  iintro HX
  imod (Rounds.fund ER (Rd xs ws) allCells allToks) $$ HX with ⟨Hst, Hr, Hat, Htok⟩
  imodintro
  ihave Hst := (Entails.of_eq (hX fun g => roundState ER (Rd xs ws) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold Dealt; simp only [bigSep_sep']
  isplitl [Hst]; · iexact Hst
  isplitl [Hat Hr]
  · isplitl [Hat]; · iexact Hat
    iexact Hr
  iexact Htok

/-! ## The semaphores -/

theorem ownSemFacts : Pipeline.OwnSemFacts cfg0.spec osem where
  isScoped := by
    rintro (p | p | t | s)
    · revert p; decide +kernel
    · revert p; decide +kernel
    · revert t; decide +kernel
    · revert s; decide +kernel
  inj := fun a b h => Sum.inl.inj (csem_injective (a₁ := .inl a) (a₂ := .inl b) h)
  disj := fun k w s h => by
    have := dec_csem (.inl k)
    rw [show csem (.inl k) = _ from h] at this
    revert this
    fin_cases w <;> fin_cases s <;> exact fun h => by cases h

omit [FloatOps F] in
theorem unscopedSems0_eq (c : Fin 16) : (unscopedSems0 (c : Dev nD) : sProp 𝕄) = semVal (cell c cB) 0 := by
  unfold unscopedSems0; rw [bigSep_eq_bigSepL_of_eq [SemLoc.reg barS] (by decide +kernel) (by decide)]; rfl

/-- The scoped semaphores and the barrier are all cells. -/
theorem sems_eq (c : Fin 16) :
    iprop(Pipeline.ownSems0 (Ix := Unit) (Name := ℕ) (U := UU) (Lvl := ℕ) (Val := Elt F) (τ := τ) osem (c : Dev nD) ∗ unscopedSems0 (c : Dev nD))
      = (bigSep Finset.univ fun k : Ck => semVal (cell c k) 0 : sProp 𝕄) := by
  have e : (bigSep Finset.univ fun u : Unit => semVal (cell c (.inr u)) 0 : sProp 𝕄) = semVal (cell c cB) 0 :=
    bigSep_univ_eq_bigSepL [()] (by decide) (by decide) _
  rw [unscopedSems0_eq, bigSep_univ_sum, e]
  rfl

/-! ## The invariants -/

/-- What all devices know of the cells, the levels aside. -/
def known : sProp 𝕄 :=
  iprop((bigSep Finset.univ fun ck : Fin 16 × Ck => cellInv ER (Rd xs ws) (K ck) (cell ck.1 ck.2))
    ∗ bigSep Finset.univ fun ck : Fin 16 × Ck => reached ER (cell ck.1 ck.2) 0)

instance known_persistent : BI.Persistent (known xs ws K) := by unfold known; infer_instance

/-- What a device starts with of the ghost state. -/
def Share (c : Fin 16) : sProp 𝕄 :=
  iprop(∃ K, known xs ws K ∗ (bigSep Finset.univ fun k : Ck => at_ (F := F) c k 0) ∗ payToks (F := F) c)

theorem core_alloc (c : Fin 16) :
    iprop(Pipeline.ownSems0 (Ix := Unit) (Name := ℕ) (U := UU) (Lvl := ℕ) (Val := Elt F) (τ := τ) osem (c : Dev nD) ∗ unscopedSems0 (c : Dev nD) ∗ Dealt xs ws c)
      ⊢ |={Set.univ}=> iprop((bigSep Finset.univ fun k : Ck => iprop(∃ κ : ℕ, cellInv ER (Rd xs ws) κ (cell c k)))
          ∗ ((bigSep Finset.univ fun k : Ck => at_ (F := F) c k 0) ∗ bigSep Finset.univ fun k : Ck => reached ER (cell c k) 0) ∗ ownToks (F := F) c) := by
  unfold Dealt
  iintro ⟨Hos, Hus, Hst, Hat, Htok⟩
  ihave Hv := (Entails.of_eq (sems_eq (F := F) c)) $$ [Hos Hus]
  · isplitl [Hos]; · iexact Hos
    iexact Hus
  imod (show iprop((bigSep Finset.univ fun k : Ck => semVal (cell c k) 0) ∗ bigSep Finset.univ fun k : Ck => roundState ER (Rd xs ws) (cell c k) 0)
      ⊢ (|={Set.univ}=> bigSep Finset.univ fun k : Ck => iprop(∃ κ : ℕ, cellInv ER (Rd xs ws) κ (cell c k)) : sProp 𝕄) from by
        rw [← bigSep_sep']
        exact (bigSep_mono fun k _ => (Rounds.body_intro ER (Rd xs ws) (cell c k)).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

theorem share_intro (c : Fin 16) : iprop(known xs ws K ∗ (bigSep Finset.univ fun k : Ck => at_ (F := F) c k 0) ∗ payToks (F := F) c) ⊢ Share xs ws c := by
  unfold Share
  iintro H
  iexists K
  iexact H

theorem regroup :
    (bigSep Finset.univ fun c : Fin 16 => iprop((bigSep Finset.univ fun k : Ck => iprop(∃ κ : ℕ, cellInv ER (Rd xs ws) κ (cell c k)))
          ∗ ((bigSep Finset.univ fun k : Ck => at_ (F := F) c k 0) ∗ bigSep Finset.univ fun k : Ck => reached ER (cell c k) 0) ∗ ownToks (F := F) c) : sProp 𝕄)
      ⊢ bigSep Finset.univ (Share (F := F) xs ws) := by
  rw [bigSep_sep', bigSep_sep', bigSep_sep', ← bigSep_univ_prod (fun ck : Fin 16 × Ck => iprop(∃ κ : ℕ, cellInv ER (Rd xs ws) κ (cell ck.1 ck.2))),
    ← bigSep_univ_prod (fun ck : Fin 16 × Ck => (reached ER (cell ck.1 ck.2) 0 : sProp 𝕄))]
  have hshare : ∀ K, iprop(known xs ws K ∗ bigSep Finset.univ fun c : Fin 16 => iprop((bigSep Finset.univ fun k : Ck => at_ (F := F) c k 0) ∗ payToks (F := F) c))
      ⊢ bigSep Finset.univ (Share (F := F) xs ws) := fun K =>
    bigSep_with_persistent (R := known xs ws K) fun c _ => share_intro xs ws K c
  iintro ⟨HI, ⟨Hat, #HR⟩, Htok⟩
  ihave HK := (BI.bigSep_exists_pi Finset.univ (fun (ck : Fin 16 × Ck) (κ : ℕ) => (cellInv ER (Rd xs ws) κ (cell ck.1 ck.2) : sProp 𝕄))) $$ HI
  icases HK with ⟨%K, #HI⟩
  ihave Htk := (toks_around (F := F)) $$ Htok
  iapply (hshare K)
  isplitr
  · unfold known
    isplitl; · iexact HI
    iexact HR
  · rw [bigSep_sep']
    isplitl [Hat]; · iexact Hat
    iexact Htk

/-- All devices' semaphores and ghost state at once. -/
theorem glob : (bigSep Finset.univ fun c : Dev nD => iprop(Pipeline.ownSems0 (Ix := Unit) (Name := ℕ) (U := UU) (Lvl := ℕ) (Val := Elt F) (τ := τ) osem c
      ∗ unscopedSems0 c ∗ Dealt (F := F) xs ws c) : sProp 𝕄)
    ⊢ |={Set.univ}=> bigSep Finset.univ (Share (F := F) xs ws) :=
  ((bigSep_mono fun c _ => core_alloc xs ws c).trans (bigSep_fupd _ _)).trans (BI.fupd_mono (regroup xs ws))

end Cert.K
-- ==== Proof.K.Launch.lean ====
/-
# The launch

The body's run under the staging of operands and result, then the whole program on sixteen devices: every fair
execution ends with the arguments unchanged, the result array at the computed contents and every semaphore at zero.
-/
module

public import proofs.«01_k».proof.Proof.K.Body
public import proofs.«01_k».proof.Proof.K.Deal
public import proofs.«01_k».proof.Proof.Gen.KernelIdeal.Launch
public import proofs.«01_k».proof.Proof.Gen.KernelIdeal.Points
public import Idealize.ShloMosaic.Lib.Pipeline.Launch
public import Idealize.ShloMosaic.Lib.Pipeline.CollectiveSegs

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents and ghost state -/

/-- The memory as the program starts. -/
def s₀ : MemSt nD τ sig (Elt F) := ⟨m, fun _ => 0, ρ⟩

/-- The staged block of `x` on device `c`, -/
def xsM (c : Fin 16) : (cc0_stg0_0 : Ref sig .tc).ty.Contents (Elt F) :=
  (win0_0.blk (0 : Fin 1)).view.read (Elt F) (m (((c : Dev nD) : Thread nD τ).loc main_arg0))
/-- and of the weights. -/
def wsM (c : Fin 16) : (cc0_stg1_0 : Ref sig .tc).ty.Contents (Elt F) :=
  (win0_1.blk (0 : Fin 1)).view.read (Elt F) (m (((c : Dev nD) : Thread nD τ).loc main_arg1))

/-- What the launch gives a device is what the body sets out with. -/
theorem ghost0_intro (c : Fin 16) :
    iprop(owed (F := F) c (debts c) ∗ (bigSep Finset.univ fun k : Ck => at_ (F := F) c k 0) ∗ payToks (F := F) c ∗ creds (F := F) c) ⊢ Ghost0 (F := F) c := by
  have hG : (bigSep Finset.univ (Ghost (F := F) c) : sProp 𝕄)
      = iprop((bigSep Finset.univ fun q : P3 => if q.2.1 = c then iprop(emp) else crd (F := F) c (cR q)) ∗ (bigSep Finset.univ fun q : P3 => at_ (F := F) c (cR q) 0)
        ∗ (bigSep Finset.univ fun q : P3 => tok (F := F) c (cS q) 0) ∗ bigSep Finset.univ fun q : P3 => tok (F := F) (nxt q.1 c) (cR q) 0) := by
    rw [← bigSep_sep', ← bigSep_sep', ← bigSep_sep']; rfl
  have hA : (bigSep Finset.univ (GhostA (F := F) c) : sProp 𝕄)
      = iprop((bigSep Finset.univ fun t : Fin 16 => if t = c then iprop(emp) else crd (F := F) c (cV t)) ∗ (bigSep Finset.univ fun t : Fin 16 => at_ (F := F) c (cV t) 0)
        ∗ (bigSep Finset.univ fun t : Fin 16 => at_ (F := F) c (cT t) 0) ∗ (bigSep Finset.univ fun t : Fin 16 => tok (F := F) c (cT t) 0)
        ∗ bigSep Finset.univ fun t : Fin 16 => tok (F := F) t (cV c) 0) := by
    rw [← bigSep_sep', ← bigSep_sep', ← bigSep_sep', ← bigSep_sep']; rfl
  rw [cells_all]
  unfold Ghost0 Outset payToks creds
  rw [hG, hA]
  iintro ⟨HO, ⟨⟨HS, HR, HT, HV⟩, HB⟩, ⟨Hbar, HtS, HtR, HtT, HtV⟩, HcB, HcR, HcV⟩
  isplitl [HO Hbar HcB HB HcR HR HtS HtR]
  · isplitl [HO]; · iexact HO
    isplitl [Hbar]; · iexact Hbar
    isplitl [HcB]; · iexact HcB
    isplitl [HB]; · iexact HB
    isplitl [HcR]; · iexact HcR
    isplitl [HR]; · iexact HR
    isplitl [HtS]; · iexact HtS
    iexact HtR
  isplitl [HS]; · iexact HS
  isplitl [HcV]; · iexact HcV
  isplitl [HV]; · iexact HV
  isplitl [HT]; · iexact HT
  isplitl [HtT]; · iexact HtT
  iexact HtV

/-- What device `c`'s body starts from, its debts and buffers aside. -/
def setOut (c : Dev nD) : sProp 𝕄 :=
  iprop(∃ K, records (xsM m) (wsM m) K ∗ (bigSep Finset.univ fun k : Ck => at_ (F := F) c k 0) ∗ payToks (F := F) c ∗ creds (F := F) c)

/-- Before the body: that, and the scratch buffers at some contents. -/
def Φ₀ (c : Dev nD) : sProp 𝕄 :=
  iprop(setOut m c ∗ (∃ f, buf (F := F) c cc0_scratch0 fullShare f) ∗ (∃ f, buf (F := F) c cc0_scratch1 fullShare f)
    ∗ ∃ f, buf (F := F) c cc0_scratch2 fullShare f)
/-- After it: the scratch buffers at the computed contents and every semaphore at zero. -/
def Φ₁ (c : Dev nD) : sProp 𝕄 := iprop(Scratch (xsM m) (wsM m) c ∗ bigSep Finset.univ fun k : Ck => semVal (cell c k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xsM m c
    | ⟨1, _⟩ => wsM m c
    | ⟨2, _⟩ => gOut (xsM m) (wsM m) c
  Φ t := match t with
    | ⟨0, _⟩ => Φ₀ m c
    | ⟨_ + 1, _⟩ => Φ₁ m c
  q _ := fullShare
  owed t := match t with
    | ⟨0, _⟩ => owe (debts c)
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- A whole buffer's memref owns the buffer. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body -/

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ m c ∗ (dats m ρ 0 c).owesAt () t0_0.succ ∗ stg c cc0_stg0_0 (xsM m c) ∗ stg c cc0_stg1_0 (wsM m c)
    ∗ stg c cc0_stg2_0 (gOut (xsM m) (wsM m) c))

theorem sound_body (c : Dev nD) :
    bodyPre m ρ c ⊢ wp frame (wpE (defs₀ (F := F)) 𝒱₀ (c : Thread nD τ) none) Set.univ
      (cc0_body (F := F) xM (Memref.isWhole_whole _) wM (Memref.isWhole_whole _) oM (Memref.isWhole_whole _) bM (Memref.isWhole_whole _)
        vM (Memref.isWhole_whole _) aM (Memref.isWhole_whole _) cc0_scratch3 cc0_scratch4 cc0_scratch5 cc0_scratch6 cc0_scratch7 cc0_scratch8)
      (fun _ => bodyPost m ρ c) := by
  rw [body_eq, wp_deviceId]
  unfold bodyPre Φ₀ setOut Dat.owesAt Pipeline.owesWithin
  rw [show (dats m ρ 0 c).owed t0_0.castSucc = owe (debts c) from rfl]
  iintro ⟨⟨⟨%K, #HR, Hat, Htok, Hcr⟩, Hb, Hv, Ha⟩, ⟨%W, %hW, HO⟩, ⟨%d0, %g0, %hg0, Hx⟩, ⟨%d1, %g1, %hg1, Hw⟩, ⟨%d2, %g2, %hg2, Ho⟩⟩
  have hx : g0 = xsM m c := by rw [hg0]; unfold Dat.before; rw [if_pos (fetch0_0 t0_0)]; rfl
  have hw : g1 = wsM m c := by rw [hg1]; unfold Dat.before; rw [if_pos (fetch0_1 t0_0)]; rfl
  subst hx hw
  ihave HG := (ghost0_intro (F := F) c) $$ [HO Hat Htok Hcr]
  · isplitl [HO]
    · unfold owed; iexists W; iexact HO
    isplitl [Hat]; · iexact Hat
    isplitl [Htok]; · iexact Htok
    iexact Hcr
  iapply (body_run (xsM m) (wsM m) K c fullShare fullShare) $$ [HG Hb Hv Ha Hx Hw Ho]
  · isplitr; · iexact HR
    isplitl [HG]; · iexact HG
    isplitl [Hx]; · iexact Hx
    isplitl [Hw]; · iexact Hw
    isplitl [Hb]; · iexact Hb
    isplitl [Hv]; · iexact Hv
    isplitl [Ha]; · iexact Ha
    iexists g2; iexact Ho
  iintro ⟨HO, Hx, Hw, Ho, Hscr, Hfin⟩
  unfold WP; rw [wp_ret]
  imod (close_all (xsM m) (wsM m) K c) $$ [Hfin] with Hz
  · isplitr; · iexact HR
    iexact Hfin
  imodintro
  unfold bodyPost Φ₁ Dat.owesAt Pipeline.owesWithin owed
  icases HO with ⟨%W', HO⟩
  isplitl [Hscr Hz]
  · isplitl [Hscr]; · iexact Hscr
    iexact Hz
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

omit [FloatOps F] in
theorem windows (Φ : Fin cfg0.W → sProp 𝕄) : bigSep Finset.univ Φ = iprop(Φ (0 : Fin 3) ∗ Φ (1 : Fin 3) ∗ Φ (2 : Fin 3)) := bigSep_W0 Φ

set_option maxRecDepth 40000 in
/-- The body at the grid's one point. -/
theorem body_obligation (c : Dev nD) : BodyObligation (dats (F := F) m ρ 0 c) (defs₀ (F := F)) 𝒱₀ () Set.univ := fun t => by
  rw [fin_N0 t]
  rw [windows, windows]
  simp only [owns_buffer]
  exact sound_body m ρ c

/-! ## The side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d : Dev nD => owe (debts d)) c ∗ prngReg c (ρ c) ∗ Share (xsM m) (wsM m) c)
      ⊢ |={Set.univ}=> iprop(setOut m c ∗ emp) := by
  unfold Share known
  iintro ⟨-, Hlev, Hcr, -, ⟨%K, ⟨HI, Hre⟩, Hat, Htok⟩⟩
  ihave Hc := (creds_intro (F := F) c) $$ Hcr
  imodintro
  unfold setOut records
  isplitl
  · iexists K
    isplitl [HI Hre Hlev]
    · isplitl [HI]; · iexact HI
      isplitl [Hre]; · iexact Hre
      iexact Hlev
    isplitl [Hat]; · iexact Hat
    isplitl [Htok]; · iexact Htok
    iexact Hc
  · iempintro

theorem phi0_intro (c : Dev nD) :
    iprop(setOut m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq]
  unfold Φ₁ Scratch
  rw [← sems_eq]
  iintro ⟨⟨Hb, Hv, Ha⟩, Hos, Hus⟩
  isplitl [Hus]; · iexact Hus
  isplitl [Hos]; · iexact Hos
  isplitl [Hb]; · iexists _; iexact Hb
  isplitl [Hv]; · iexists _; iexact Hv
  iexists _; iexact Ha

theorem debts_pos (c : Fin 16) : ∀ d ∈ debts c, 0 < level d.1 d.2 := fun d hd => by
  unfold debts at hd
  rcases List.mem_append.mp hd with h | h
  · unfold barDebts at h
    simp only [List.mem_cons, List.not_mem_nil, or_false] at h
    rcases h with rfl | rfl | rfl | rfl <;> exact Nat.one_pos
  rcases List.mem_append.mp h with h | h
  · rw [hopDebts_level h]; omega
  rcases List.mem_append.mp h with h | h
  · obtain ⟨k, -, h⟩ := List.mem_flatMap.mp h
    rw [hopDebts_level h]; omega
  · rw [amaxDebts_level h]; decide

/-- The staging semaphores lie below all that is owed. -/
theorem waits (c : Dev nD) : (levAts L lv : sProp 𝕄) ⊢ Pipeline.cellsWaits cfgs (dats m ρ) () 0 c :=
  Pipeline.cellsWaits_intro cfgs (dats m ρ) () 0 c fun w s t => by
    have hn : lv ((c : Thread nD τ), .dma (((cfgs 0).win w).sem s)) () ≤ 0 := by
      fin_cases w <;> fin_cases s <;> exact le_of_eq rfl
    rcases t with ⟨_ | _, ht⟩
    · exact mayWait_sem c _ (debts c) 0 hn (debts_pos c)
    · exact mayWait_sem c _ [] 0 hn (fun d hd => absurd hd List.not_mem_nil)

/-! ## The run -/

/-- The launch's ghost element: the staging cells' and the body's. -/
def u₀ : UU := (initOf (Pipeline.cells cfgs cellOf_inj) (Pipeline.launchToks cfgs cellOf_inj), initOf allCells allToks)

def finalA (c : Dev nD) (w : Fin cfg0.W) : Buf (Elt F) ((cfg0.win w).arr.view.loc (c : Thread nD τ)) := (dats m ρ 0 c).arrAt w cfg0.N

/-- The windows' arrays at the end. -/
def Ends : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- On sixteen devices, for any float values, from any memory with zero counters: every weakly fair execution of the
    program terminates, each device's arrays then at their final contents and every semaphore counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d : Dev nD => owe (debts d)) (howed₀ := fun _ => rfl) (howedN := fun _ => rfl)
    (L := L) (lv := lv) (hL := L_of_ne) (hwaits := waits m ρ)
    (G := Dealt (xsM m) (wsM m)) (G' := Share (xsM m) (wsM m)) (u₀ := u₀)
    (hu₀ := by
      unfold u₀
      iintro Hu
      ihave H := (ownU_pair _ _) $$ Hu
      icases H with ⟨HP, HX⟩
      imod (deal (xsM m) (wsM m)) $$ HX with HG
      imodintro
      isplitl [HP] <;> iassumption)
    (hglob := glob (xsM m) (wsM m))
    (hA := fun _ _ => rfl) (hpf := fun _ k => k.elim0)
    (X := setOut m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they started. -/
theorem finalA_in (c : Dev nD) : finalA m ρ c (0 : Fin 3) = m (win0_0.arr.view.loc (c : Thread nD τ))
    ∧ finalA m ρ c (1 : Fin 3) = m (win0_1.arr.view.loc (c : Thread nD τ)) :=
  ⟨(dats (F := F) m ρ 0 c).arrAt_in (0 : Fin 3) rfl _, (dats (F := F) m ρ 0 c).arrAt_in (1 : Fin 3) rfl _⟩

end Cert.K
-- ==== Proof.K.Frames.lean ====
/-
# The frames

The kernel and its idealization have one text: the run at any float values gives both frames. The reference is a
straight line of host operations without a semaphore.
-/
module

public import proofs.«01_k».proof.Defs
public import proofs.«01_k».proof.Proof.Gen.Kernel
public import proofs.«01_k».proof.Proof.Gen.ReferenceIdeal.Run
public import proofs.«01_k».proof.Proof.K.Launch

@[expose] public section

noncomputable section

namespace Cert.K

open Idealize.ShloMosaic Idealize.ShloMosaic.TcCoe Idealize.SL.Sem

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

variable {F : FTy → Type} [FloatOps F]

/-- At any float values the run leaves the arguments unchanged and every semaphore at zero. -/
theorem frame_run (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (finalA_in m ρ c).1, (h.1 c (1 : Fin 3)).trans (finalA_in m ρ c).2⟩, h.2⟩) (run_main m ρ)

/-- The idealized kernel's frame. -/
theorem frame_ideal : Cert.quiescent_KernelIdeal := fun m ρ _ => frame_run m ρ

/-! ## One text -/

/-- The two bodies are the same program, -/
theorem body_same : (Cert.Kernel.cc0_body (F := F)) = Cert.KernelIdeal.cc0_body := rfl
/-- so are the tables of the called programs, -/
theorem called_same : (Cert.Kernel.defs₀ (F := F)) = Cert.KernelIdeal.defs₀ :=
  congrArg (Defs.onTc (nD := Cert.KernelIdeal.nD) (τ := Cert.KernelIdeal.τ) (sig := Cert.KernelIdeal.sig) (Val := Elt F) (Λ := Cert.KernelIdeal.Λ₀))
    (funext fun l => funext fun a => by
      match l, a with
      | 0, _ => rfl
      | ⟨n + 1, h⟩, _ => exact absurd h (Nat.not_lt.2 (Nat.le_add_left _ _)))
/-- with the calls' pipelines. -/
theorem table_same : (Cert.Kernel.defs (F := F)) = Cert.KernelIdeal.defs := congrArg (Pipeline.defs (Cert.KernelIdeal.pcfgs (F := F))) called_same

/-- The kernel's frame. -/
theorem frame_kernel : Cert.quiescent_Kernel := fun m ρ _ => by
  have h := frame_run (F := Bits) m ρ
  rw [← table_same] at h
  exact h

end Cert.K

end
-- ==== Proof.K.Product.lean ====
/-
# The product, at the extended reals

What the gather buffer, the weights' buffer and the product hold, as sums: element `(i, j)` of the product on device `c`
is row `i` of the whole of `x` against column `j` of the device's block of `w`.
-/
module

public import proofs.«01_k».proof.Proof.K.Contents
public import proofs.«01_k».proof.Proof.Gen.ReferenceIdeal
public import Idealize.ShloMosaic.Lib.Layout
public import Idealize.ShloMosaic.Lib.Pointwise
public import Idealize.ShloMosaic.Lib.Pipeline.Value
public import Idealize.ShloMosaic.PureOps.Ideal.Laws

@[expose] public section

noncomputable section

namespace Cert.K

open Cert.KernelIdeal Cert.KernelIdeal.Gen
open Idealize.ShloMosaic hiding ix2
open Idealize.ShloMosaic.TcCoe Idealize.ShloMosaic.ValueKit Idealize.ShloMosaic.ValueIdx

variable (xs : Fin 16 → S256x4096.Idx → EReal) (ws : Fin 16 → S4096x128.Idx → EReal)

/-- The gather buffer's contents, as extended reals. -/
def eB : S4096x4096.Idx → EReal := gB (F := Ideal) xs
/-- The product on device `c`, as extended reals. -/
def eY (c : Fin 16) : S4096x128.Idx → EReal := gY (F := Ideal) xs ws c

/-- The gather buffer at row `i`, column `k`: row `i % 256` of device `i / 256`'s block of `x`. -/
theorem eB_apply (i : Fin 4096) (k : Fin 4096) :
    eB xs (ix2 i k) = xs ⟨i.val / 256, by omega⟩ (ix2 ⟨i.val % 256, by omega⟩ k) := by
  unfold eB gB k0_pay2
  simp only [shapeCast_self]
  rfl

/-- The weights' buffer is the device's block of `w`. -/
theorem gW_eq (c : Fin 16) : gW (F := Ideal) ws c = ws c := by
  unfold gW k0_pay3
  simp only [shapeCast_self]

/-- A product of 256 rows, element by element. -/
theorem pay4_apply (a : Vec Ideal S256x4096 .bf16) (b : Vec Ideal S4096x128 .bf16) (j : S256x128.Idx) :
    k0_pay4 a b j = ∑ k : Fin 4096, a (ix2 (j 0) k) * b (ix2 k (j 1)) := by
  unfold k0_pay4
  simp only [pointwise, Ideal.ofBits_zero_f32, zero_add]
  rfl

/-- A product of 128 rows, element by element. -/
theorem pay5_apply (a : Vec Ideal S128x4096 .bf16) (b : Vec Ideal S4096x128 .bf16) (j : S128x128.Idx) :
    k0_pay5 a b j = ∑ k : Fin 4096, a (ix2 (j 0) k) * b (ix2 k (j 1)) := by
  unfold k0_pay5
  simp only [pointwise, Ideal.ofBits_zero_f32, zero_add]
  rfl

/-- A device's own chunk of the gather buffer, element by element. -/
theorem read_own (c : Fin 16) (j : Fin 256) (k : Fin 4096) :
    (bM.access (ownR c)).read (Elt Ideal) (gB (F := Ideal) xs) (ix2 j k) = eB xs (ix2 ⟨256 * c.val + j.val, by omega⟩ k) := by
  let J : (ownR c).shape.Idx := ix2 j k
  have h0 : (((ownR c).emb J) 0).val = 256 * c.val + (J 0).val := rect_emb_unit_val _ _ _ J 0
  have h1 : (((ownR c).emb J) 1).val = 0 + (J 1).val := rect_emb_unit_val _ _ _ J 1
  refine congrArg (gB (F := Ideal) xs) (funext (Fin.forall_fin_two.mpr ⟨Fin.ext ?_, Fin.ext ?_⟩))
  · exact h0
  · exact h1.trans (Nat.zero_add _)

/-- A half chunk of the gather buffer, element by element. -/
theorem read_half (o : Fin 16) (r : Fin 2) (j : Fin 128) (k : Fin 4096) :
    (bM.access (halfR o r)).read (Elt Ideal) (gB (F := Ideal) xs) (ix2 j k) = eB xs (ix2 ⟨256 * o.val + 128 * r.val + j.val, by omega⟩ k) := by
  let J : (halfR o r).shape.Idx := ix2 j k
  have h0 : (((halfR o r).emb J) 0).val = 256 * o.val + 128 * r.val + 64 * 0 + (J 0).val := rect_emb_unit_val _ _ _ J 0
  have h1 : (((halfR o r).emb J) 1).val = 0 + (J 1).val := rect_emb_unit_val _ _ _ J 1
  refine congrArg (gB (F := Ideal) xs) (funext (Fin.forall_fin_two.mpr ⟨Fin.ext ?_, Fin.ext ?_⟩))
  · exact h0
  · exact h1.trans (Nat.zero_add _)

/-- The product on device `c`: whichever way a row was computed, it is row `i` of the gather buffer against the
    device's block of `w`. -/
theorem eY_apply (c : Fin 16) (i : Fin 4096) (j : Fin 128) :
    eY xs ws c (ix2 i j) = ∑ k : Fin 4096, xs ⟨i.val / 256, by omega⟩ (ix2 ⟨i.val % 256, by omega⟩ k) * ws c (ix2 k j) := by
  have hrow : eY xs ws c (ix2 i j) = ∑ k : Fin 4096, eB xs (ix2 i k) * ws c (ix2 k j) := by
    unfold eY gY
    rw [gW_eq]
    split
    · rename_i h
      rw [pay4_apply]
      refine Finset.sum_congr rfl fun k _ => congrArg (· * _) ((read_own xs c _ k).trans (congrArg (fun a => eB xs (ix2 a k)) (Fin.ext ?_)))
      show 256 * c.val + i.val % 256 = i.val
      have h' : i.val / 256 = c.val := h
      omega
    · rw [pay5_apply]
      refine Finset.sum_congr rfl fun k _ => congrArg (· * _) ((read_half xs _ _ _ k).trans (congrArg (fun a => eB xs (ix2 a k)) (Fin.ext ?_)))
      show 256 * (i.val / 256) + 128 * (i.val / 128 % 2) + i.val % 128 = i.val
      omega
  exact hrow.trans (Finset.sum_congr rfl fun k _ => congrArg (· * _) (eB_apply xs i k))

/-! ## Against the reference -/

variable (X : (⟨2, ![4096, 4096]⟩ : Shape).Idx → EReal) (W : (⟨2, ![4096, 2048]⟩ : Shape).Idx → EReal)

/-- The whole product, element by element. -/
def prod (i : Fin 4096) (j : Fin 2048) : EReal := ∑ k : Fin 4096, X (ix2 i k) * W (ix2 k j)

/-- The reference's product is it. -/
theorem reference_prod (j : (⟨2, ![4096, 2048]⟩ : Shape).Idx) :
    Host.dotGeneral (F := Ideal) (φ₁ := .f32) (φ₂ := .f32) Cert.ReferenceIdeal.dot_S4096x4096_S4096x2048_S4096x2048_1_0_0_1_n_n none X W j = prod X W (j 0) (j 1) := by
  unfold prod
  simp only [pointwise, zero_add]
  rfl

/-- On devices holding the blocks of `x` by rows and of `w` by columns, the product on device `c` is the whole
    product's columns `128 c … 128 c + 127`. -/
theorem eY_block (hx : ∀ c, xs c = Layout.block ⟨2, ![256, 4096]⟩ ⟨2, ![4096, 4096]⟩ 0 16 c X)
    (hw : ∀ c, ws c = Layout.block ⟨2, ![4096, 128]⟩ ⟨2, ![4096, 2048]⟩ 1 16 c W) (c : Fin 16) (i : Fin 4096) (j : Fin 128) :
    eY xs ws c (ix2 i j) = prod X W i ⟨128 * c.val + j.val, by omega⟩ := by
  rw [eY_apply]
  unfold prod
  refine Finset.sum_congr rfl fun k _ => ?_
  rw [hx, hw]
  refine congrArg₂ (· * ·) (congrArg X (funext (Fin.forall_fin_two.mpr ⟨Fin.ext ?_, Fin.ext ?_⟩)))
    (congrArg W (funext (Fin.forall_fin_two.mpr ⟨Fin.ext ?_, Fin.ext ?_⟩)))
  · show i.val / 256 * 256 + i.val % 256 = i.val
    omega
  · rfl
  · rfl
  · show c.val * 128 + j.val = 128 * c.val + j.val
    omega

end Cert.K
-- ==== Proof.K.Maximum.lean ====
/-
# The maxima, at the extended reals

The kernel takes the largest magnitude in two stages, each device's own and then the largest of the sixteen; the
reference takes it at once. Each is told by what lies above it.
-/
module

public import proofs.«01_k».proof.Proof.K.Product

@[expose] public section

noncomputable section

namespace Cert.K

open Cert.KernelIdeal Cert.KernelIdeal.Gen
open Idealize.ShloMosaic hiding ix1 ix2 eq_ix2
open Idealize.ShloMosaic.TcCoe Idealize.ShloMosaic.ValueKit Idealize.ShloMosaic.ValueIdx

/-- The value every maximum starts from. -/
def least : EReal := Ideal.ofBits .f32 0xFF800000#32

/-- A maximum over a whole array lies below `b` where the start and every element do. -/
theorem reduction_le {s t : Shape} [Subsingleton t.Idx] {axes : List (Fin s.rank)} (v : FVec Ideal s .f32) (h : s.Reduces axes t)
    (hφ : FKind.Formats .f32) (hacc : (0xFF800000#32 : BitVec (FTy.bits .f32)) = FKind.maximumf.neutral .f32 hφ) (j : t.Idx) (b : EReal) :
    (multiReduction .maximumf axes t v 0xFF800000#32 h hφ hacc j : EReal) ≤ b ↔ least ≤ b ∧ ∀ i, (v i : EReal) ≤ b := by
  rw [multiReduction_maximumf_eq_fold]
  refine (Finset.fold_max_le (β := EReal) (b := least) (f := v) b).trans (and_congr_right fun _ => ⟨fun hv i => hv i ?_, fun hv i _ => hv i⟩)
  exact Finset.mem_filter.mpr ⟨Finset.mem_univ _, Subsingleton.elim _ _⟩

/-- The same of a reference's maximum. -/
theorem reduce_le {s t u : Shape} [Subsingleton t.Idx] {axes : List (Fin s.rank)} (v : s.Idx → EReal) (h : s.ReducesTo axes t)
    (hu : 0 < u.numel) (j : t.Idx) (b : EReal) :
    (Host.reduce (FloatOps.maximumf (F := Ideal) (φ := .f32)) v (constant (F := Ideal) u .f32 0xFF800000#32) h hu j : EReal) ≤ b
      ↔ least ≤ b ∧ ∀ i, v i ≤ b := by
  rw [Host.reduce_eq_fold]
  refine (Finset.fold_max_le (β := EReal) (b := least) (f := v) b).trans (and_congr_right fun _ => ⟨fun hv i => hv i ?_, fun hv i _ => hv i⟩)
  exact Finset.mem_filter.mpr ⟨Finset.mem_univ _, Subsingleton.elim _ _⟩

/-- Reshaping an array changes none of its elements. -/
theorem shapeCast_le {s t : Shape} (v : s.Idx → EReal) (h : s.ShapeCasts t) (b : EReal) :
    (∀ i, shapeCast t v h i ≤ b) ↔ ∀ i, v i ≤ b :=
  (Shape.reshapeEquiv h).forall_congr_right (q := fun i => v i ≤ b)

instance : Subsingleton S1.Idx := ⟨fun a b => funext fun k => by
  match k with
  | ⟨0, _⟩ => exact Subsingleton.elim (α := Fin 1) _ _⟩

/-- The one element of a one-element vector, taken out and spread. -/
theorem spread_apply {α : Type} (v : S1.Idx → α) (j : S8x128.Idx) :
    shapeCast S8x128 (broadcast S8x128 (extractAt ![0, 0, 0] (shapeCast S1x1x1 v shapeCasts_S1_S1x1x1) inpos_S1x1x1_p0_0_0)) shapeCasts_S8x128_S8x128 j
      = v (ix1 (0 : Fin 1)) := by
  rw [shapeCast_self]
  exact congrArg v (Subsingleton.elim _ _)

theorem taken_apply {α : Type} (v : S1.Idx → α) :
    extractAt ![0, 0, 0] (shapeCast S1x1x1 v shapeCasts_S1_S1x1x1) inpos_S1x1x1_p0_0_0 = v (ix1 (0 : Fin 1)) :=
  congrArg v (Subsingleton.elim _ _)

/-- The largest element of a `4096 × 128` array. -/
def localMax (v : S4096x128.Idx → EReal) : EReal :=
  multiReduction (F := Ideal) (φ := .f32) .maximumf [1, 2] S1 (shapeCast S1x4096x128 v shapeCasts_S4096x128_S1x4096x128) 0xFF800000#32
    reduces_S1x4096x128_S1 (.inl rfl) rfl (ix1 (0 : Fin 1))

/-- It lies below `b` where every element does. -/
theorem localMax_le (v : S4096x128.Idx → EReal) (b : EReal) : localMax v ≤ b ↔ least ≤ b ∧ ∀ i, v i ≤ b := by
  rw [← shapeCast_le v shapeCasts_S4096x128_S1x4096x128 b]
  exact reduction_le (t := S1) _ _ _ _ _ b

/-- What a device keeps of its magnitudes is it, at every place it is kept. -/
theorem pay36_eq (v : S4096x128.Idx → EReal) (j : S8x128.Idx) : k0_pay36 (F := Ideal) v j = localMax v :=
  spread_apply _ j

/-- The magnitudes. -/
theorem pay35_apply (v : S4096x128.Idx → EReal) (i : S4096x128.Idx) : (k0_pay35 (F := Ideal) v i : EReal) = max (v i) (-(v i)) := by
  unfold k0_pay35
  rw [shapeCast_self]
  rfl

/-- The largest of the maxima in the exchange buffer. -/
def overall (a : S128x128.Idx → EReal) : EReal :=
  multiReduction (F := Ideal) (φ := .f32) .maximumf [1, 2] S1 (shapeCast S1x128x128 a shapeCasts_S128x128_S1x128x128) 0xFF800000#32
    reduces_S1x128x128_S1 (.inl rfl) rfl (ix1 (0 : Fin 1))

/-- It lies below `b` where each of them does. -/
theorem overall_le (a : S128x128.Idx → EReal) (b : EReal) : overall a ≤ b ↔ least ≤ b ∧ ∀ i, a i ≤ b := by
  rw [← shapeCast_le a shapeCasts_S128x128_S1x128x128 b]
  exact reduction_le (t := S1) _ _ _ _ _ b

/-- The scale is it over 127. -/
theorem pay37_eq (a : S128x128.Idx → EReal) : k0_pay37 (F := Ideal) a = Ideal.div (overall a) (Ideal.ofBits .f32 0x42FE0000#32) :=
  congrArg (Ideal.div · _) (taken_apply _)

variable (xs : Fin 16 → S256x4096.Idx → EReal) (ws : Fin 16 → S4096x128.Idx → EReal)

/-- The exchange buffer's contents, as extended reals. -/
def eA : S128x128.Idx → EReal := gA (F := Ideal) xs ws

/-- Every local maximum lies below `b` where every device's every magnitude does. -/
theorem eA_le (b : EReal) : (∀ i, eA xs ws i ≤ b) ↔ least ≤ b ∧ ∀ o i, max (eY xs ws o i) (-(eY xs ws o i)) ≤ b := by
  have hl (i : S128x128.Idx) (o : Fin 16) (ho : (i 0).val / 8 = o.val) :
      eA xs ws i ≤ b ↔ least ≤ b ∧ ∀ k, max (eY xs ws o k) (-(eY xs ws o k)) ≤ b := by
    have e : (⟨(i 0).val / 8, by omega⟩ : Fin 16) = o := Fin.ext ho
    have h : eA xs ws i = k0_pay36 (F := Ideal) (k0_pay35 (F := Ideal) (eY xs ws ⟨(i 0).val / 8, by omega⟩)) (ix2 ⟨(i 0).val % 8, by omega⟩ (i 1)) := rfl
    rw [h, e, pay36_eq, localMax_le]
    exact and_congr_right fun _ => forall_congr' fun k => by rw [pay35_apply]
  constructor
  · intro h
    have hi (o : Fin 16) := (hl (ix2 (⟨8 * o.val, by omega⟩ : Fin 128) (0 : Fin 128)) o (by
      show 8 * o.val / 8 = o.val
      omega)).mp (h _)
    exact ⟨(hi 0).1, fun o i => (hi o).2 i⟩
  · exact fun h i => (hl i ⟨(i 0).val / 8, by have : (i 0).val < 128 := (i 0).isLt; omega⟩ rfl).mpr ⟨h.1, h.2 _⟩

variable (X : (⟨2, ![4096, 4096]⟩ : Shape).Idx → EReal) (W : (⟨2, ![4096, 2048]⟩ : Shape).Idx → EReal)

/-- On devices holding the blocks of `x` and `w`, the largest of the local maxima is any value that lies below `b`
    just where every magnitude of the whole product does. -/
theorem overall_eq (hx : ∀ c, xs c = Layout.block ⟨2, ![256, 4096]⟩ ⟨2, ![4096, 4096]⟩ 0 16 c X)
    (hw : ∀ c, ws c = Layout.block ⟨2, ![4096, 128]⟩ ⟨2, ![4096, 2048]⟩ 1 16 c W) (g : EReal)
    (hg : ∀ b, g ≤ b ↔ least ≤ b ∧ ∀ (i : Fin 4096) (j : Fin 2048), max (prod X W i j) (-(prod X W i j)) ≤ b) :
    overall (eA xs ws) = g := by
  have h (b : EReal) : overall (eA xs ws) ≤ b ↔ g ≤ b := by
    rw [overall_le, eA_le, hg]
    refine ⟨fun h => ⟨h.1, fun i j => ?_⟩, fun h => ⟨h.1, h.1, fun o i => ?_⟩⟩
    · have hb := h.2.2 ⟨j.val / 128, by omega⟩ (ix2 i (⟨j.val % 128, by omega⟩ : Fin 128))
      rw [eY_block xs ws X W hx hw] at hb
      have e : (⟨128 * (j.val / 128) + j.val % 128, by omega⟩ : Fin 2048) = j := Fin.ext (by dsimp only; omega)
      rw [e] at hb
      exact hb
    · obtain ⟨p, q, rfl⟩ : ∃ (p : Fin 4096) (q : Fin 128), i = ix2 p q := ⟨i 0, i 1, ValueIdx.eq_ix2 i⟩
      rw [eY_block xs ws X W hx hw]
      exact h.2 _ _
  exact le_antisymm ((h g).mpr le_rfl) ((h _).mp le_rfl)

end Cert.K
-- ==== Proof.K.Algebraic.lean ====
/-
# The kernel computes the reference

At the extended reals: the kernel's result on device `c` is columns `128 c … 128 c + 127` of the reference's.
-/
module

public import proofs.«01_k».proof.Defs
public import proofs.«01_k».proof.Proof.Gen.ReferenceIdeal.Run
public import proofs.«01_k».proof.Proof.K.Launch
public import proofs.«01_k».proof.Proof.K.Maximum

@[expose] public section

noncomputable section

namespace Cert.K

open Cert.KernelIdeal Cert.KernelIdeal.Gen
open Idealize.SL.Sem
open Idealize.ShloMosaic hiding ix0 ix1 ix2 eq_ix2
open Idealize.ShloMosaic.TcCoe Idealize.ShloMosaic.ValueKit Idealize.ShloMosaic.ValueIdx

/-! ## The arrays before and after -/

section Arrays

variable {F : FTy → Type} [FloatOps F] (m : (ℓ : Loc nD τ sig) → Buf (Elt F) ℓ) (ρ : Dev nD → PrngReg)

/-- The staged block of `x` is the whole of the device's argument. -/
theorem xsM_eq (c : Fin 16) : xsM m c = m (((c : Dev nD) : Thread nD τ).loc main_arg0) := by
  unfold xsM
  refine funext fun i => congrArg (m (((c : Dev nD) : Thread nD τ).loc main_arg0)) (funext (Fin.forall_fin_two.mpr ⟨Fin.ext ?_, Fin.ext ?_⟩))
  · show 0 * 256 + 1 * (i 0).val = (i 0).val
    omega
  · show 0 * 4096 + 1 * (i 1).val = (i 1).val
    omega

/-- The staged weights are the whole of the device's argument. -/
theorem wsM_eq (c : Fin 16) : wsM m c = m (((c : Dev nD) : Thread nD τ).loc main_arg1) := by
  unfold wsM
  refine funext fun i => congrArg (m (((c : Dev nD) : Thread nD τ).loc main_arg1)) (funext (Fin.forall_fin_two.mpr ⟨Fin.ext ?_, Fin.ext ?_⟩))
  · show 0 * 4096 + 1 * (i 0).val = (i 0).val
    omega
  · show 0 * 128 + 1 * (i 1).val = (i 1).val
    omega

/-- The result's block is the whole result. -/
theorem emb_out (i : S4096x128.Idx) : (win0_2.blk (0 : Fin 1)).view.emb i = i := by
  refine funext (Fin.forall_fin_two.mpr ⟨Fin.ext ?_, Fin.ext ?_⟩)
  · show 0 * 4096 + 1 * (i 0).val = (i 0).val
    omega
  · show 0 * 128 + 1 * (i 1).val = (i 1).val
    omega

/-- The result ends as the body left it. -/
theorem finalA_out (c : Dev nD) : finalA m ρ c (2 : Fin 3) = gOut (xsM m) (wsM m) c := by
  unfold finalA
  refine Pipeline.Dat.arrAt_eq_of_cover (dats m ρ 0 c) (2 : Fin 3) (gOut (xsM m) (wsM m) c) (fun t ht => ?_) fun i => ⟨(0 : Fin 1), flush0_2 _, ?_⟩
  · obtain rfl : t = (0 : Fin 1) := Subsingleton.elim (α := Fin 1) _ _
    exact funext fun i => congrArg (gOut (xsM m) (wsM m) c) (emb_out i).symm
  · exact (emb_out i) ▸ (win0_2.blk (0 : Fin 1)).view.emb_mem_set i

end Arrays

/-! ## The result, element by element -/

/-- An element `y` of the product at the scale `g`: over the scale, rounded, held between −127 and 127, and scaled back. -/
def quantized (y g : EReal) : EReal :=
  min (Ideal.ofBits .f32 0x42FE0000#32) (max (Ideal.ofBits .f32 0xC2FE0000#32) (Ideal.liftRound Ideal.roundHalfEven (Ideal.div y g))) * g

variable (xs : Fin 16 → S256x4096.Idx → EReal) (ws : Fin 16 → S4096x128.Idx → EReal)

/-- The kernel's result. -/
theorem gOut_apply (c : Fin 16) (i : S4096x128.Idx) :
    gOut (F := Ideal) xs ws c i = quantized (eY xs ws c i) (Ideal.div (overall (eA xs ws)) (Ideal.ofBits .f32 0x42FE0000#32)) := by
  rw [← pay37_eq]
  unfold gOut k0_pay1 k0_pay38
  rw [shapeCast_self]
  rfl

variable (X : (⟨2, ![4096, 4096]⟩ : Shape).Idx → EReal) (W : (⟨2, ![4096, 2048]⟩ : Shape).Idx → EReal)

/-- The reference's largest magnitude. -/
def largest : EReal :=
  Host.reduce (FloatOps.maximumf (F := Ideal) (φ := .f32)) (fun j : (⟨2, ![4096, 2048]⟩ : Shape).Idx => max (prod X W (j 0) (j 1)) (-(prod X W (j 0) (j 1))))
    (constant (F := Ideal) Cert.ReferenceIdeal.S_ .f32 0xFF800000#32) Cert.ReferenceIdeal.Gen.reducesTo_S4096x2048_S_d0_1 Cert.ReferenceIdeal.Gen.h_S_ (fun a => a.elim0)

instance : Subsingleton Cert.ReferenceIdeal.S_.Idx := ⟨fun a b => funext fun k => k.elim0⟩

theorem largest_le (b : EReal) :
    largest X W ≤ b ↔ least ≤ b ∧ ∀ (i : Fin 4096) (j : Fin 2048), max (prod X W i j) (-(prod X W i j)) ≤ b := by
  unfold largest
  refine (reduce_le (t := Cert.ReferenceIdeal.S_) _ _ _ _ b).trans (and_congr_right fun _ => ⟨fun h i j => h (ix2 i j), fun h j => h _ _⟩)

/-- The reference's result, of the whole arguments. -/
def expected : (⟨2, ![4096, 2048]⟩ : Shape).Idx → EReal := fun j =>
  quantized (prod X W (j 0) (j 1)) (Ideal.div (largest X W) (Ideal.ofBits .f32 0x42FE0000#32))

/-- On devices holding the blocks of `x` and `w`, the kernel's result is the device's block of the reference's. -/
theorem gOut_block (hx : ∀ c, xs c = Layout.block ⟨2, ![256, 4096]⟩ ⟨2, ![4096, 4096]⟩ 0 16 c X)
    (hw : ∀ c, ws c = Layout.block ⟨2, ![4096, 128]⟩ ⟨2, ![4096, 2048]⟩ 1 16 c W) (c : Fin 16) :
    gOut (F := Ideal) xs ws c = Layout.block ⟨2, ![4096, 128]⟩ ⟨2, ![4096, 2048]⟩ 1 16 c (expected X W) := by
  funext i
  obtain ⟨p, q, rfl⟩ : ∃ (p : Fin 4096) (q : Fin 128), i = ix2 p q := ⟨i 0, i 1, ValueIdx.eq_ix2 i⟩
  rw [gOut_apply, overall_eq xs ws X W hx hw (largest X W) (largest_le X W), eY_block xs ws X W hx hw]
  refine congrArg (expected X W) (a₁ := ix2 p ⟨128 * c.val + q.val, by omega⟩) (funext (Fin.forall_fin_two.mpr ⟨Fin.ext ?_, Fin.ext ?_⟩))
  · rfl
  · show 128 * c.val + q.val = c.val * 128 + q.val
    omega

/-- The reference's operations after the product, of a product `Y`. -/
def composed (Y : Cert.ReferenceIdeal.S4096x2048.Idx → EReal) : Cert.ReferenceIdeal.S4096x2048.Idx → EReal :=
  let G : FVec Ideal Cert.ReferenceIdeal.S_ .f32 := Host.divf
    (Host.reduce FloatOps.maximumf (Host.absf (F := Ideal) (φ := .f32) Y) (constant (F := Ideal) Cert.ReferenceIdeal.S_ .f32 0xFF800000#32)
      Cert.ReferenceIdeal.Gen.reducesTo_S4096x2048_S_d0_1 Cert.ReferenceIdeal.Gen.h_S_)
    (constant Cert.ReferenceIdeal.S_ .f32 0x42FE0000#32)
  let spread (v : FVec Ideal Cert.ReferenceIdeal.S_ .f32) : FVec Ideal Cert.ReferenceIdeal.S4096x2048 .f32 :=
    broadcastInDim Cert.ReferenceIdeal.S4096x2048 ![] Cert.ReferenceIdeal.Gen.bcast_S_S4096x2048 v
  mulf (F := Ideal) (φ := .f32)
    (minimumf (spread (id (constant Cert.ReferenceIdeal.S_ .f32 0x42FE0000#32)))
      (maximumf (spread (id (constant Cert.ReferenceIdeal.S_ .f32 0xC2FE0000#32))) (Host.roundeven (Host.divf (F := Ideal) (φ := .f32) Y (spread G)))))
    (spread G)

/-- With the product before them they give the expected result. -/
theorem composed_eq : composed (Host.dotGeneral (F := Ideal) (φ₁ := .f32) (φ₂ := .f32)
    Cert.ReferenceIdeal.dot_S4096x4096_S4096x2048_S4096x2048_1_0_0_1_n_n none X W) = expected X W := by
  rw [show Host.dotGeneral (F := Ideal) (φ₁ := .f32) (φ₂ := .f32) Cert.ReferenceIdeal.dot_S4096x4096_S4096x2048_S4096x2048_1_0_0_1_n_n none X W
    = fun j => prod X W (j 0) (j 1) from funext (reference_prod X W)]
  have hG (k : Cert.ReferenceIdeal.S_.Idx) :
      (Host.reduce (FloatOps.maximumf (F := Ideal) (φ := .f32)) (Host.absf (F := Ideal) (φ := .f32) fun j : Cert.ReferenceIdeal.S4096x2048.Idx => prod X W (j 0) (j 1))
        (constant (F := Ideal) Cert.ReferenceIdeal.S_ .f32 0xFF800000#32)
        Cert.ReferenceIdeal.Gen.reducesTo_S4096x2048_S_d0_1 Cert.ReferenceIdeal.Gen.h_S_ k : EReal) = largest X W := by
    rw [Subsingleton.elim k (fun a => a.elim0)]
    rfl
  funext j
  unfold expected
  rw [← hG (fun a => a.elim0)]
  exact congrArg (quantized (prod X W (j 0) (j 1))) (congrArg (Ideal.div · (Ideal.ofBits .f32 0x42FE0000#32)) (congrArg _ (Subsingleton.elim _ _)))

/-! ## The claim -/

/-- The idealized kernel on sixteen devices computes the idealized reference. -/
theorem algebraic : Cert.algebraic_KernelIdeal_ReferenceIdeal := fun m g m' g' _ h =>
  ⟨expected (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun r hr c => ⟨((hr.1 c (2 : Fin 3)).trans (finalA_out m g c)).trans
          (gOut_block _ _ _ _ (fun d => (xsM_eq m d).trans (h d).1) (fun d => (wsM_eq m d).trans (h d).2) c),
        (hr.1 c (0 : Fin 3)).trans (finalA_in m g c).1, (hr.1 c (1 : Fin 3)).trans (finalA_in m g c).2⟩) (run_main m g),
    (θ_run Cert.ReferenceIdeal.defs _ _).mono (fun r hr => ⟨(hr 0).1.trans (composed_eq _ _), (hr 0).2⟩)
      (Cert.ReferenceIdeal.Value.run (F := Ideal) m' g')⟩

end Cert.K
-- ==== Proof.lean ====
/-
# The certificate

The frames of the kernel, of its idealization and of the reference, the idealization's faithfulness, and that the
idealized kernel computes the idealized reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.K.Frames
public import proofs.«01_k».proof.Proof.K.Algebraic

@[expose] public section

noncomputable section

namespace Cert.Proof

theorem claim : Cert.Claim := ⟨Cert.Kernel.Gen.facts, Cert.KernelIdeal.Gen.facts, Cert.ReferenceIdeal.Gen.facts,
  Cert.K.frame_kernel, Cert.K.frame_ideal, Cert.K.frame_reference, trivial, Cert.K.algebraic⟩

end Cert.Proof

end
